-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_routed [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_routed [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_routed m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  IdealRules.named_const.Statement Cert.KernelIdeal.κ "qscale" .f32 0x3E38AA3B#32 (((Real.log 2)⁻¹ * 8⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "slot" .f32 0x3BCCCCCD#32 ((160⁻¹ : ℝ) : EReal)

def algebraic_Kernel2Ideal_Reference2Ideal_pre_routed [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_routed m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v267) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_routed (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_routed (hKernel2Ideal := hKernel2Ideal) (hReference2Ideal := hReference2Ideal) (hPre_routed := hPre_routed)
-- ==== Pre_finite.lean ====
abbrev S4x4096x512 : Shape := ⟨3, ![4, 4096, 512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel

variable [Facts]

def fn {F : FTy → Type} [FloatOps F] (main_arg0 : FVec F S4x4096x512 .f32) (main_arg1 : FVec F S4x4096x512 .f32) (main_arg2 : FVec F S4x4096x512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x512 .f32 := Host.absf main_arg1
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S4x4096x512 .f32 := Host.absf main_arg2
  let main_cst_2 : FVec F S_ .f32 := constant S_ .f32 0x7F800000#32
  let main_v10 : FVec F S4x4096x512 .f32 := broadcastInDim S4x4096x512 ![] bcast_S_S4x4096x512 main_cst_2
  let main_v11 : IVec S4x4096x512 1 := cmpf .olt main_v9 main_v10
  let main_c_3 : IVec S_ 1 := constantI S_ 1 1#1
  let main_v12 : IVec S_ 1 := (fun x v => Host.reduce IntOp.andi x v reducesTo_S4x4096x512_S_d0_1_2 h_S_) main_v11 main_c_3
  let main_v13 : IVec S_ 1 := andi main_v8 main_v12
  main_v13
-- ==== Pre_routed.lean ====
abbrev S16384x1024 : Shape := ⟨2, ![16384, 1024]⟩
abbrev S16384x16 : Shape := ⟨2, ![16384, 16]⟩
abbrev S16x1024x512 : Shape := ⟨3, ![16, 1024, 512]⟩
abbrev S16x512x1024 : Shape := ⟨3, ![16, 512, 1024]⟩
abbrev S1024 : Shape := ⟨1, ![1024]⟩
abbrev S_ : Shape := ⟨0, ![]⟩

class Facts : Prop where
  bcast_S_S16384x16 : S_.BroadcastsInDim S16384x16 (![] : Fin 0 → Fin S16384x16.rank)
  reducesTo_S16384x16_S_d0_1 : S16384x16.ReducesTo [0, 1] S_
  h_S_ : 0 < S_.numel

variable [Facts]

def fn {F : FTy → Type} [FloatOps F] (main_arg0 : FVec F S16384x1024 .f32) (main_arg1 : FVec F S16384x16 .f32) (main_arg2 : FVec F S16x1024x512 .f32) (main_arg3 : FVec F S16x1024x512 .f32) (main_arg4 : FVec F S16x512x1024 .f32) (main_arg5 : FVec F S1024 .f32) (main_arg6 : FVec F S1024 .f32) : IVec S_ 1 :=
  let main_cst : FVec F S_ .f32 := constant S_ .f32 0x00000000#32
  let main_v0 : FVec F S16384x16 .f32 := broadcastInDim S16384x16 ![] bcast_S_S16384x16 main_cst
  let main_v1 : IVec S16384x16 1 := cmpf .oge main_arg1 main_v0
  let main_c : IVec S_ 1 := constantI S_ 1 1#1
  let main_v2 : IVec S_ 1 := (fun x v => Host.reduce IntOp.andi x v reducesTo_S16384x16_S_d0_1 h_S_) main_v1 main_c
  main_v2
-- ==== Kernel.lean ====
abbrev S4x4096x512 : Shape := ⟨3, ![4, 4096, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S16x256 : Shape := ⟨2, ![16, 256]⟩
abbrev S272x256 : Shape := ⟨2, ![272, 256]⟩
abbrev S4x16x256x512 : Shape := ⟨4, ![4, 16, 256, 512]⟩
abbrev S4x16x512x256 : Shape := ⟨4, ![4, 16, 512, 256]⟩
abbrev S1x1x512x256 : Shape := ⟨4, ![1, 1, 512, 256]⟩
abbrev S1x4096x512 : Shape := ⟨3, ![1, 4096, 512]⟩
abbrev S1x16x512x256 : Shape := ⟨4, ![1, 16, 512, 256]⟩
abbrev S1x256x512 : Shape := ⟨3, ![1, 256, 512]⟩
abbrev S8x64x256 : Shape := ⟨3, ![8, 64, 256]⟩
abbrev S1x2048 : Shape := ⟨2, ![1, 2048]⟩
abbrev S512x256 : Shape := ⟨2, ![512, 256]⟩
abbrev S64x256 : Shape := ⟨2, ![64, 256]⟩
abbrev S64x512 : Shape := ⟨2, ![64, 512]⟩
abbrev S128x512 : Shape := ⟨2, ![128, 512]⟩
abbrev S256x512 : Shape := ⟨2, ![256, 512]⟩
abbrev S256x128 : Shape := ⟨2, ![256, 128]⟩
abbrev S256x2048 : Shape := ⟨2, ![256, 2048]⟩
abbrev S272x2048 : Shape := ⟨2, ![272, 2048]⟩
abbrev S1x64x256 : Shape := ⟨3, ![1, 64, 256]⟩
abbrev S1x1x64x256 : Shape := ⟨4, ![1, 1, 64, 256]⟩

abbrev nBuf : Space → Nat
  | .hbm => 22
  | .vmem => 11
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S256, .i32⟩
  | .hbm, ⟨4, _⟩ => ⟨S256x1, .i32⟩
  | .hbm, ⟨5, _⟩ => ⟨S256, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S256x256, .bf16⟩
  | .hbm, ⟨11, _⟩ => ⟨S_, .bf16⟩
  | .hbm, ⟨12, _⟩ => ⟨S16x256, .bf16⟩
  | .hbm, ⟨13, _⟩ => ⟨S272x256, .bf16⟩
  | .hbm, ⟨14, _⟩ => ⟨S4x16x256x512, .f32⟩
  | .hbm, ⟨15, _⟩ => ⟨S4x16x512x256, .f32⟩
  | .hbm, ⟨16, _⟩ => ⟨S4x16x512x256, .bf16⟩
  | .hbm, ⟨17, _⟩ => ⟨S4x4096x512, .bf16⟩
  | .hbm, ⟨18, _⟩ => ⟨S4x16x256x512, .f32⟩
  | .hbm, ⟨19, _⟩ => ⟨S4x16x512x256, .f32⟩
  | .hbm, ⟨20, _⟩ => ⟨S4x16x512x256, .bf16⟩
  | .hbm, ⟨21, _⟩ => ⟨S4x4096x512, .bf16⟩
  | .local _ .vmem, ⟨0, _⟩ => ⟨S1x1x512x256, .bf16⟩
  | .local _ .vmem, ⟨1, _⟩ => ⟨S1x1x512x256, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x16x512x256, .bf16⟩
  | .local _ .vmem, ⟨5, _⟩ => ⟨S1x16x512x256, .bf16⟩
  | .local _ .vmem, ⟨6, _⟩ => ⟨S272x256, .bf16⟩
  | .local _ .vmem, ⟨7, _⟩ => ⟨S1x256x512, .bf16⟩
  | .local _ .vmem, ⟨8, _⟩ => ⟨S1x256x512, .bf16⟩
  | .local _ .vmem, ⟨9, _⟩ => ⟨S8x64x256, .f32⟩
  | .local _ .vmem, ⟨10, _⟩ => ⟨S1x2048, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v35 : BitVec 32 := Scalar.muli arg1 c256_i32
  v35
def k0_off1 (i : grid0.Coords) : Fin 3 → Nat :=
  let c0_11 : Index := 0#32
  let arg1 : BitVec 32 := BitVec.ofNat 32 (i 1).val
  let c256_i32 : BitVec 32 := 256#32
  let v35 : BitVec 32 := Scalar.muli arg1 c256_i32
  let v36 : BitVec 32 := v35
  let v37 : Index := Scalar.indexCast v36
  let c0_12 : Index := 0#32
  ![0, v37.toNat, 0]
def k0_off2 (i : grid0.Coords) : Fin 4 → Nat :=
  let c0_33 : Index := 0#32
  let arg1 : BitVec 32 := BitVec.ofNat 32 (i 1).val
  let v89 : Index := Scalar.indexCast arg1
  let c0_34 : Index := 0#32
  let c0_35 : Index := 0#32
  ![0, v89.toNat, 0, 0]
def k0_off3 (i : grid0.Coords) : Fin 4 → Nat :=
  let c0_42 : Index := 0#32
  let arg1 : BitVec 32 := BitVec.ofNat 32 (i 1).val
  let v100 : Index := Scalar.indexCast arg1
  let c64 : Index := 64#32
  let c0_43 : Index := 0#32
  ![0, v100.toNat, 64, 0]
def k0_off4 (i : grid0.Coords) : Fin 4 → Nat :=
  let c0_50 : Index := 0#32
  let arg1 : BitVec 32 := BitVec.ofNat 32 (i 1).val
  let v111 : Index := Scalar.indexCast arg1
  let c128 : Index := 128#32
  let c0_51 : Index := 0#32
  ![0, v111.toNat, 128, 0]
def k0_off5 (i : grid0.Coords) : Fin 4 → Nat :=
  let c0_58 : Index := 0#32
  let arg1 : BitVec 32 := BitVec.ofNat 32 (i 1).val
  let v122 : Index := Scalar.indexCast arg1
  let c192 : Index := 192#32
  let c0_59 : Index := 0#32
  ![0, v122.toNat, 192, 0]
def k0_off6 (i : grid0.Coords) : Fin 4 → Nat :=
  let c0_66 : Index := 0#32
  let arg1 : BitVec 32 := BitVec.ofNat 32 (i 1).val
  let v133 : Index := Scalar.indexCast arg1
  let c256 : Index := 256#32
  let c0_67 : Index := 0#32
  ![0, v133.toNat, 256, 0]
def k0_off7 (i : grid0.Coords) : Fin 4 → Nat :=
  let c0_74 : Index := 0#32
  let arg1 : BitVec 32 := BitVec.ofNat 32 (i 1).val
  let v144 : Index := Scalar.indexCast arg1
  let c320 : Index := 320#32
  let c0_75 : Index := 0#32
  ![0, v144.toNat, 320, 0]
def k0_off8 (i : grid0.Coords) : Fin 4 → Nat :=
  let c0_82 : Index := 0#32
  let arg1 : BitVec 32 := BitVec.ofNat 32 (i 1).val
  let v155 : Index := Scalar.indexCast arg1
  let c384 : Index := 384#32
  let c0_83 : Index := 0#32
  ![0, v155.toNat, 384, 0]
def k0_off9 (i : grid0.Coords) : Fin 4 → Nat :=
  let c0_90 : Index := 0#32
  let arg1 : BitVec 32 := BitVec.ofNat 32 (i 1).val
  let v166 : Index := Scalar.indexCast arg1
  let c448 : Index := 448#32
  let c0_91 : Index := 0#32
  ![0, v166.toNat, 448, 0]
@[reducible] def k0_t1_loop (i : grid0.Coords) : Scf.Loop 32 :=
  let c0_i32_101 : BitVec 32 := 0#32
  let arg1 : BitVec 32 := BitVec.ofNat 32 (i 1).val
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_103 : BitVec 32 := 1#32
  ⟨c0_i32_101, v196, c1_i32_103⟩
def k0_mult2 (i : grid0.Coords) (k0_t1 : Fin (k0_t1_loop i).trips) : BitVec 32 :=
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c1_i32_103 : BitVec 32 := 1#32
  let arg9 : BitVec 32 := Scf.iv c0_i32_101 c1_i32_103 k0_t1
  let v234 : BitVec 32 := Scalar.muli c2_i32_142 arg9
  let v236 : BitVec 32 := Scalar.subi v235 v234
  let c256_i32_144 : BitVec 32 := 256#32
  let v237 : BitVec 32 := Scalar.muli v236 c256_i32_144
  v237
def k0_off10 (i : grid0.Coords) (k0_t1 : Fin (k0_t1_loop i).trips) : Fin 3 → Nat :=
  let c0_145 : Index := 0#32
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c1_i32_103 : BitVec 32 := 1#32
  let arg9 : BitVec 32 := Scf.iv c0_i32_101 c1_i32_103 k0_t1
  let v234 : BitVec 32 := Scalar.muli c2_i32_142 arg9
  let v236 : BitVec 32 := Scalar.subi v235 v234
  let c256_i32_144 : BitVec 32 := 256#32
  let v237 : BitVec 32 := Scalar.muli v236 c256_i32_144
  let v238 : BitVec 32 := v237
  let v239 : Index := Scalar.indexCast v238
  let c0_146 : Index := 0#32
  ![0, v239.toNat, 0]
def k0_off11 (i : grid0.Coords) (k0_t1 : Fin (k0_t1_loop i).trips) : Fin 4 → Nat :=
  let c0_165 : Index := 0#32
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c1_i32_103 : BitVec 32 := 1#32
  let arg9 : BitVec 32 := Scf.iv c0_i32_101 c1_i32_103 k0_t1
  let v234 : BitVec 32 := Scalar.muli c2_i32_142 arg9
  let v236 : BitVec 32 := Scalar.subi v235 v234
  let v282 : Index := Scalar.indexCast v236
  let c0_166 : Index := 0#32
  let c0_167 : Index := 0#32
  ![0, v282.toNat, 0, 0]
def k0_off12 (i : grid0.Coords) (k0_t1 : Fin (k0_t1_loop i).trips) : Fin 4 → Nat :=
  let c0_175 : Index := 0#32
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c1_i32_103 : BitVec 32 := 1#32
  let arg9 : BitVec 32 := Scf.iv c0_i32_101 c1_i32_103 k0_t1
  let v234 : BitVec 32 := Scalar.muli c2_i32_142 arg9
  let v236 : BitVec 32 := Scalar.subi v235 v234
  let v293 : Index := Scalar.indexCast v236
  let c64_176 : Index := 64#32
  let c0_177 : Index := 0#32
  ![0, v293.toNat, 64, 0]
def k0_off13 (i : grid0.Coords) (k0_t1 : Fin (k0_t1_loop i).trips) : Fin 4 → Nat :=
  let c0_185 : Index := 0#32
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c1_i32_103 : BitVec 32 := 1#32
  let arg9 : BitVec 32 := Scf.iv c0_i32_101 c1_i32_103 k0_t1
  let v234 : BitVec 32 := Scalar.muli c2_i32_142 arg9
  let v236 : BitVec 32 := Scalar.subi v235 v234
  let v304 : Index := Scalar.indexCast v236
  let c128_186 : Index := 128#32
  let c0_187 : Index := 0#32
  ![0, v304.toNat, 128, 0]
def k0_off14 (i : grid0.Coords) (k0_t1 : Fin (k0_t1_loop i).trips) : Fin 4 → Nat :=
  let c0_195 : Index := 0#32
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c1_i32_103 : BitVec 32 := 1#32
  let arg9 : BitVec 32 := Scf.iv c0_i32_101 c1_i32_103 k0_t1
  let v234 : BitVec 32 := Scalar.muli c2_i32_142 arg9
  let v236 : BitVec 32 := Scalar.subi v235 v234
  let v315 : Index := Scalar.indexCast v236
  let c192_196 : Index := 192#32
  let c0_197 : Index := 0#32
  ![0, v315.toNat, 192, 0]
def k0_off15 (i : grid0.Coords) (k0_t1 : Fin (k0_t1_loop i).trips) : Fin 4 → Nat :=
  let c0_205 : Index := 0#32
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c1_i32_103 : BitVec 32 := 1#32
  let arg9 : BitVec 32 := Scf.iv c0_i32_101 c1_i32_103 k0_t1
  let v234 : BitVec 32 := Scalar.muli c2_i32_142 arg9
  let v236 : BitVec 32 := Scalar.subi v235 v234
  let v326 : Index := Scalar.indexCast v236
  let c256_206 : Index := 256#32
  let c0_207 : Index := 0#32
  ![0, v326.toNat, 256, 0]
def k0_off16 (i : grid0.Coords) (k0_t1 : Fin (k0_t1_loop i).trips) : Fin 4 → Nat :=
  let c0_215 : Index := 0#32
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c1_i32_103 : BitVec 32 := 1#32
  let arg9 : BitVec 32 := Scf.iv c0_i32_101 c1_i32_103 k0_t1
  let v234 : BitVec 32 := Scalar.muli c2_i32_142 arg9
  let v236 : BitVec 32 := Scalar.subi v235 v234
  let v337 : Index := Scalar.indexCast v236
  let c320_216 : Index := 320#32
  let c0_217 : Index := 0#32
  ![0, v337.toNat, 320, 0]
def k0_off17 (i : grid0.Coords) (k0_t1 : Fin (k0_t1_loop i).trips) : Fin 4 → Nat :=
  let c0_225 : Index := 0#32
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c1_i32_103 : BitVec 32 := 1#32
  let arg9 : BitVec 32 := Scf.iv c0_i32_101 c1_i32_103 k0_t1
  let v234 : BitVec 32 := Scalar.muli c2_i32_142 arg9
  let v236 : BitVec 32 := Scalar.subi v235 v234
  let v348 : Index := Scalar.indexCast v236
  let c384_226 : Index := 384#32
  let c0_227 : Index := 0#32
  ![0, v348.toNat, 384, 0]
def k0_off18 (i : grid0.Coords) (k0_t1 : Fin (k0_t1_loop i).trips) : Fin 4 → Nat :=
  let c0_235 : Index := 0#32
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c1_i32_103 : BitVec 32 := 1#32
  let arg9 : BitVec 32 := Scf.iv c0_i32_101 c1_i32_103 k0_t1
  let v234 : BitVec 32 := Scalar.muli c2_i32_142 arg9
  let v236 : BitVec 32 := Scalar.subi v235 v234
  let v359 : Index := Scalar.indexCast v236
  let c448_236 : Index := 448#32
  let c0_237 : Index := 0#32
  ![0, v359.toNat, 448, 0]
def k0_mult3 (i : grid0.Coords) (k0_t1 : Fin (k0_t1_loop i).trips) : BitVec 32 :=
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c1_i32_103 : BitVec 32 := 1#32
  let arg9 : BitVec 32 := Scf.iv c0_i32_101 c1_i32_103 k0_t1
  let v232 : BitVec 32 := Scalar.muli c2_i32_140 arg9
  let c1_i32_141 : BitVec 32 := 1#32
  let v233 : BitVec 32 := Scalar.addi v232 c1_i32_141
  let v369 : BitVec 32 := Scalar.subi v368 v233
  let c256_i32_243 : BitVec 32 := 256#32
  let v370 : BitVec 32 := Scalar.muli v369 c256_i32_243
  v370
def k0_off19 (i : grid0.Coords) (k0_t1 : Fin (k0_t1_loop i).trips) : Fin 3 → Nat :=
  let c0_244 : Index := 0#32
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c1_i32_103 : BitVec 32 := 1#32
  let arg9 : BitVec 32 := Scf.iv c0_i32_101 c1_i32_103 k0_t1
  let v232 : BitVec 32 := Scalar.muli c2_i32_140 arg9
  let c1_i32_141 : BitVec 32 := 1#32
  let v233 : BitVec 32 := Scalar.addi v232 c1_i32_141
  let v369 : BitVec 32 := Scalar.subi v368 v233
  let c256_i32_243 : BitVec 32 := 256#32
  let v370 : BitVec 32 := Scalar.muli v369 c256_i32_243
  let v371 : BitVec 32 := v370
  let v372 : Index := Scalar.indexCast v371
  let c0_245 : Index := 0#32
  ![0, v372.toNat, 0]
def k0_off20 (i : grid0.Coords) (k0_t1 : Fin (k0_t1_loop i).trips) : Fin 4 → Nat :=
  let c0_264 : Index := 0#32
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c1_i32_103 : BitVec 32 := 1#32
  let arg9 : BitVec 32 := Scf.iv c0_i32_101 c1_i32_103 k0_t1
  let v232 : BitVec 32 := Scalar.muli c2_i32_140 arg9
  let c1_i32_141 : BitVec 32 := 1#32
  let v233 : BitVec 32 := Scalar.addi v232 c1_i32_141
  let v369 : BitVec 32 := Scalar.subi v368 v233
  let v415 : Index := Scalar.indexCast v369
  let c0_265 : Index := 0#32
  let c0_266 : Index := 0#32
  ![0, v415.toNat, 0, 0]
def k0_off21 (i : grid0.Coords) (k0_t1 : Fin (k0_t1_loop i).trips) : Fin 4 → Nat :=
  let c0_274 : Index := 0#32
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c1_i32_103 : BitVec 32 := 1#32
  let arg9 : BitVec 32 := Scf.iv c0_i32_101 c1_i32_103 k0_t1
  let v232 : BitVec 32 := Scalar.muli c2_i32_140 arg9
  let c1_i32_141 : BitVec 32 := 1#32
  let v233 : BitVec 32 := Scalar.addi v232 c1_i32_141
  let v369 : BitVec 32 := Scalar.subi v368 v233
  let v426 : Index := Scalar.indexCast v369
  let c64_275 : Index := 64#32
  let c0_276 : Index := 0#32
  ![0, v426.toNat, 64, 0]
def k0_off22 (i : grid0.Coords) (k0_t1 : Fin (k0_t1_loop i).trips) : Fin 4 → Nat :=
  let c0_284 : Index := 0#32
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c1_i32_103 : BitVec 32 := 1#32
  let arg9 : BitVec 32 := Scf.iv c0_i32_101 c1_i32_103 k0_t1
  let v232 : BitVec 32 := Scalar.muli c2_i32_140 arg9
  let c1_i32_141 : BitVec 32 := 1#32
  let v233 : BitVec 32 := Scalar.addi v232 c1_i32_141
  let v369 : BitVec 32 := Scalar.subi v368 v233
  let v437 : Index := Scalar.indexCast v369
  let c128_285 : Index := 128#32
  let c0_286 : Index := 0#32
  ![0, v437.toNat, 128, 0]
def k0_off23 (i : grid0.Coords) (k0_t1 : Fin (k0_t1_loop i).trips) : Fin 4 → Nat :=
  let c0_294 : Index := 0#32
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c1_i32_103 : BitVec 32 := 1#32
  let arg9 : BitVec 32 := Scf.iv c0_i32_101 c1_i32_103 k0_t1
  let v232 : BitVec 32 := Scalar.muli c2_i32_140 arg9
  let c1_i32_141 : BitVec 32 := 1#32
  let v233 : BitVec 32 := Scalar.addi v232 c1_i32_141
  let v369 : BitVec 32 := Scalar.subi v368 v233
  let v448 : Index := Scalar.indexCast v369
  let c192_295 : Index := 192#32
  let c0_296 : Index := 0#32
  ![0, v448.toNat, 192, 0]
def k0_off24 (i : grid0.Coords) (k0_t1 : Fin (k0_t1_loop i).trips) : Fin 4 → Nat :=
  let c0_304 : Index := 0#32
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c1_i32_103 : BitVec 32 := 1#32
  let arg9 : BitVec 32 := Scf.iv c0_i32_101 c1_i32_103 k0_t1
  let v232 : BitVec 32 := Scalar.muli c2_i32_140 arg9
  let c1_i32_141 : BitVec 32 := 1#32
  let v233 : BitVec 32 := Scalar.addi v232 c1_i32_141
  let v369 : BitVec 32 := Scalar.subi v368 v233
  let v459 : Index := Scalar.indexCast v369
  let c256_305 : Index := 256#32
  let c0_306 : Index := 0#32
  ![0, v459.toNat, 256, 0]
def k0_off25 (i : grid0.Coords) (k0_t1 : Fin (k0_t1_loop i).trips) : Fin 4 → Nat :=
  let c0_314 : Index := 0#32
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c1_i32_103 : BitVec 32 := 1#32
  let arg9 : BitVec 32 := Scf.iv c0_i32_101 c1_i32_103 k0_t1
  let v232 : BitVec 32 := Scalar.muli c2_i32_140 arg9
  let c1_i32_141 : BitVec 32 := 1#32
  let v233 : BitVec 32 := Scalar.addi v232 c1_i32_141
  let v369 : BitVec 32 := Scalar.subi v368 v233
  let v470 : Index := Scalar.indexCast v369
  let c320_315 : Index := 320#32
  let c0_316 : Index := 0#32
  ![0, v470.toNat, 320, 0]
def k0_off26 (i : grid0.Coords) (k0_t1 : Fin (k0_t1_loop i).trips) : Fin 4 → Nat :=
  let c0_324 : Index := 0#32
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c1_i32_103 : BitVec 32 := 1#32
  let arg9 : BitVec 32 := Scf.iv c0_i32_101 c1_i32_103 k0_t1
  let v232 : BitVec 32 := Scalar.muli c2_i32_140 arg9
  let c1_i32_141 : BitVec 32 := 1#32
  let v233 : BitVec 32 := Scalar.addi v232 c1_i32_141
  let v369 : BitVec 32 := Scalar.subi v368 v233
  let v481 : Index := Scalar.indexCast v369
  let c384_325 : Index := 384#32
  let c0_326 : Index := 0#32
  ![0, v481.toNat, 384, 0]
def k0_off27 (i : grid0.Coords) (k0_t1 : Fin (k0_t1_loop i).trips) : Fin 4 → Nat :=
  let c0_334 : Index := 0#32
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c1_i32_103 : BitVec 32 := 1#32
  let arg9 : BitVec 32 := Scf.iv c0_i32_101 c1_i32_103 k0_t1
  let v232 : BitVec 32 := Scalar.muli c2_i32_140 arg9
  let c1_i32_141 : BitVec 32 := 1#32
  let v233 : BitVec 32 := Scalar.addi v232 c1_i32_141
  let v369 : BitVec 32 := Scalar.subi v368 v233
  let v492 : Index := Scalar.indexCast v369
  let c448_335 : Index := 448#32
  let c0_336 : Index := 0#32
  ![0, v492.toNat, 448, 0]
@[reducible] def k0_t2_loop (i : grid0.Coords) : Scf.Loop 32 :=
  let c0_i32_101 : BitVec 32 := 0#32
  let arg1 : BitVec 32 := BitVec.ofNat 32 (i 1).val
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let v193 : BitVec 32 := Scalar.addi c0_i32_101 v192
  let c1_i32_104 : BitVec 32 := 1#32
  ⟨v196, v193, c1_i32_104⟩
def k0_mult4 (i : grid0.Coords) (k0_t2 : Fin (k0_t2_loop i).trips) : BitVec 32 :=
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v234 : BitVec 32 := Scalar.muli c2_i32_142 arg9
  let v236 : BitVec 32 := Scalar.subi v235 v234
  let c256_i32_144 : BitVec 32 := 256#32
  let v237 : BitVec 32 := Scalar.muli v236 c256_i32_144
  v237
def k0_off28 (i : grid0.Coords) (k0_t2 : Fin (k0_t2_loop i).trips) : Fin 3 → Nat :=
  let c0_145 : Index := 0#32
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v234 : BitVec 32 := Scalar.muli c2_i32_142 arg9
  let v236 : BitVec 32 := Scalar.subi v235 v234
  let c256_i32_144 : BitVec 32 := 256#32
  let v237 : BitVec 32 := Scalar.muli v236 c256_i32_144
  let v238 : BitVec 32 := v237
  let v239 : Index := Scalar.indexCast v238
  let c0_146 : Index := 0#32
  ![0, v239.toNat, 0]
def k0_off29 (i : grid0.Coords) (k0_t2 : Fin (k0_t2_loop i).trips) : Fin 4 → Nat :=
  let c0_165 : Index := 0#32
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v234 : BitVec 32 := Scalar.muli c2_i32_142 arg9
  let v236 : BitVec 32 := Scalar.subi v235 v234
  let v282 : Index := Scalar.indexCast v236
  let c0_166 : Index := 0#32
  let c0_167 : Index := 0#32
  ![0, v282.toNat, 0, 0]
def k0_off30 (i : grid0.Coords) (k0_t2 : Fin (k0_t2_loop i).trips) : Fin 4 → Nat :=
  let c0_175 : Index := 0#32
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v234 : BitVec 32 := Scalar.muli c2_i32_142 arg9
  let v236 : BitVec 32 := Scalar.subi v235 v234
  let v293 : Index := Scalar.indexCast v236
  let c64_176 : Index := 64#32
  let c0_177 : Index := 0#32
  ![0, v293.toNat, 64, 0]
def k0_off31 (i : grid0.Coords) (k0_t2 : Fin (k0_t2_loop i).trips) : Fin 4 → Nat :=
  let c0_185 : Index := 0#32
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v234 : BitVec 32 := Scalar.muli c2_i32_142 arg9
  let v236 : BitVec 32 := Scalar.subi v235 v234
  let v304 : Index := Scalar.indexCast v236
  let c128_186 : Index := 128#32
  let c0_187 : Index := 0#32
  ![0, v304.toNat, 128, 0]
def k0_off32 (i : grid0.Coords) (k0_t2 : Fin (k0_t2_loop i).trips) : Fin 4 → Nat :=
  let c0_195 : Index := 0#32
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v234 : BitVec 32 := Scalar.muli c2_i32_142 arg9
  let v236 : BitVec 32 := Scalar.subi v235 v234
  let v315 : Index := Scalar.indexCast v236
  let c192_196 : Index := 192#32
  let c0_197 : Index := 0#32
  ![0, v315.toNat, 192, 0]
def k0_off33 (i : grid0.Coords) (k0_t2 : Fin (k0_t2_loop i).trips) : Fin 4 → Nat :=
  let c0_205 : Index := 0#32
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v234 : BitVec 32 := Scalar.muli c2_i32_142 arg9
  let v236 : BitVec 32 := Scalar.subi v235 v234
  let v326 : Index := Scalar.indexCast v236
  let c256_206 : Index := 256#32
  let c0_207 : Index := 0#32
  ![0, v326.toNat, 256, 0]
def k0_off34 (i : grid0.Coords) (k0_t2 : Fin (k0_t2_loop i).trips) : Fin 4 → Nat :=
  let c0_215 : Index := 0#32
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v234 : BitVec 32 := Scalar.muli c2_i32_142 arg9
  let v236 : BitVec 32 := Scalar.subi v235 v234
  let v337 : Index := Scalar.indexCast v236
  let c320_216 : Index := 320#32
  let c0_217 : Index := 0#32
  ![0, v337.toNat, 320, 0]
def k0_off35 (i : grid0.Coords) (k0_t2 : Fin (k0_t2_loop i).trips) : Fin 4 → Nat :=
  let c0_225 : Index := 0#32
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v234 : BitVec 32 := Scalar.muli c2_i32_142 arg9
  let v236 : BitVec 32 := Scalar.subi v235 v234
  let v348 : Index := Scalar.indexCast v236
  let c384_226 : Index := 384#32
  let c0_227 : Index := 0#32
  ![0, v348.toNat, 384, 0]
def k0_off36 (i : grid0.Coords) (k0_t2 : Fin (k0_t2_loop i).trips) : Fin 4 → Nat :=
  let c0_235 : Index := 0#32
  let arg1 : BitVec 32 := BitVec.ofNat 32 (i 1).val
  let c1_i32_143 : BitVec 32 := 1#32
  let v235 : BitVec 32 := Scalar.subi arg1 c1_i32_143
  let c2_i32_142 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v234 : BitVec 32 := Scalar.muli c2_i32_142 arg9
  let v236 : BitVec 32 := Scalar.subi v235 v234
  let v359 : Index := Scalar.indexCast v236
  let c448_236 : Index := 448#32
  let c0_237 : Index := 0#32
  ![0, v359.toNat, 448, 0]
def k0_mult5 (i : grid0.Coords) (k0_t2 : Fin (k0_t2_loop i).trips) : BitVec 32 :=
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v232 : BitVec 32 := Scalar.muli c2_i32_140 arg9
  let c1_i32_141 : BitVec 32 := 1#32
  let v233 : BitVec 32 := Scalar.addi v232 c1_i32_141
  let v369 : BitVec 32 := Scalar.subi v368 v233
  let c256_i32_243 : BitVec 32 := 256#32
  let v370 : BitVec 32 := Scalar.muli v369 c256_i32_243
  v370
def k0_off37 (i : grid0.Coords) (k0_t2 : Fin (k0_t2_loop i).trips) : Fin 3 → Nat :=
  let c0_244 : Index := 0#32
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v232 : BitVec 32 := Scalar.muli c2_i32_140 arg9
  let c1_i32_141 : BitVec 32 := 1#32
  let v233 : BitVec 32 := Scalar.addi v232 c1_i32_141
  let v369 : BitVec 32 := Scalar.subi v368 v233
  let c256_i32_243 : BitVec 32 := 256#32
  let v370 : BitVec 32 := Scalar.muli v369 c256_i32_243
  let v371 : BitVec 32 := v370
  let v372 : Index := Scalar.indexCast v371
  let c0_245 : Index := 0#32
  ![0, v372.toNat, 0]
def k0_off38 (i : grid0.Coords) (k0_t2 : Fin (k0_t2_loop i).trips) : Fin 4 → Nat :=
  let c0_264 : Index := 0#32
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v232 : BitVec 32 := Scalar.muli c2_i32_140 arg9
  let c1_i32_141 : BitVec 32 := 1#32
  let v233 : BitVec 32 := Scalar.addi v232 c1_i32_141
  let v369 : BitVec 32 := Scalar.subi v368 v233
  let v415 : Index := Scalar.indexCast v369
  let c0_265 : Index := 0#32
  let c0_266 : Index := 0#32
  ![0, v415.toNat, 0, 0]
def k0_off39 (i : grid0.Coords) (k0_t2 : Fin (k0_t2_loop i).trips) : Fin 4 → Nat :=
  let c0_274 : Index := 0#32
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v232 : BitVec 32 := Scalar.muli c2_i32_140 arg9
  let c1_i32_141 : BitVec 32 := 1#32
  let v233 : BitVec 32 := Scalar.addi v232 c1_i32_141
  let v369 : BitVec 32 := Scalar.subi v368 v233
  let v426 : Index := Scalar.indexCast v369
  let c64_275 : Index := 64#32
  let c0_276 : Index := 0#32
  ![0, v426.toNat, 64, 0]
def k0_off40 (i : grid0.Coords) (k0_t2 : Fin (k0_t2_loop i).trips) : Fin 4 → Nat :=
  let c0_284 : Index := 0#32
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v232 : BitVec 32 := Scalar.muli c2_i32_140 arg9
  let c1_i32_141 : BitVec 32 := 1#32
  let v233 : BitVec 32 := Scalar.addi v232 c1_i32_141
  let v369 : BitVec 32 := Scalar.subi v368 v233
  let v437 : Index := Scalar.indexCast v369
  let c128_285 : Index := 128#32
  let c0_286 : Index := 0#32
  ![0, v437.toNat, 128, 0]
def k0_off41 (i : grid0.Coords) (k0_t2 : Fin (k0_t2_loop i).trips) : Fin 4 → Nat :=
  let c0_294 : Index := 0#32
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v232 : BitVec 32 := Scalar.muli c2_i32_140 arg9
  let c1_i32_141 : BitVec 32 := 1#32
  let v233 : BitVec 32 := Scalar.addi v232 c1_i32_141
  let v369 : BitVec 32 := Scalar.subi v368 v233
  let v448 : Index := Scalar.indexCast v369
  let c192_295 : Index := 192#32
  let c0_296 : Index := 0#32
  ![0, v448.toNat, 192, 0]
def k0_off42 (i : grid0.Coords) (k0_t2 : Fin (k0_t2_loop i).trips) : Fin 4 → Nat :=
  let c0_304 : Index := 0#32
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v232 : BitVec 32 := Scalar.muli c2_i32_140 arg9
  let c1_i32_141 : BitVec 32 := 1#32
  let v233 : BitVec 32 := Scalar.addi v232 c1_i32_141
  let v369 : BitVec 32 := Scalar.subi v368 v233
  let v459 : Index := Scalar.indexCast v369
  let c256_305 : Index := 256#32
  let c0_306 : Index := 0#32
  ![0, v459.toNat, 256, 0]
def k0_off43 (i : grid0.Coords) (k0_t2 : Fin (k0_t2_loop i).trips) : Fin 4 → Nat :=
  let c0_314 : Index := 0#32
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v232 : BitVec 32 := Scalar.muli c2_i32_140 arg9
  let c1_i32_141 : BitVec 32 := 1#32
  let v233 : BitVec 32 := Scalar.addi v232 c1_i32_141
  let v369 : BitVec 32 := Scalar.subi v368 v233
  let v470 : Index := Scalar.indexCast v369
  let c320_315 : Index := 320#32
  let c0_316 : Index := 0#32
  ![0, v470.toNat, 320, 0]
def k0_off44 (i : grid0.Coords) (k0_t2 : Fin (k0_t2_loop i).trips) : Fin 4 → Nat :=
  let c0_324 : Index := 0#32
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v232 : BitVec 32 := Scalar.muli c2_i32_140 arg9
  let c1_i32_141 : BitVec 32 := 1#32
  let v233 : BitVec 32 := Scalar.addi v232 c1_i32_141
  let v369 : BitVec 32 := Scalar.subi v368 v233
  let v481 : Index := Scalar.indexCast v369
  let c384_325 : Index := 384#32
  let c0_326 : Index := 0#32
  ![0, v481.toNat, 384, 0]
def k0_off45 (i : grid0.Coords) (k0_t2 : Fin (k0_t2_loop i).trips) : Fin 4 → Nat :=
  let c0_334 : Index := 0#32
  let arg1 : BitVec 32 := BitVec.ofNat 32 (i 1).val
  let c1_i32_242 : BitVec 32 := 1#32
  let v368 : BitVec 32 := Scalar.subi arg1 c1_i32_242
  let c2_i32_140 : BitVec 32 := 2#32
  let c0_i32_101 : BitVec 32 := 0#32
  let c0_i32 : BitVec 32 := 0#32
  let v176 : BitVec 1 := Scalar.cmpi .sgt arg1 c0_i32
  let v177 : BitVec 32 := Scalar.extui v176
  let c0_i32_96 : BitVec 32 := 0#32
  let v178 : BitVec 1 := Scalar.cmpi .slt arg1 c0_i32_96
  let v179 : BitVec 32 := Scalar.extui v178
  let v180 : BitVec 32 := Scalar.subi v177 v179
  let c2_i32 : BitVec 32 := 2#32
  let c0_i32_97 : BitVec 32 := 0#32
  let v181 : BitVec 1 := Scalar.cmpi .sgt c2_i32 c0_i32_97
  let v182 : BitVec 32 := Scalar.extui v181
  let c0_i32_98 : BitVec 32 := 0#32
  let v183 : BitVec 1 := Scalar.cmpi .slt c2_i32 c0_i32_98
  let v184 : BitVec 32 := Scalar.extui v183
  let v185 : BitVec 32 := Scalar.subi v182 v184
  let v186 : BitVec 1 := Scalar.cmpi .ne v180 v185
  let v187 : BitVec 32 := Scalar.remsi arg1 c2_i32
  let c0_i32_99 : BitVec 32 := 0#32
  let v188 : BitVec 1 := Scalar.cmpi .ne v187 c0_i32_99
  let v189 : BitVec 1 := Scalar.andi v186 v188
  let v175 : BitVec 32 := Scalar.divsi arg1 c2_i32
  let c1_i32 : BitVec 32 := 1#32
  let v190 : BitVec 32 := Scalar.subi v175 c1_i32
  let v191 : BitVec 32 := Scalar.select v189 v190 v175
  let v192 : BitVec 32 := Scalar.subi v191 c0_i32_101
  let c1_i32_102 : BitVec 32 := 1#32
  let v194 : BitVec 32 := Scalar.divsi v192 c1_i32_102
  let v195 : BitVec 32 := Scalar.muli v194 c1_i32_102
  let v196 : BitVec 32 := Scalar.addi c0_i32_101 v195
  let c1_i32_104 : BitVec 32 := 1#32
  let arg9 : BitVec 32 := Scf.iv v196 c1_i32_104 k0_t2
  let v232 : BitVec 32 := Scalar.muli c2_i32_140 arg9
  let c1_i32_141 : BitVec 32 := 1#32
  let v233 : BitVec 32 := Scalar.addi v232 c1_i32_141
  let v369 : BitVec 32 := Scalar.subi v368 v233
  let v492 : Index := Scalar.indexCast v369
  let c448_335 : Index := 448#32
  let c0_336 : Index := 0#32
  ![0, v492.toNat, 448, 0]
def k0_cond1 (i : grid0.Coords) : BitVec 1 :=
  let arg1 : BitVec 32 := BitVec.ofNat 32 (i 1).val
  let c2_i32_105 : BitVec 32 := 2#32
  let c0_i32_106 : BitVec 32 := 0#32
  let v197 : BitVec 1 := Scalar.cmpi .eq c2_i32_105 c0_i32_106
  let c1_i32_107 : BitVec 32 := 1#32
  let v198 : BitVec 32 := Scalar.select v197 c1_i32_107 c2_i32_105
  let v199 : BitVec 32 := Scalar.remsi arg1 v198
  let c0_i32_109 : BitVec 32 := 0#32
  let v201 : BitVec 1 := Scalar.cmpi .slt v199 c0_i32_109
  let c0_i32_110 : BitVec 32 := 0#32
  let v202 : BitVec 1 := Scalar.cmpi .slt v198 c0_i32_110
  let v203 : BitVec 1 := Scalar.xori v201 v202
  let c0_i32_108 : BitVec 32 := 0#32
  let v200 : BitVec 1 := Scalar.cmpi .ne v199 c0_i32_108
  let v204 : BitVec 1 := Scalar.andi v203 v200
  let v205 : BitVec 32 := Scalar.addi v199 v198
  let v206 : BitVec 32 := Scalar.select v204 v205 v199
  let c1_i32_111 : BitVec 32 := 1#32
  let v207 : BitVec 1 := Scalar.cmpi .eq v206 c1_i32_111
  let v208 : BitVec 32 := Scalar.extui v207
  let c0_i32_112 : BitVec 32 := 0#32
  let v209 : BitVec 1 := Scalar.cmpi .ne v208 c0_i32_112
  v209

def k0_mult6 (i : grid0.Coords) : BitVec 32 :=
  let arg1 : BitVec 32 := BitVec.ofNat 32 (i 1).val
  let c1_i32_141 : BitVec 32 := 1#32
  let v233 : BitVec 32 := Scalar.subi arg1 c1_i32_141
  let c1_i32_140 : BitVec 32 := 1#32
  let v232 : BitVec 32 := Scalar.subi arg1 c1_i32_140
  let v234 : BitVec 32 := Scalar.subi v233 v232
  let c256_i32_142 : BitVec 32 := 256#32
  let v235 : BitVec 32 := Scalar.muli v234 c256_i32_142
  v235
def k0_off46 (i : grid0.Coords) : Fin 3 → Nat :=
  let c0_143 : Index := 0#32
  let arg1 : BitVec 32 := BitVec.ofNat 32 (i 1).val
  let c1_i32_141 : BitVec 32 := 1#32
  let v233 : BitVec 32 := Scalar.subi arg1 c1_i32_141
  let c1_i32_140 : BitVec 32 := 1#32
  let v232 : BitVec 32 := Scalar.subi arg1 c1_i32_140
  let v234 : BitVec 32 := Scalar.subi v233 v232
  let c256_i32_142 : BitVec 32 := 256#32
  let v235 : BitVec 32 := Scalar.muli v234 c256_i32_142
  let v236 : BitVec 32 := v235
  let v237 : Index := Scalar.indexCast v236
  let c0_144 : Index := 0#32
  ![0, v237.toNat, 0]
def k0_off47 (i : grid0.Coords) : Fin 4 → Nat :=
  let c0_163 : Index := 0#32
  let arg1 : BitVec 32 := BitVec.ofNat 32 (i 1).val
  let c1_i32_141 : BitVec 32 := 1#32
  let v233 : BitVec 32 := Scalar.subi arg1 c1_i32_141
  let c1_i32_140 : BitVec 32 := 1#32
  let v232 : BitVec 32 := Scalar.subi arg1 c1_i32_140
  let v234 : BitVec 32 := Scalar.subi v233 v232
  let v280 : Index := Scalar.indexCast v234
  let c0_164 : Index := 0#32
  let c0_165 : Index := 0#32
  ![0, v280.toNat, 0, 0]
def k0_off48 (i : grid0.Coords) : Fin 4 → Nat :=
  let c0_173 : Index := 0#32
  let arg1 : BitVec 32 := BitVec.ofNat 32 (i 1).val
  let c1_i32_141 : BitVec 32 := 1#32
  let v233 : BitVec 32 := Scalar.subi arg1 c1_i32_141
  let c1_i32_140 : BitVec 32 := 1#32
  let v232 : BitVec 32 := Scalar.subi arg1 c1_i32_140
  let v234 : BitVec 32 := Scalar.subi v233 v232
  let v291 : Index := Scalar.indexCast v234
  let c64_174 : Index := 64#32
  let c0_175 : Index := 0#32
  ![0, v291.toNat, 64, 0]
def k0_off49 (i : grid0.Coords) : Fin 4 → Nat :=
  let c0_183 : Index := 0#32
  let arg1 : BitVec 32 := BitVec.ofNat 32 (i 1).val
  let c1_i32_141 : BitVec 32 := 1#32
  let v233 : BitVec 32 := Scalar.subi arg1 c1_i32_141
  let c1_i32_140 : BitVec 32 := 1#32
  let v232 : BitVec 32 := Scalar.subi arg1 c1_i32_140
  let v234 : BitVec 32 := Scalar.subi v233 v232
  let v302 : Index := Scalar.indexCast v234
  let c128_184 : Index := 128#32
  let c0_185 : Index := 0#32
  ![0, v302.toNat, 128, 0]
def k0_off50 (i : grid0.Coords) : Fin 4 → Nat :=
  let c0_193 : Index := 0#32
  let arg1 : BitVec 32 := BitVec.ofNat 32 (i 1).val
  let c1_i32_141 : BitVec 32 := 1#32
  let v233 : BitVec 32 := Scalar.subi arg1 c1_i32_141
  let c1_i32_140 : BitVec 32 := 1#32
  let v232 : BitVec 32 := Scalar.subi arg1 c1_i32_140
  let v234 : BitVec 32 := Scalar.subi v233 v232
  let v313 : Index := Scalar.indexCast v234
  let c192_194 : Index := 192#32
  let c0_195 : Index := 0#32
  ![0, v313.toNat, 192, 0]
def k0_off51 (i : grid0.Coords) : Fin 4 → Nat :=
  let c0_203 : Index := 0#32
  let arg1 : BitVec 32 := BitVec.ofNat 32 (i 1).val
  let c1_i32_141 : BitVec 32 := 1#32
  let v233 : BitVec 32 := Scalar.subi arg1 c1_i32_141
  let c1_i32_140 : BitVec 32 := 1#32
  let v232 : BitVec 32 := Scalar.subi arg1 c1_i32_140
  let v234 : BitVec 32 := Scalar.subi v233 v232
  let v324 : Index := Scalar.indexCast v234
  let c256_204 : Index := 256#32
  let c0_205 : Index := 0#32
  ![0, v324.toNat, 256, 0]
def k0_off52 (i : grid0.Coords) : Fin 4 → Nat :=
  let c0_213 : Index := 0#32
  let arg1 : BitVec 32 := BitVec.ofNat 32 (i 1).val
  let c1_i32_141 : BitVec 32 := 1#32
  let v233 : BitVec 32 := Scalar.subi arg1 c1_i32_141
  let c1_i32_140 : BitVec 32 := 1#32
  let v232 : BitVec 32 := Scalar.subi arg1 c1_i32_140
  let v234 : BitVec 32 := Scalar.subi v233 v232
  let v335 : Index := Scalar.indexCast v234
  let c320_214 : Index := 320#32
  let c0_215 : Index := 0#32
  ![0, v335.toNat, 320, 0]
def k0_off53 (i : grid0.Coords) : Fin 4 → Nat :=
  let c0_223 : Index := 0#32
  let arg1 : BitVec 32 := BitVec.ofNat 32 (i 1).val
  let c1_i32_141 : BitVec 32 := 1#32
  let v233 : BitVec 32 := Scalar.subi arg1 c1_i32_141
  let c1_i32_140 : BitVec 32 := 1#32
  let v232 : BitVec 32 := Scalar.subi arg1 c1_i32_140
  let v234 : BitVec 32 := Scalar.subi v233 v232
  let v346 : Index := Scalar.indexCast v234
  let c384_224 : Index := 384#32
  let c0_225 : Index := 0#32
  ![0, v346.toNat, 384, 0]
def k0_off54 (i : grid0.Coords) : Fin 4 → Nat :=
  let c0_233 : Index := 0#32
  let arg1 : BitVec 32 := BitVec.ofNat 32 (i 1).val
  let c1_i32_141 : BitVec 32 := 1#32
  let v233 : BitVec 32 := Scalar.subi arg1 c1_i32_141
  let c1_i32_140 : BitVec 32 := 1#32
  let v232 : BitVec 32 := Scalar.subi arg1 c1_i32_140
  let v234 : BitVec 32 := Scalar.subi v233 v232
  let v357 : Index := Scalar.indexCast v234
  let c448_234 : Index := 448#32
  let c0_235 : Index := 0#32
  ![0, v357.toNat, 448, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S272x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some (((Real.log 2)⁻¹ * 8⁻¹ : ℝ) : EReal)
  | _ => none
-- ==== ReferenceIdeal.lean ====
abbrev S4x4096x512 : Shape := ⟨3, ![4, 4096, 512]⟩
abbrev S4x4096x8x64 : Shape := ⟨4, ![4, 4096, 8, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x4096x4096 : Shape := ⟨4, ![4, 8, 4096, 4096]⟩
abbrev S_ : Shape := ⟨0, ![]⟩
abbrev S4x8x64x4096 : Shape := ⟨4, ![4, 8, 64, 4096]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x8x64, .f32⟩
  | .hbm, ⟨4, _⟩ => ⟨S4x4096x8x64, .f32⟩
  | .hbm, ⟨5, _⟩ => ⟨S4x4096x8x64, .f32⟩
  | .hbm, ⟨6, _⟩ => ⟨S4096, .i32⟩
  | .hbm, ⟨7, _⟩ => ⟨S1x4096, .i32⟩
  | .hbm, ⟨8, _⟩ => ⟨S4096x1, .i32⟩
  | .hbm, ⟨9, _⟩ => ⟨S4096x4096, .i32⟩
  | .hbm, ⟨10, _⟩ => ⟨S4096x4096, .i32⟩
  | .hbm, ⟨11, _⟩ => ⟨S4096x4096, .i1⟩
  | .hbm, ⟨12, _⟩ => ⟨S4x8x4096x4096, .f32⟩
  | .hbm, ⟨13, _⟩ => ⟨S_, .f32⟩
  | .hbm, ⟨14, _⟩ => ⟨S4x8x4096x4096, .f32⟩
  | .hbm, ⟨15, _⟩ => ⟨S4x8x4096x4096, .f32⟩
  | .hbm, ⟨16, _⟩ => ⟨S4x8x4096x4096, .f32⟩
  | .hbm, ⟨17, _⟩ => ⟨S_, .f32⟩
  | .hbm, ⟨18, _⟩ => ⟨S4x8x4096x4096, .f32⟩
  | .hbm, ⟨19, _⟩ => ⟨S4x8x4096x4096, .f32⟩
  | .hbm, ⟨20, _⟩ => ⟨S4x8x4096x4096, .f32⟩
  | .hbm, ⟨21, _⟩ => ⟨S4x8x4096x4096, .f32⟩
  | .hbm, ⟨22, _⟩ => ⟨S4x8x4096x4096, .i1⟩
  | .hbm, ⟨23, _⟩ => ⟨S4x8x4096x4096, .f32⟩
  | .hbm, ⟨24, _⟩ => ⟨S4x8x4096x4096, .f32⟩
  | .hbm, ⟨25, _⟩ => ⟨S4x8x4096x4096, .f32⟩
  | .hbm, ⟨26, _⟩ => ⟨S4x8x4096x4096, .f32⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S4x8x4096x4096, .f32⟩
  | .hbm, ⟨34, _⟩ => ⟨S_, .f32⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .i1⟩
  | .hbm, ⟨40, _⟩ => ⟨S4x8x4096x4096, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S4x8x4096x4096, .f32⟩
  | .hbm, ⟨45, _⟩ => ⟨S4x8x4096x4096, .f32⟩
  | .hbm, ⟨46, _⟩ => ⟨S4x8x4096x4096, .f32⟩
  | .hbm, ⟨47, _⟩ => ⟨S4x8x4096x4096, .f32⟩
  | .hbm, ⟨48, _⟩ => ⟨S4x8x4096x4096, .f32⟩
  | .hbm, ⟨49, _⟩ => ⟨S_, .f32⟩
  | .hbm, ⟨50, _⟩ => ⟨S_, .f32⟩
  | .hbm, ⟨51, _⟩ => ⟨S4x8x4096x4096, .i1⟩
  | .hbm, ⟨52, _⟩ => ⟨S4x8x4096x4096, .f32⟩
  | .hbm, ⟨53, _⟩ => ⟨S4x8x4096x4096, .f32⟩
  | .hbm, ⟨54, _⟩ => ⟨S_, .f32⟩
  | .hbm, ⟨55, _⟩ => ⟨S_, .f32⟩
  | .hbm, ⟨56, _⟩ => ⟨S4x8x4096x4096, .f32⟩
  | .hbm, ⟨57, _⟩ => ⟨S4x8x4096x4096, .f32⟩
  | .hbm, ⟨58, _⟩ => ⟨S4x8x4096x4096, .f32⟩
  | .hbm, ⟨59, _⟩ => ⟨S4x8x4096x4096, .f32⟩
  | .hbm, ⟨60, _⟩ => ⟨S_, .f32⟩
  | .hbm, ⟨61, _⟩ => ⟨S_, .f32⟩
  | .hbm, ⟨62, _⟩ => ⟨S4x8x4096x4096, .i1⟩
  | .hbm, ⟨63, _⟩ => ⟨S4x8x4096x4096, .f32⟩
  | .hbm, ⟨64, _⟩ => ⟨S4x8x4096x4096, .f32⟩
  | .hbm, ⟨65, _⟩ => ⟨S4x8x64x4096, .f32⟩
  | .hbm, ⟨66, _⟩ => ⟨S4x4096x8x64, .f32⟩
  | .hbm, ⟨67, _⟩ => ⟨S4x4096x512, .f32⟩
  | .hbm, ⟨68, _⟩ => ⟨S4x4096x512, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v12 : Ref sig .tc := ⟨.hbm, 31, rfl⟩
abbrev main_v13 : Ref sig .tc := ⟨.hbm, 32, rfl⟩
abbrev main_call1_v0 : Ref sig .tc := ⟨.hbm, 33, rfl⟩
abbrev main_call1_call0_cst : Ref sig .tc := ⟨.hbm, 34, rfl⟩
abbrev main_call1_call0_v0 : Ref sig .tc := ⟨.hbm, 35, rfl⟩
abbrev main_call1_call0_v1 : Ref sig .tc := ⟨.hbm, 36, rfl⟩
abbrev main_call1_call0_v2 : Ref sig .tc := ⟨.hbm, 37, rfl⟩
abbrev main_call1_call0_v3 : Ref sig .tc := ⟨.hbm, 38, rfl⟩
abbrev main_call1_call0_v4 : Ref sig .tc := ⟨.hbm, 39, rfl⟩
abbrev main_call1_call0_v5 : Ref sig .tc := ⟨.hbm, 40, rfl⟩
abbrev main_call1_call0_v6 : Ref sig .tc := ⟨.hbm, 41, rfl⟩
abbrev main_call1_call0_v7 : Ref sig .tc := ⟨.hbm, 42, rfl⟩
abbrev main_call1_call0_v8 : Ref sig .tc := ⟨.hbm, 43, rfl⟩
abbrev main_call1_call0_v9 : Ref sig .tc := ⟨.hbm, 44, rfl⟩
abbrev main_call1_call0_v10 : Ref sig .tc := ⟨.hbm, 45, rfl⟩
abbrev main_call1_call0_v11 : Ref sig .tc := ⟨.hbm, 46, rfl⟩
abbrev main_call1_v1 : Ref sig .tc := ⟨.hbm, 47, rfl⟩
abbrev main_v14 : Ref sig .tc := ⟨.hbm, 48, rfl⟩
abbrev main_cst_0 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v15 : Ref sig .tc := ⟨.hbm, 53, rfl⟩
abbrev main_call3_cst : Ref sig .tc := ⟨.hbm, 54, rfl⟩
abbrev main_call3_v0 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩

abbrev nD : Nat := 1
abbrev τ : Topo := Topo.v7x

variable {F : FTy → Type} [FloatOps F]
-- ==== Kernel2.lean ====
abbrev S16384x1024 : Shape := ⟨2, ![16384, 1024]⟩
abbrev S16384x16 : Shape := ⟨2, ![16384, 16]⟩
abbrev S16x1024x512 : Shape := ⟨3, ![16, 1024, 512]⟩
abbrev S16x512x1024 : Shape := ⟨3, ![16, 512, 1024]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S16x16384 : Shape := ⟨2, ![16, 16384]⟩
abbrev S16x1024 : Shape := ⟨2, ![16, 1024]⟩
abbrev S1024x16 : Shape := ⟨2, ![1024, 16]⟩
abbrev S2x1024x512 : Shape := ⟨3, ![2, 1024, 512]⟩
abbrev S2x512x1024 : Shape := ⟨3, ![2, 512, 1024]⟩
abbrev S160x1024 : Shape := ⟨2, ![160, 1024]⟩
abbrev S96x1024 : Shape := ⟨2, ![96, 1024]⟩
abbrev S1x1x1024 : Shape := ⟨3, ![1, 1, 1024]⟩
abbrev S1 : Shape := ⟨1, ![1]⟩
abbrev S1x1x1 : Shape := ⟨3, ![1, 1, 1]⟩
abbrev S1x1024x512 : Shape := ⟨3, ![1, 1024, 512]⟩
abbrev S1024x512 : Shape := ⟨2, ![1024, 512]⟩
abbrev S160x512 : Shape := ⟨2, ![160, 512]⟩
abbrev S1x512x1024 : Shape := ⟨3, ![1, 512, 1024]⟩
abbrev S512x1024 : Shape := ⟨2, ![512, 1024]⟩
abbrev S256x1024 : Shape := ⟨2, ![256, 1024]⟩
abbrev S1024x256 : Shape := ⟨2, ![1024, 256]⟩

abbrev nBuf : Space → Nat
  | .hbm => 21
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x16, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S1024, .f32⟩
  | .hbm, ⟨6, _⟩ => ⟨S1024, .f32⟩
  | .hbm, ⟨7, _⟩ => ⟨S1024, .i32⟩
  | .hbm, ⟨8, _⟩ => ⟨S1024x1, .i32⟩
  | .hbm, ⟨9, _⟩ => ⟨S1x1024, .i32⟩
  | .hbm, ⟨10, _⟩ => ⟨S1024x1024, .i32⟩
  | .hbm, ⟨11, _⟩ => ⟨S1024x1024, .i32⟩
  | .hbm, ⟨12, _⟩ => ⟨S1024x1024, .i1⟩
  | .hbm, ⟨13, _⟩ => ⟨S1024x1024, .bf16⟩
  | .hbm, ⟨14, _⟩ => ⟨S16x16384, .f32⟩
  | .hbm, ⟨15, _⟩ => ⟨S16x1024x512, .bf16⟩
  | .hbm, ⟨16, _⟩ => ⟨S16x1024x512, .bf16⟩
  | .hbm, ⟨17, _⟩ => ⟨S16x512x1024, .bf16⟩
  | .hbm, ⟨18, _⟩ => ⟨S1x1024, .f32⟩
  | .hbm, ⟨19, _⟩ => ⟨S1x1024, .f32⟩
  | .hbm, ⟨20, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1024x16, .f32⟩
  | .local _ .vmem, ⟨5, _⟩ => ⟨S1024x16, .f32⟩
  | .local _ .vmem, ⟨6, _⟩ => ⟨S1024x1024, .bf16⟩
  | .local _ .vmem, ⟨7, _⟩ => ⟨S2x1024x512, .bf16⟩
  | .local _ .vmem, ⟨8, _⟩ => ⟨S2x1024x512, .bf16⟩
  | .local _ .vmem, ⟨9, _⟩ => ⟨S2x1024x512, .bf16⟩
  | .local _ .vmem, ⟨10, _⟩ => ⟨S2x1024x512, .bf16⟩
  | .local _ .vmem, ⟨11, _⟩ => ⟨S2x512x1024, .bf16⟩
  | .local _ .vmem, ⟨12, _⟩ => ⟨S2x512x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S16x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 8], ![false, false]⟩

def k0_off1 (i : grid0.Coords) : Fin 2 → Nat :=
  let arg1 : BitVec 32 := BitVec.ofNat 32 (i 1).val
  let c2_i32 : BitVec 32 := 2#32
  let v8 : BitVec 32 := Scalar.muli arg1 c2_i32
  let c0_i32_2 : BitVec 32 := 0#32
  let v9 : BitVec 32 := Scalar.addi v8 c0_i32_2
  let v10 : Index := Scalar.indexCast v9
  let c0 : Index := 0#32
  ![v10.toNat, 0]
@[reducible] def k0_t1_loop (v30 : BitVec 32) : Scf.Loop 32 :=
  let c0_i32_17 : BitVec 32 := 0#32
  let v38 : BitVec 32 := Scalar.subi v30 c0_i32_17
  let c1_i32 : BitVec 32 := 1#32
  let v40 : BitVec 32 := Scalar.divsi v38 c1_i32
  let v41 : BitVec 32 := Scalar.muli v40 c1_i32
  let v42 : BitVec 32 := Scalar.addi c0_i32_17 v41
  let c1_i32_18 : BitVec 32 := 1#32
  ⟨c0_i32_17, v42, c1_i32_18⟩

@[reducible] def k0_t2_loop (v30 : BitVec 32) : Scf.Loop 32 :=
  let c0_i32_17 : BitVec 32 := 0#32
  let v38 : BitVec 32 := Scalar.subi v30 c0_i32_17
  let c1_i32 : BitVec 32 := 1#32
  let v40 : BitVec 32 := Scalar.divsi v38 c1_i32
  let v41 : BitVec 32 := Scalar.muli v40 c1_i32
  let v42 : BitVec 32 := Scalar.addi c0_i32_17 v41
  let v39 : BitVec 32 := Scalar.addi c0_i32_17 v38
  let c1_i32_19 : BitVec 32 := 1#32
  ⟨v42, v39, c1_i32_19⟩

def k0_chk1 (v30 : BitVec 32) : Prop :=
  ((k0_t1_loop v30).OK) ∧
  ((k0_t2_loop v30).OK)
theorem k0_t1_ok : ∀ (v30 : BitVec 32) (k0_hw1 : k0_chk1 v30), (k0_t1_loop v30).OK := fun v30 k0_hw1 => k0_hw1.1
theorem k0_t2_ok : ∀ (v30 : BitVec 32) (k0_hw1 : k0_chk1 v30), (k0_t2_loop v30).OK := fun v30 k0_hw1 => k0_hw1.2

def k0_off2 (i : grid0.Coords) : Fin 2 → Nat :=
  let arg1 : BitVec 32 := BitVec.ofNat 32 (i 1).val
  let c2_i32_20 : BitVec 32 := 2#32
  let v43 : BitVec 32 := Scalar.muli arg1 c2_i32_20
  let c1_i32_21 : BitVec 32 := 1#32
  let v44 : BitVec 32 := Scalar.addi v43 c1_i32_21
  let v45 : Index := Scalar.indexCast v44
  let c0_22 : Index := 0#32
  ![v45.toNat, 0]
@[reducible] def k0_t3_loop (v65 : BitVec 32) : Scf.Loop 32 :=
  let c0_i32_37 : BitVec 32 := 0#32
  let v73 : BitVec 32 := Scalar.subi v65 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_39 : BitVec 32 := 1#32
  ⟨c0_i32_37, v77, c1_i32_39⟩

@[reducible] def k0_t4_loop (v65 : BitVec 32) : Scf.Loop 32 :=
  let c0_i32_37 : BitVec 32 := 0#32
  let v73 : BitVec 32 := Scalar.subi v65 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let v74 : BitVec 32 := Scalar.addi c0_i32_37 v73
  let c1_i32_40 : BitVec 32 := 1#32
  ⟨v77, v74, c1_i32_40⟩

def k0_chk2 (v65 : BitVec 32) : Prop :=
  ((k0_t3_loop v65).OK) ∧
  ((k0_t4_loop v65).OK)
theorem k0_t3_ok : ∀ (v65 : BitVec 32) (k0_hw2 : k0_chk2 v65), (k0_t3_loop v65).OK := fun v65 k0_hw2 => k0_hw2.1
theorem k0_t4_ok : ∀ (v65 : BitVec 32) (k0_hw2 : k0_chk2 v65), (k0_t4_loop v65).OK := fun v65 k0_hw2 => k0_hw2.2

def k0_cond2 (i : grid0.Coords) : BitVec 1 :=
  let arg1 : BitVec 32 := BitVec.ofNat 32 (i 1).val
  let c7_i32 : BitVec 32 := 7#32
  let v78 : BitVec 1 := Scalar.cmpi .eq arg1 c7_i32
  let v79 : BitVec 32 := Scalar.extui v78
  let c0_i32_41 : BitVec 32 := 0#32
  let v80 : BitVec 1 := Scalar.cmpi .ne v79 c0_i32_41
  v80

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel2Ideal.lean ====
variable {F : FTy → Type} [FloatOps F] [Named F]
def κ : String → Option EReal := fun
  | "slot" => some ((160⁻¹ : ℝ) : EReal)
  | _ => none
-- ==== Reference2Ideal.lean ====
abbrev S16384x1024 : Shape := ⟨2, ![16384, 1024]⟩
abbrev S16384x16 : Shape := ⟨2, ![16384, 16]⟩
abbrev S16x1024x512 : Shape := ⟨3, ![16, 1024, 512]⟩
abbrev S16x512x1024 : Shape := ⟨3, ![16, 512, 1024]⟩
abbrev S1024 : Shape := ⟨1, ![1024]⟩
abbrev S_ : Shape := ⟨0, ![]⟩
abbrev S1x1024x512 : Shape := ⟨3, ![1, 1024, 512]⟩
abbrev S1024x512 : Shape := ⟨2, ![1024, 512]⟩
abbrev S16384x512 : Shape := ⟨2, ![16384, 512]⟩
abbrev S16384x1 : Shape := ⟨2, ![16384, 1]⟩
abbrev S1x512x1024 : Shape := ⟨3, ![1, 512, 1024]⟩
abbrev S512x1024 : Shape := ⟨2, ![512, 1024]⟩
abbrev S16384 : Shape := ⟨1, ![16384]⟩
abbrev S1x1024 : Shape := ⟨2, ![1, 1024]⟩

abbrev nBuf : Space → Nat
  | .hbm => 410
  | .vmem => 0
  | .smem => 0
  | _ => 0

abbrev hbmTy0_0 (i : Nat) : BufTy := match i % 128 with
  | 0 => ⟨S16384x1024, .f32⟩
  | 1 => ⟨S16384x16, .f32⟩
  | 2 => ⟨S16x1024x512, .f32⟩
  | 3 => ⟨S16x1024x512, .f32⟩
  | 4 => ⟨S16x512x1024, .f32⟩
  | 5 => ⟨S1024, .f32⟩
  | 6 => ⟨S1024, .f32⟩
  | 7 => ⟨S_, .f32⟩
  | 8 => ⟨S16384x1024, .f32⟩
  | 9 => ⟨S1x1024x512, .f32⟩
  | 10 => ⟨S1024x512, .f32⟩
  | 11 => ⟨S16384x512, .f32⟩
  | 12 => ⟨S16384x512, .f32⟩
  | 13 => ⟨S16384x512, .f32⟩
  | 14 => ⟨S_, .f32⟩
  | 15 => ⟨S16384x512, .f32⟩
  | 16 => ⟨S16384x512, .f32⟩
  | 17 => ⟨S_, .f32⟩
  | 18 => ⟨S16384x512, .f32⟩
  | 19 => ⟨S16384x512, .f32⟩
  | 20 => ⟨S16384x512, .f32⟩
  | 21 => ⟨S1x1024x512, .f32⟩
  | 22 => ⟨S1024x512, .f32⟩
  | 23 => ⟨S16384x512, .f32⟩
  | 24 => ⟨S16384x512, .f32⟩
  | 25 => ⟨S16384x1, .f32⟩
  | 26 => ⟨S1x512x1024, .f32⟩
  | 27 => ⟨S512x1024, .f32⟩
  | 28 => ⟨S16384x1024, .f32⟩
  | 29 => ⟨S16384x1024, .f32⟩
  | 30 => ⟨S16384x1024, .f32⟩
  | 31 => ⟨S16384x1024, .f32⟩
  | 32 => ⟨S1x1024x512, .f32⟩
  | 33 => ⟨S1024x512, .f32⟩
  | 34 => ⟨S16384x512, .f32⟩
  | 35 => ⟨S16384x512, .f32⟩
  | 36 => ⟨S16384x512, .f32⟩
  | 37 => ⟨S_, .f32⟩
  | 38 => ⟨S16384x512, .f32⟩
  | 39 => ⟨S16384x512, .f32⟩
  | 40 => ⟨S_, .f32⟩
  | 41 => ⟨S16384x512, .f32⟩
  | 42 => ⟨S16384x512, .f32⟩
  | 43 => ⟨S16384x512, .f32⟩
  | 44 => ⟨S1x1024x512, .f32⟩
  | 45 => ⟨S1024x512, .f32⟩
  | 46 => ⟨S16384x512, .f32⟩
  | 47 => ⟨S16384x512, .f32⟩
  | 48 => ⟨S16384x1, .f32⟩
  | 49 => ⟨S1x512x1024, .f32⟩
  | 50 => ⟨S512x1024, .f32⟩
  | 51 => ⟨S16384x1024, .f32⟩
  | 52 => ⟨S16384x1024, .f32⟩
  | 53 => ⟨S16384x1024, .f32⟩
  | 54 => ⟨S16384x1024, .f32⟩
  | 55 => ⟨S1x1024x512, .f32⟩
  | 56 => ⟨S1024x512, .f32⟩
  | 57 => ⟨S16384x512, .f32⟩
  | 58 => ⟨S16384x512, .f32⟩
  | 59 => ⟨S16384x512, .f32⟩
  | 60 => ⟨S_, .f32⟩
  | 61 => ⟨S16384x512, .f32⟩
  | 62 => ⟨S16384x512, .f32⟩
  | 63 => ⟨S_, .f32⟩
  | 64 => ⟨S16384x512, .f32⟩
  | 65 => ⟨S16384x512, .f32⟩
  | 66 => ⟨S16384x512, .f32⟩
  | 67 => ⟨S1x1024x512, .f32⟩
  | 68 => ⟨S1024x512, .f32⟩
  | 69 => ⟨S16384x512, .f32⟩
  | 70 => ⟨S16384x512, .f32⟩
  | 71 => ⟨S16384x1, .f32⟩
  | 72 => ⟨S1x512x1024, .f32⟩
  | 73 => ⟨S512x1024, .f32⟩
  | 74 => ⟨S16384x1024, .f32⟩
  | 75 => ⟨S16384x1024, .f32⟩
  | 76 => ⟨S16384x1024, .f32⟩
  | 77 => ⟨S16384x1024, .f32⟩
  | 78 => ⟨S1x1024x512, .f32⟩
  | 79 => ⟨S1024x512, .f32⟩
  | 80 => ⟨S16384x512, .f32⟩
  | 81 => ⟨S16384x512, .f32⟩
  | 82 => ⟨S16384x512, .f32⟩
  | 83 => ⟨S_, .f32⟩
  | 84 => ⟨S16384x512, .f32⟩
  | 85 => ⟨S16384x512, .f32⟩
  | 86 => ⟨S_, .f32⟩
  | 87 => ⟨S16384x512, .f32⟩
  | 88 => ⟨S16384x512, .f32⟩
  | 89 => ⟨S16384x512, .f32⟩
  | 90 => ⟨S1x1024x512, .f32⟩
  | 91 => ⟨S1024x512, .f32⟩
  | 92 => ⟨S16384x512, .f32⟩
  | 93 => ⟨S16384x512, .f32⟩
  | 94 => ⟨S16384x1, .f32⟩
  | 95 => ⟨S1x512x1024, .f32⟩
  | 96 => ⟨S512x1024, .f32⟩
  | 97 => ⟨S16384x1024, .f32⟩
  | 98 => ⟨S16384x1024, .f32⟩
  | 99 => ⟨S16384x1024, .f32⟩
  | 100 => ⟨S16384x1024, .f32⟩
  | 101 => ⟨S1x1024x512, .f32⟩
  | 102 => ⟨S1024x512, .f32⟩
  | 103 => ⟨S16384x512, .f32⟩
  | 104 => ⟨S16384x512, .f32⟩
  | 105 => ⟨S16384x512, .f32⟩
  | 106 => ⟨S_, .f32⟩
  | 107 => ⟨S16384x512, .f32⟩
  | 108 => ⟨S16384x512, .f32⟩
  | 109 => ⟨S_, .f32⟩
  | 110 => ⟨S16384x512, .f32⟩
  | 111 => ⟨S16384x512, .f32⟩
  | 112 => ⟨S16384x512, .f32⟩
  | 113 => ⟨S1x1024x512, .f32⟩
  | 114 => ⟨S1024x512, .f32⟩
  | 115 => ⟨S16384x512, .f32⟩
  | 116 => ⟨S16384x512, .f32⟩
  | 117 => ⟨S16384x1, .f32⟩
  | 118 => ⟨S1x512x1024, .f32⟩
  | 119 => ⟨S512x1024, .f32⟩
  | 120 => ⟨S16384x1024, .f32⟩
  | 121 => ⟨S16384x1024, .f32⟩
  | 122 => ⟨S16384x1024, .f32⟩
  | 123 => ⟨S16384x1024, .f32⟩
  | 124 => ⟨S1x1024x512, .f32⟩
  | 125 => ⟨S1024x512, .f32⟩
  | 126 => ⟨S16384x512, .f32⟩
  | 127 => ⟨S16384x512, .f32⟩
  | _ => ⟨S16384x1024, .f32⟩

abbrev hbmTy0_1 (i : Nat) : BufTy := match i % 128 with
  | 0 => ⟨S16384x512, .f32⟩
  | 1 => ⟨S_, .f32⟩
  | 2 => ⟨S16384x512, .f32⟩
  | 3 => ⟨S16384x512, .f32⟩
  | 4 => ⟨S_, .f32⟩
  | 5 => ⟨S16384x512, .f32⟩
  | 6 => ⟨S16384x512, .f32⟩
  | 7 => ⟨S16384x512, .f32⟩
  | 8 => ⟨S1x1024x512, .f32⟩
  | 9 => ⟨S1024x512, .f32⟩
  | 10 => ⟨S16384x512, .f32⟩
  | 11 => ⟨S16384x512, .f32⟩
  | 12 => ⟨S16384x1, .f32⟩
  | 13 => ⟨S1x512x1024, .f32⟩
  | 14 => ⟨S512x1024, .f32⟩
  | 15 => ⟨S16384x1024, .f32⟩
  | 16 => ⟨S16384x1024, .f32⟩
  | 17 => ⟨S16384x1024, .f32⟩
  | 18 => ⟨S16384x1024, .f32⟩
  | 19 => ⟨S1x1024x512, .f32⟩
  | 20 => ⟨S1024x512, .f32⟩
  | 21 => ⟨S16384x512, .f32⟩
  | 22 => ⟨S16384x512, .f32⟩
  | 23 => ⟨S16384x512, .f32⟩
  | 24 => ⟨S_, .f32⟩
  | 25 => ⟨S16384x512, .f32⟩
  | 26 => ⟨S16384x512, .f32⟩
  | 27 => ⟨S_, .f32⟩
  | 28 => ⟨S16384x512, .f32⟩
  | 29 => ⟨S16384x512, .f32⟩
  | 30 => ⟨S16384x512, .f32⟩
  | 31 => ⟨S1x1024x512, .f32⟩
  | 32 => ⟨S1024x512, .f32⟩
  | 33 => ⟨S16384x512, .f32⟩
  | 34 => ⟨S16384x512, .f32⟩
  | 35 => ⟨S16384x1, .f32⟩
  | 36 => ⟨S1x512x1024, .f32⟩
  | 37 => ⟨S512x1024, .f32⟩
  | 38 => ⟨S16384x1024, .f32⟩
  | 39 => ⟨S16384x1024, .f32⟩
  | 40 => ⟨S16384x1024, .f32⟩
  | 41 => ⟨S16384x1024, .f32⟩
  | 42 => ⟨S1x1024x512, .f32⟩
  | 43 => ⟨S1024x512, .f32⟩
  | 44 => ⟨S16384x512, .f32⟩
  | 45 => ⟨S16384x512, .f32⟩
  | 46 => ⟨S16384x512, .f32⟩
  | 47 => ⟨S_, .f32⟩
  | 48 => ⟨S16384x512, .f32⟩
  | 49 => ⟨S16384x512, .f32⟩
  | 50 => ⟨S_, .f32⟩
  | 51 => ⟨S16384x512, .f32⟩
  | 52 => ⟨S16384x512, .f32⟩
  | 53 => ⟨S16384x512, .f32⟩
  | 54 => ⟨S1x1024x512, .f32⟩
  | 55 => ⟨S1024x512, .f32⟩
  | 56 => ⟨S16384x512, .f32⟩
  | 57 => ⟨S16384x512, .f32⟩
  | 58 => ⟨S16384x1, .f32⟩
  | 59 => ⟨S1x512x1024, .f32⟩
  | 60 => ⟨S512x1024, .f32⟩
  | 61 => ⟨S16384x1024, .f32⟩
  | 62 => ⟨S16384x1024, .f32⟩
  | 63 => ⟨S16384x1024, .f32⟩
  | 64 => ⟨S16384x1024, .f32⟩
  | 65 => ⟨S1x1024x512, .f32⟩
  | 66 => ⟨S1024x512, .f32⟩
  | 67 => ⟨S16384x512, .f32⟩
  | 68 => ⟨S16384x512, .f32⟩
  | 69 => ⟨S16384x512, .f32⟩
  | 70 => ⟨S_, .f32⟩
  | 71 => ⟨S16384x512, .f32⟩
  | 72 => ⟨S16384x512, .f32⟩
  | 73 => ⟨S_, .f32⟩
  | 74 => ⟨S16384x512, .f32⟩
  | 75 => ⟨S16384x512, .f32⟩
  | 76 => ⟨S16384x512, .f32⟩
  | 77 => ⟨S1x1024x512, .f32⟩
  | 78 => ⟨S1024x512, .f32⟩
  | 79 => ⟨S16384x512, .f32⟩
  | 80 => ⟨S16384x512, .f32⟩
  | 81 => ⟨S16384x1, .f32⟩
  | 82 => ⟨S1x512x1024, .f32⟩
  | 83 => ⟨S512x1024, .f32⟩
  | 84 => ⟨S16384x1024, .f32⟩
  | 85 => ⟨S16384x1024, .f32⟩
  | 86 => ⟨S16384x1024, .f32⟩
  | 87 => ⟨S16384x1024, .f32⟩
  | 88 => ⟨S1x1024x512, .f32⟩
  | 89 => ⟨S1024x512, .f32⟩
  | 90 => ⟨S16384x512, .f32⟩
  | 91 => ⟨S16384x512, .f32⟩
  | 92 => ⟨S16384x512, .f32⟩
  | 93 => ⟨S_, .f32⟩
  | 94 => ⟨S16384x512, .f32⟩
  | 95 => ⟨S16384x512, .f32⟩
  | 96 => ⟨S_, .f32⟩
  | 97 => ⟨S16384x512, .f32⟩
  | 98 => ⟨S16384x512, .f32⟩
  | 99 => ⟨S16384x512, .f32⟩
  | 100 => ⟨S1x1024x512, .f32⟩
  | 101 => ⟨S1024x512, .f32⟩
  | 102 => ⟨S16384x512, .f32⟩
  | 103 => ⟨S16384x512, .f32⟩
  | 104 => ⟨S16384x1, .f32⟩
  | 105 => ⟨S1x512x1024, .f32⟩
  | 106 => ⟨S512x1024, .f32⟩
  | 107 => ⟨S16384x1024, .f32⟩
  | 108 => ⟨S16384x1024, .f32⟩
  | 109 => ⟨S16384x1024, .f32⟩
  | 110 => ⟨S16384x1024, .f32⟩
  | 111 => ⟨S1x1024x512, .f32⟩
  | 112 => ⟨S1024x512, .f32⟩
  | 113 => ⟨S16384x512, .f32⟩
  | 114 => ⟨S16384x512, .f32⟩
  | 115 => ⟨S16384x512, .f32⟩
  | 116 => ⟨S_, .f32⟩
  | 117 => ⟨S16384x512, .f32⟩
  | 118 => ⟨S16384x512, .f32⟩
  | 119 => ⟨S_, .f32⟩
  | 120 => ⟨S16384x512, .f32⟩
  | 121 => ⟨S16384x512, .f32⟩
  | 122 => ⟨S16384x512, .f32⟩
  | 123 => ⟨S1x1024x512, .f32⟩
  | 124 => ⟨S1024x512, .f32⟩
  | 125 => ⟨S16384x512, .f32⟩
  | 126 => ⟨S16384x512, .f32⟩
  | 127 => ⟨S16384x1, .f32⟩
  | _ => ⟨S16384x1024, .f32⟩

abbrev hbmTy0_2 (i : Nat) : BufTy := match i % 128 with
  | 0 => ⟨S1x512x1024, .f32⟩
  | 1 => ⟨S512x1024, .f32⟩
  | 2 => ⟨S16384x1024, .f32⟩
  | 3 => ⟨S16384x1024, .f32⟩
  | 4 => ⟨S16384x1024, .f32⟩
  | 5 => ⟨S16384x1024, .f32⟩
  | 6 => ⟨S1x1024x512, .f32⟩
  | 7 => ⟨S1024x512, .f32⟩
  | 8 => ⟨S16384x512, .f32⟩
  | 9 => ⟨S16384x512, .f32⟩
  | 10 => ⟨S16384x512, .f32⟩
  | 11 => ⟨S_, .f32⟩
  | 12 => ⟨S16384x512, .f32⟩
  | 13 => ⟨S16384x512, .f32⟩
  | 14 => ⟨S_, .f32⟩
  | 15 => ⟨S16384x512, .f32⟩
  | 16 => ⟨S16384x512, .f32⟩
  | 17 => ⟨S16384x512, .f32⟩
  | 18 => ⟨S1x1024x512, .f32⟩
  | 19 => ⟨S1024x512, .f32⟩
  | 20 => ⟨S16384x512, .f32⟩
  | 21 => ⟨S16384x512, .f32⟩
  | 22 => ⟨S16384x1, .f32⟩
  | 23 => ⟨S1x512x1024, .f32⟩
  | 24 => ⟨S512x1024, .f32⟩
  | 25 => ⟨S16384x1024, .f32⟩
  | 26 => ⟨S16384x1024, .f32⟩
  | 27 => ⟨S16384x1024, .f32⟩
  | 28 => ⟨S16384x1024, .f32⟩
  | 29 => ⟨S1x1024x512, .f32⟩
  | 30 => ⟨S1024x512, .f32⟩
  | 31 => ⟨S16384x512, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S_, .f32⟩
  | 38 => ⟨S16384x512, .f32⟩
  | 39 => ⟨S16384x512, .f32⟩
  | 40 => ⟨S16384x512, .f32⟩
  | 41 => ⟨S1x1024x512, .f32⟩
  | 42 => ⟨S1024x512, .f32⟩
  | 43 => ⟨S16384x512, .f32⟩
  | 44 => ⟨S16384x512, .f32⟩
  | 45 => ⟨S16384x1, .f32⟩
  | 46 => ⟨S1x512x1024, .f32⟩
  | 47 => ⟨S512x1024, .f32⟩
  | 48 => ⟨S16384x1024, .f32⟩
  | 49 => ⟨S16384x1024, .f32⟩
  | 50 => ⟨S16384x1024, .f32⟩
  | 51 => ⟨S16384x1024, .f32⟩
  | 52 => ⟨S1x1024x512, .f32⟩
  | 53 => ⟨S1024x512, .f32⟩
  | 54 => ⟨S16384x512, .f32⟩
  | 55 => ⟨S16384x512, .f32⟩
  | 56 => ⟨S16384x512, .f32⟩
  | 57 => ⟨S_, .f32⟩
  | 58 => ⟨S16384x512, .f32⟩
  | 59 => ⟨S16384x512, .f32⟩
  | 60 => ⟨S_, .f32⟩
  | 61 => ⟨S16384x512, .f32⟩
  | 62 => ⟨S16384x512, .f32⟩
  | 63 => ⟨S16384x512, .f32⟩
  | 64 => ⟨S1x1024x512, .f32⟩
  | 65 => ⟨S1024x512, .f32⟩
  | 66 => ⟨S16384x512, .f32⟩
  | 67 => ⟨S16384x512, .f32⟩
  | 68 => ⟨S16384x1, .f32⟩
  | 69 => ⟨S1x512x1024, .f32⟩
  | 70 => ⟨S512x1024, .f32⟩
  | 71 => ⟨S16384x1024, .f32⟩
  | 72 => ⟨S16384x1024, .f32⟩
  | 73 => ⟨S16384x1024, .f32⟩
  | 74 => ⟨S16384x1024, .f32⟩
  | 75 => ⟨S1x1024x512, .f32⟩
  | 76 => ⟨S1024x512, .f32⟩
  | 77 => ⟨S16384x512, .f32⟩
  | 78 => ⟨S16384x512, .f32⟩
  | 79 => ⟨S16384x512, .f32⟩
  | 80 => ⟨S_, .f32⟩
  | 81 => ⟨S16384x512, .f32⟩
  | 82 => ⟨S16384x512, .f32⟩
  | 83 => ⟨S_, .f32⟩
  | 84 => ⟨S16384x512, .f32⟩
  | 85 => ⟨S16384x512, .f32⟩
  | 86 => ⟨S16384x512, .f32⟩
  | 87 => ⟨S1x1024x512, .f32⟩
  | 88 => ⟨S1024x512, .f32⟩
  | 89 => ⟨S16384x512, .f32⟩
  | 90 => ⟨S16384x512, .f32⟩
  | 91 => ⟨S16384x1, .f32⟩
  | 92 => ⟨S1x512x1024, .f32⟩
  | 93 => ⟨S512x1024, .f32⟩
  | 94 => ⟨S16384x1024, .f32⟩
  | 95 => ⟨S16384x1024, .f32⟩
  | 96 => ⟨S16384x1024, .f32⟩
  | 97 => ⟨S16384x1024, .f32⟩
  | 98 => ⟨S1x1024x512, .f32⟩
  | 99 => ⟨S1024x512, .f32⟩
  | 100 => ⟨S16384x512, .f32⟩
  | 101 => ⟨S16384x512, .f32⟩
  | 102 => ⟨S16384x512, .f32⟩
  | 103 => ⟨S_, .f32⟩
  | 104 => ⟨S16384x512, .f32⟩
  | 105 => ⟨S16384x512, .f32⟩
  | 106 => ⟨S_, .f32⟩
  | 107 => ⟨S16384x512, .f32⟩
  | 108 => ⟨S16384x512, .f32⟩
  | 109 => ⟨S16384x512, .f32⟩
  | 110 => ⟨S1x1024x512, .f32⟩
  | 111 => ⟨S1024x512, .f32⟩
  | 112 => ⟨S16384x512, .f32⟩
  | 113 => ⟨S16384x512, .f32⟩
  | 114 => ⟨S16384x1, .f32⟩
  | 115 => ⟨S1x512x1024, .f32⟩
  | 116 => ⟨S512x1024, .f32⟩
  | 117 => ⟨S16384x1024, .f32⟩
  | 118 => ⟨S16384x1024, .f32⟩
  | 119 => ⟨S16384x1024, .f32⟩
  | 120 => ⟨S16384x1024, .f32⟩
  | 121 => ⟨S_, .f32⟩
  | 122 => ⟨S16384x1024, .f32⟩
  | 123 => ⟨S16384x1024, .f32⟩
  | 124 => ⟨S16384x1024, .f32⟩
  | 125 => ⟨S_, .f32⟩
  | 126 => ⟨S16384, .f32⟩
  | 127 => ⟨S16384x1, .f32⟩
  | _ => ⟨S16384x1024, .f32⟩

abbrev hbmTy0_3 (i : Nat) : BufTy := match i % 128 with
  | 0 => ⟨S_, .f32⟩
  | 1 => ⟨S16384x1, .f32⟩
  | 2 => ⟨S16384x1, .f32⟩
  | 3 => ⟨S16384x1024, .f32⟩
  | 4 => ⟨S16384x1024, .f32⟩
  | 5 => ⟨S16384x1024, .f32⟩
  | 6 => ⟨S_, .f32⟩
  | 7 => ⟨S16384, .f32⟩
  | 8 => ⟨S16384x1, .f32⟩
  | 9 => ⟨S_, .f32⟩
  | 10 => ⟨S16384x1, .f32⟩
  | 11 => ⟨S16384x1, .f32⟩
  | 12 => ⟨S16384x1024, .f32⟩
  | 13 => ⟨S16384x1024, .f32⟩
  | 14 => ⟨S_, .f32⟩
  | 15 => ⟨S16384x1, .f32⟩
  | 16 => ⟨S16384x1, .f32⟩
  | 17 => ⟨S16384x1, .f32⟩
  | 18 => ⟨S16384x1024, .f32⟩
  | 19 => ⟨S16384x1024, .f32⟩
  | 20 => ⟨S1x1024, .f32⟩
  | 21 => ⟨S16384x1024, .f32⟩
  | 22 => ⟨S16384x1024, .f32⟩
  | 23 => ⟨S1x1024, .f32⟩
  | 24 => ⟨S16384x1024, .f32⟩
  | 25 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call3_v0 : Ref sig .tc := ⟨.hbm, 81, rfl⟩
abbrev main_call3_v1 : Ref sig .tc := ⟨.hbm, 82, rfl⟩
abbrev main_call3_cst : Ref sig .tc := ⟨.hbm, 83, rfl⟩
abbrev main_call3_v2 : Ref sig .tc := ⟨.hbm, 84, rfl⟩
abbrev main_call3_v3 : Ref sig .tc := ⟨.hbm, 85, rfl⟩
abbrev main_call3_cst_0 : Ref sig .tc := ⟨.hbm, 86, rfl⟩
abbrev main_call3_v4 : Ref sig .tc := ⟨.hbm, 87, rfl⟩
abbrev main_call3_v5 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_call4_v0 : Ref sig .tc := ⟨.hbm, 104, rfl⟩
abbrev main_call4_v1 : Ref sig .tc := ⟨.hbm, 105, rfl⟩
abbrev main_call4_cst : Ref sig .tc := ⟨.hbm, 106, rfl⟩
abbrev main_call4_v2 : Ref sig .tc := ⟨.hbm, 107, rfl⟩
abbrev main_call4_v3 : Ref sig .tc := ⟨.hbm, 108, rfl⟩
abbrev main_call4_cst_0 : Ref sig .tc := ⟨.hbm, 109, rfl⟩
abbrev main_call4_v4 : Ref sig .tc := ⟨.hbm, 110, rfl⟩
abbrev main_call4_v5 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_call5_v0 : Ref sig .tc := ⟨.hbm, 127, rfl⟩
abbrev main_call5_v1 : Ref sig .tc := ⟨.hbm, 128, rfl⟩
abbrev main_call5_cst : Ref sig .tc := ⟨.hbm, 129, rfl⟩
abbrev main_call5_v2 : Ref sig .tc := ⟨.hbm, 130, rfl⟩
abbrev main_call5_v3 : Ref sig .tc := ⟨.hbm, 131, rfl⟩
abbrev main_call5_cst_0 : Ref sig .tc := ⟨.hbm, 132, rfl⟩
abbrev main_call5_v4 : Ref sig .tc := ⟨.hbm, 133, rfl⟩
abbrev main_call5_v5 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_call6_v0 : Ref sig .tc := ⟨.hbm, 150, rfl⟩
abbrev main_call6_v1 : Ref sig .tc := ⟨.hbm, 151, rfl⟩
abbrev main_call6_cst : Ref sig .tc := ⟨.hbm, 152, rfl⟩
abbrev main_call6_v2 : Ref sig .tc := ⟨.hbm, 153, rfl⟩
abbrev main_call6_v3 : Ref sig .tc := ⟨.hbm, 154, rfl⟩
abbrev main_call6_cst_0 : Ref sig .tc := ⟨.hbm, 155, rfl⟩
abbrev main_call6_v4 : Ref sig .tc := ⟨.hbm, 156, rfl⟩
abbrev main_call6_v5 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_call7_v0 : Ref sig .tc := ⟨.hbm, 173, rfl⟩
abbrev main_call7_v1 : Ref sig .tc := ⟨.hbm, 174, rfl⟩
abbrev main_call7_cst : Ref sig .tc := ⟨.hbm, 175, rfl⟩
abbrev main_call7_v2 : Ref sig .tc := ⟨.hbm, 176, rfl⟩
abbrev main_call7_v3 : Ref sig .tc := ⟨.hbm, 177, rfl⟩
abbrev main_call7_cst_0 : Ref sig .tc := ⟨.hbm, 178, rfl⟩
abbrev main_call7_v4 : Ref sig .tc := ⟨.hbm, 179, rfl⟩
abbrev main_call7_v5 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_call8_v0 : Ref sig .tc := ⟨.hbm, 196, rfl⟩
abbrev main_call8_v1 : Ref sig .tc := ⟨.hbm, 197, rfl⟩
abbrev main_call8_cst : Ref sig .tc := ⟨.hbm, 198, rfl⟩
abbrev main_call8_v2 : Ref sig .tc := ⟨.hbm, 199, rfl⟩
abbrev main_call8_v3 : Ref sig .tc := ⟨.hbm, 200, rfl⟩
abbrev main_call8_cst_0 : Ref sig .tc := ⟨.hbm, 201, rfl⟩
abbrev main_call8_v4 : Ref sig .tc := ⟨.hbm, 202, rfl⟩
abbrev main_call8_v5 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_call9_v0 : Ref sig .tc := ⟨.hbm, 219, rfl⟩
abbrev main_call9_v1 : Ref sig .tc := ⟨.hbm, 220, rfl⟩
abbrev main_call9_cst : Ref sig .tc := ⟨.hbm, 221, rfl⟩
abbrev main_call9_v2 : Ref sig .tc := ⟨.hbm, 222, rfl⟩
abbrev main_call9_v3 : Ref sig .tc := ⟨.hbm, 223, rfl⟩
abbrev main_call9_cst_0 : Ref sig .tc := ⟨.hbm, 224, rfl⟩
abbrev main_call9_v4 : Ref sig .tc := ⟨.hbm, 225, rfl⟩
abbrev main_call9_v5 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_call10_v0 : Ref sig .tc := ⟨.hbm, 242, rfl⟩
abbrev main_call10_v1 : Ref sig .tc := ⟨.hbm, 243, rfl⟩
abbrev main_call10_cst : Ref sig .tc := ⟨.hbm, 244, rfl⟩
abbrev main_call10_v2 : Ref sig .tc := ⟨.hbm, 245, rfl⟩
abbrev main_call10_v3 : Ref sig .tc := ⟨.hbm, 246, rfl⟩
abbrev main_call10_cst_0 : Ref sig .tc := ⟨.hbm, 247, rfl⟩
abbrev main_call10_v4 : Ref sig .tc := ⟨.hbm, 248, rfl⟩
abbrev main_call10_v5 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_call11_v0 : Ref sig .tc := ⟨.hbm, 265, rfl⟩
abbrev main_call11_v1 : Ref sig .tc := ⟨.hbm, 266, rfl⟩
abbrev main_call11_cst : Ref sig .tc := ⟨.hbm, 267, rfl⟩
abbrev main_call11_v2 : Ref sig .tc := ⟨.hbm, 268, rfl⟩
abbrev main_call11_v3 : Ref sig .tc := ⟨.hbm, 269, rfl⟩
abbrev main_call11_cst_0 : Ref sig .tc := ⟨.hbm, 270, rfl⟩
abbrev main_call11_v4 : Ref sig .tc := ⟨.hbm, 271, rfl⟩
abbrev main_call11_v5 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_call12_v0 : Ref sig .tc := ⟨.hbm, 288, rfl⟩
abbrev main_call12_v1 : Ref sig .tc := ⟨.hbm, 289, rfl⟩
abbrev main_call12_cst : Ref sig .tc := ⟨.hbm, 290, rfl⟩
abbrev main_call12_v2 : Ref sig .tc := ⟨.hbm, 291, rfl⟩
abbrev main_call12_v3 : Ref sig .tc := ⟨.hbm, 292, rfl⟩
abbrev main_call12_cst_0 : Ref sig .tc := ⟨.hbm, 293, rfl⟩
abbrev main_call12_v4 : Ref sig .tc := ⟨.hbm, 294, rfl⟩
abbrev main_call12_v5 : Ref sig .tc := ⟨.hbm, 295, rfl⟩
abbrev main_v184 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_v188 : Ref sig .tc := ⟨.hbm, 300, rfl⟩
abbrev main_v189 : Ref sig .tc := ⟨.hbm, 301, rfl⟩
abbrev main_v190 : Ref sig .tc := ⟨.hbm, 302, rfl⟩
abbrev main_v191 : Ref sig .tc := ⟨.hbm, 303, rfl⟩
abbrev main_v192 : Ref sig .tc := ⟨.hbm, 304, rfl⟩
abbrev main_v193 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_v198 : Ref sig .tc := ⟨.hbm, 310, rfl⟩
abbrev main_call13_v0 : Ref sig .tc := ⟨.hbm, 311, rfl⟩
abbrev main_call13_v1 : Ref sig .tc := ⟨.hbm, 312, rfl⟩
abbrev main_call13_cst : Ref sig .tc := ⟨.hbm, 313, rfl⟩
abbrev main_call13_v2 : Ref sig .tc := ⟨.hbm, 314, rfl⟩
abbrev main_call13_v3 : Ref sig .tc := ⟨.hbm, 315, rfl⟩
abbrev main_call13_cst_0 : Ref sig .tc := ⟨.hbm, 316, rfl⟩
abbrev main_call13_v4 : Ref sig .tc := ⟨.hbm, 317, rfl⟩
abbrev main_call13_v5 : Ref sig .tc := ⟨.hbm, 318, rfl⟩
abbrev main_v199 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_v203 : Ref sig .tc := ⟨.hbm, 323, rfl⟩
abbrev main_v204 : Ref sig .tc := ⟨.hbm, 324, rfl⟩
abbrev main_v205 : Ref sig .tc := ⟨.hbm, 325, rfl⟩
abbrev main_v206 : Ref sig .tc := ⟨.hbm, 326, rfl⟩
abbrev main_v207 : Ref sig .tc := ⟨.hbm, 327, rfl⟩
abbrev main_v208 : Ref sig .tc := ⟨.hbm, 328, rfl⟩
abbrev main_v209 : Ref sig .tc := ⟨.hbm, 329, rfl⟩
abbrev main_v210 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_call14_v0 : Ref sig .tc := ⟨.hbm, 334, rfl⟩
abbrev main_call14_v1 : Ref sig .tc := ⟨.hbm, 335, rfl⟩
abbrev main_call14_cst : Ref sig .tc := ⟨.hbm, 336, rfl⟩
abbrev main_call14_v2 : Ref sig .tc := ⟨.hbm, 337, rfl⟩
abbrev main_call14_v3 : Ref sig .tc := ⟨.hbm, 338, rfl⟩
abbrev main_call14_cst_0 : Ref sig .tc := ⟨.hbm, 339, rfl⟩
abbrev main_call14_v4 : Ref sig .tc := ⟨.hbm, 340, rfl⟩
abbrev main_call14_v5 : Ref sig .tc := ⟨.hbm, 341, rfl⟩
abbrev main_v214 : Ref sig .tc := ⟨.hbm, 342, rfl⟩
abbrev main_v215 : Ref sig .tc := ⟨.hbm, 343, rfl⟩
abbrev main_v216 : Ref sig .tc := ⟨.hbm, 344, rfl⟩
abbrev main_v217 : Ref sig .tc := ⟨.hbm, 345, rfl⟩
abbrev main_v218 : Ref sig .tc := ⟨.hbm, 346, rfl⟩
abbrev main_v219 : Ref sig .tc := ⟨.hbm, 347, rfl⟩
abbrev main_v220 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_v224 : Ref sig .tc := ⟨.hbm, 352, rfl⟩
abbrev main_v225 : Ref sig .tc := ⟨.hbm, 353, rfl⟩
abbrev main_v226 : Ref sig .tc := ⟨.hbm, 354, rfl⟩
abbrev main_v227 : Ref sig .tc := ⟨.hbm, 355, rfl⟩
abbrev main_v228 : Ref sig .tc := ⟨.hbm, 356, rfl⟩
abbrev main_call15_v0 : Ref sig .tc := ⟨.hbm, 357, rfl⟩
abbrev main_call15_v1 : Ref sig .tc := ⟨.hbm, 358, rfl⟩
abbrev main_call15_cst : Ref sig .tc := ⟨.hbm, 359, rfl⟩
abbrev main_call15_v2 : Ref sig .tc := ⟨.hbm, 360, rfl⟩
abbrev main_call15_v3 : Ref sig .tc := ⟨.hbm, 361, rfl⟩
abbrev main_call15_cst_0 : Ref sig .tc := ⟨.hbm, 362, rfl⟩
abbrev main_call15_v4 : Ref sig .tc := ⟨.hbm, 363, rfl⟩
abbrev main_call15_v5 : Ref sig .tc := ⟨.hbm, 364, rfl⟩
abbrev main_v229 : Ref sig .tc := ⟨.hbm, 365, rfl⟩
abbrev main_v230 : Ref sig .tc := ⟨.hbm, 366, rfl⟩
abbrev main_v231 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_v235 : Ref sig .tc := ⟨.hbm, 371, rfl⟩
abbrev main_v236 : Ref sig .tc := ⟨.hbm, 372, rfl⟩
abbrev main_v237 : Ref sig .tc := ⟨.hbm, 373, rfl⟩
abbrev main_v238 : Ref sig .tc := ⟨.hbm, 374, rfl⟩
abbrev main_v239 : Ref sig .tc := ⟨.hbm, 375, rfl⟩
abbrev main_v240 : Ref sig .tc := ⟨.hbm, 376, rfl⟩
abbrev main_cst_0 : Ref sig .tc := ⟨.hbm, 377, rfl⟩
abbrev main_v241 : Ref sig .tc := ⟨.hbm, 378, rfl⟩
abbrev main_v242 : Ref sig .tc := ⟨.hbm, 379, rfl⟩
abbrev main_v243 : Ref sig .tc := ⟨.hbm, 380, rfl⟩
abbrev main_cst_1 : Ref sig .tc := ⟨.hbm, 381, rfl⟩
abbrev main_v244 : Ref sig .tc := ⟨.hbm, 382, rfl⟩
abbrev main_v245 : Ref sig .tc := ⟨.hbm, 383, rfl⟩
abbrev main_cst_2 : Ref sig .tc := ⟨.hbm, 384, rfl⟩
abbrev main_v246 : Ref sig .tc := ⟨.hbm, 385, rfl⟩
abbrev main_v247 : Ref sig .tc := ⟨.hbm, 386, rfl⟩
abbrev main_v248 : Ref sig .tc := ⟨.hbm, 387, rfl⟩
abbrev main_v249 : Ref sig .tc := ⟨.hbm, 388, rfl⟩
abbrev main_v250 : Ref sig .tc := ⟨.hbm, 389, rfl⟩
abbrev main_cst_3 : Ref sig .tc := ⟨.hbm, 390, rfl⟩
abbrev main_v251 : Ref sig .tc := ⟨.hbm, 391, rfl⟩
abbrev main_v252 : Ref sig .tc := ⟨.hbm, 392, rfl⟩
abbrev main_cst_4 : Ref sig .tc := ⟨.hbm, 393, rfl⟩
abbrev main_v253 : Ref sig .tc := ⟨.hbm, 394, rfl⟩
abbrev main_v254 : Ref sig .tc := ⟨.hbm, 395, rfl⟩
abbrev main_v255 : Ref sig .tc := ⟨.hbm, 396, rfl⟩
abbrev main_v256 : Ref sig .tc := ⟨.hbm, 397, rfl⟩
abbrev main_cst_5 : Ref sig .tc := ⟨.hbm, 398, rfl⟩
abbrev main_v257 : Ref sig .tc := ⟨.hbm, 399, rfl⟩
abbrev main_v258 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_v262 : Ref sig .tc := ⟨.hbm, 404, rfl⟩
abbrev main_v263 : Ref sig .tc := ⟨.hbm, 405, rfl⟩
abbrev main_v264 : Ref sig .tc := ⟨.hbm, 406, rfl⟩
abbrev main_v265 : Ref sig .tc := ⟨.hbm, 407, rfl⟩
abbrev main_v266 : Ref sig .tc := ⟨.hbm, 408, rfl⟩
abbrev main_v267 : Ref sig .tc := ⟨.hbm, 409, rfl⟩

abbrev nD : Nat := 1
abbrev τ : Topo := Topo.v7x

variable {F : FTy → Type} [FloatOps F]
-- ==== Proof.MoeIdeal.RunA.lean ====
module

public import proofs.«01_k».proof.Proof.Gen.Kernel2Ideal.Frame.Runs

/-! The body of the experts' kernel run at the first step of a tile: the accumulator is cleared, the rounded tokens and the ranks are set, and the two experts of the step are added. What each buffer ends with is found by the run. -/

@[expose] public section

set_option maxRecDepth 16384

noncomputable section

namespace Cert.Kernel2Ideal.Moe

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffer of the ranks, which lives from step to step, as a view. -/
abbrev VS0_2 : View sig .tc .vmem S16x1024 .f32 := scM0_2.view

set_option maxHeartbeats 1000000 in
noncomputable def kernelRun0_A (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : cond0_0 i) (hc1 : ¬cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) :
    Σ' (L9 : List (View.Piece (Elt F) S1024x1024 .f32)), Σ' (LS0 : List (View.Piece (Elt F) S1024x1024 .f32)), Σ' (LS1 : List (View.Piece (Elt F) S1024x1024 .bf16)), { LS2 : List (View.Piece (Elt F) S16x1024 .f32) //
      ∀ (xi9 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc0_moe_eq_skeleton]; unfold cc0_moe_skel
    simp only [k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.Kernel2Ideal.Moe

end
-- ==== Proof.MoeIdeal.RunB.lean ====
module

public import proofs.«01_k».proof.Proof.MoeIdeal.RunA

/-! The body of the experts' kernel run at a step between the first and the last of a tile: the ranks and the rounded tokens are read as the step before left them, and the two experts of the step are added. -/

@[expose] public section

set_option maxRecDepth 16384

noncomputable section

namespace Cert.Kernel2Ideal.Moe

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1200000 in
noncomputable def kernelRun0_B (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : ¬cond0_0 i) (hc1 : ¬cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) (xs0 : Vec F S1024x1024 .f32) (xs1 : Vec F S1024x1024 .bf16) (xs2 : Vec F S16x1024 .f32) :
    Σ' (L9 : List (View.Piece (Elt F) S1024x1024 .f32)), Σ' (LS0 : List (View.Piece (Elt F) S1024x1024 .f32)), Σ' (LS1 : List (View.Piece (Elt F) S1024x1024 .bf16)), { LS2 : List (View.Piece (Elt F) S16x1024 .f32) //
      ∀ (xi9 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (arg12.view.loc (c : Thread nD τ) ↦[arg12.view.set]{fullShare} arg12.view.writes (Elt F) (harg12.unread xs0) LS0) ∗ owns (c : Thread nD τ) arg13 fullShare xs1 ∗ owns (c : Thread nD τ) arg14 fullShare xs2) -∗ K ⟨⟩))
          ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14) K } := by
  refine ⟨[], ?_, [], [], fun xi9 E K => ?run⟩
  case run =>
    simp only [cc0_moe_eq_skeleton]; unfold cc0_moe_skel
    simp only [k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexact HS0
    isplitl [HS1]
    · iexists _; isplitr; · ipureintro; exact harg13.read_unread _
      iexact HS1
    iexists _; isplitr; · ipureintro; exact harg14.read_unread _
    iexact HS2

end Cert.Kernel2Ideal.Moe

end
-- ==== Proof.MoeIdeal.RunC.lean ====
module

public import proofs.«01_k».proof.Proof.MoeIdeal.RunB

/-! The body of the experts' kernel run at the last step of a tile: as between, and the normalised sum is stored into the output. -/

@[expose] public section

set_option maxRecDepth 16384

noncomputable section

namespace Cert.Kernel2Ideal.Moe

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1200000 in
noncomputable def kernelRun0_C (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : ¬cond0_0 i) (hc1 : cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) (xs0 : Vec F S1024x1024 .f32) (xs1 : Vec F S1024x1024 .bf16) (xs2 : Vec F S16x1024 .f32) :
    Σ' (L9 : List (View.Piece (Elt F) S1024x1024 .f32)), Σ' (LS0 : List (View.Piece (Elt F) S1024x1024 .f32)), Σ' (LS1 : List (View.Piece (Elt F) S1024x1024 .bf16)), { LS2 : List (View.Piece (Elt F) S16x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread xs0) LS0) ∗ owns (c : Thread nD τ) arg13 fullShare xs1 ∗ owns (c : Thread nD τ) arg14 fullShare xs2) -∗ K ⟨⟩))
          ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14) K } := by
  refine ⟨?_, ?_, [], [], fun E K => ?run⟩
  case run =>
    simp only [cc0_moe_eq_skeleton]; unfold cc0_moe_skel
    simp only [k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexact HS0
    isplitl [HS1]
    · iexists _; isplitr; · ipureintro; exact harg13.read_unread _
      iexact HS1
    iexists _; isplitr; · ipureintro; exact harg14.read_unread _
    iexact HS2

end Cert.Kernel2Ideal.Moe

end
-- ==== Proof.MoeIdeal.Frame.lean ====
module

public import proofs.«01_k».proof.Proof.MoeIdeal.RunC
public import Idealize.ShloMosaic.Lib.Claim

/-! The frame of the experts' kernel: what the output and the three buffers that live from step to step (the accumulator, the rounded tokens and the ranks) hold after every step, and that the whole program leaves its arguments as they were. -/

@[expose] public section

set_option maxRecDepth 16384

noncomputable section

namespace Cert.Kernel2Ideal.Moe

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

def out0_A_9 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : cond0_0 i) (hc1 : ¬cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) : Vec F S1024x1024 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)

theorem scover0_A_0 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : cond0_0 i) (hc1 : ¬cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 (by sl_whole_mem) y

def sout0_A_0 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : cond0_0 i) (hc1 : ¬cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) : Vec F S1024x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)

theorem scover0_A_1 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : cond0_0 i) (hc1 : ¬cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S1024x1024.size (by sl_kernel_rfl) y

def sout0_A_1 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : cond0_0 i) (hc1 : ¬cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) : Vec F S1024x1024 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)

theorem scover0_A_2 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : cond0_0 i) (hc1 : ¬cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) (y : S16x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1 S16x1024.size (by sl_kernel_rfl) y

def sout0_A_2 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : cond0_0 i) (hc1 : ¬cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) : Vec F S16x1024 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1)

def out0_B_9 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : ¬cond0_0 i) (hc1 : ¬cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) (xs0 : Vec F S1024x1024 .f32) (xs1 : Vec F S1024x1024 .bf16) (xs2 : Vec F S16x1024 .f32) : Vec F S1024x1024 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

def sout0_B_0 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : ¬cond0_0 i) (hc1 : ¬cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) (xs0 : Vec F S1024x1024 .f32) (xs1 : Vec F S1024x1024 .bf16) (xs2 : Vec F S16x1024 .f32) : Vec F S1024x1024 .f32 :=
  arg12.view.read (Elt F) (arg12.view.writes (Elt F) (harg12.unread xs0) (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.1)

def sout0_B_1 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : ¬cond0_0 i) (hc1 : ¬cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) (xs0 : Vec F S1024x1024 .f32) (xs1 : Vec F S1024x1024 .bf16) (xs2 : Vec F S16x1024 .f32) : Vec F S1024x1024 .bf16 := xs1

def sout0_B_2 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : ¬cond0_0 i) (hc1 : ¬cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) (xs0 : Vec F S1024x1024 .f32) (xs1 : Vec F S1024x1024 .bf16) (xs2 : Vec F S16x1024 .f32) : Vec F S16x1024 .f32 := xs2

theorem cover0_C_9 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : ¬cond0_0 i) (hc1 : cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) (xs0 : Vec F S1024x1024 .f32) (xs1 : Vec F S1024x1024 .bf16) (xs2 : Vec F S16x1024 .f32) (y : S1024x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1 S1024x1024.size (by sl_kernel_rfl) y

def out0_C_9 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : ¬cond0_0 i) (hc1 : cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) (xs0 : Vec F S1024x1024 .f32) (xs1 : Vec F S1024x1024 .bf16) (xs2 : Vec F S16x1024 .f32) : Vec F S1024x1024 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

def sout0_C_0 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : ¬cond0_0 i) (hc1 : cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) (xs0 : Vec F S1024x1024 .f32) (xs1 : Vec F S1024x1024 .bf16) (xs2 : Vec F S16x1024 .f32) : Vec F S1024x1024 .f32 :=
  arg12.view.read (Elt F) (arg12.view.writes (Elt F) (harg12.unread xs0) (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.1)

def sout0_C_1 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : ¬cond0_0 i) (hc1 : cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) (xs0 : Vec F S1024x1024 .f32) (xs1 : Vec F S1024x1024 .bf16) (xs2 : Vec F S16x1024 .f32) : Vec F S1024x1024 .bf16 := xs1

def sout0_C_2 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole) (hc0 : ¬cond0_0 i) (hc1 : cond0_1 i)
    (x0 : Vec F S1024x1024 .f32) (x1 : Vec F S16x1024 .f32) (x2 : Vec F S1024x16 .f32) (x3 : Vec F S1024x1024 .bf16) (x4 : Vec F S2x1024x512 .bf16) (x5 : Vec F S2x1024x512 .bf16) (x6 : Vec F S2x512x1024 .bf16) (x7 : Vec F S1x1024 .f32) (x8 : Vec F S1x1024 .f32) (xs0 : Vec F S1024x1024 .f32) (xs1 : Vec F S1024x1024 .bf16) (xs2 : Vec F S16x1024 .f32) : Vec F S16x1024 .f32 := xs2

def outsAt0 (c : Dev nD) : (n : ℕ) → n < cfg0.N → Vec F S1024x1024 .f32 × Vec F S1024x1024 .f32 × Vec F S1024x1024 .bf16 × Vec F S16x1024 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 8 = 0 then
      if h1 : (n + 1) % 8 = 7 then
        False.elim (by have hN : n + 1 < 128 := lt_of_lt_of_eq hn (show cfg0.N = 128 from N_0); omega)
      else
        (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      if h1 : (n + 1) % 8 = 7 then
        (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 14400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        iintro ⟨H0, H1, H2, H3, H4, H5, H6, H7, H8, H9, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
      · rw [PhiS_castSucc m c t, PhiS_pos m c _ _ hz]
        rw [outsAt0_A m c t h0 h1]
        unfold sout0_A_0 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        isplitl [HS1]; · iexists _; iexact HS1
        isplitl [HS2]; · iexists _; iexact HS2
        iintro ⟨H0, H1, H2, H3, H4, H5, H6, H7, H8, H9, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1)], after0_9]
      by_cases hz : t.val = 0
      · exfalso; have hN : t.val < 128 := lt_of_lt_of_eq t.isLt (show cfg0.N = 128 from N_0); omega
      · rw [PhiS_castSucc m c t, PhiS_pos m c _ _ hz]
        rw [outsAt0_C m c t h0 h1]
        unfold out0_C_9 sout0_C_0 sout0_C_1 sout0_C_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        isplitl [HS1]; · iexact HS1
        isplitl [HS2]; · iexact HS2
        iintro ⟨H0, H1, H2, H3, H4, H5, H6, H7, H8, ⟨%e9, H9⟩, HS0, HS1, HS2⟩
        isplitl [HS0 HS1 HS2 Hg]
        · isplitl [HS0 HS1 HS2]
          · isplitl [HS0]
            · unfold owns; iexists _; isplitr
              swap; · iexact HS0
              ipureintro; rfl
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      by_cases hz : t.val = 0
      · exfalso; have hN : t.val < 128 := lt_of_lt_of_eq t.isLt (show cfg0.N = 128 from N_0); omega
      · rw [PhiS_castSucc m c t, PhiS_pos m c _ _ hz]
        rw [outsAt0_B m c t h0 h1]
        unfold sout0_B_0 sout0_B_1 sout0_B_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        iintro ⟨H0, H1, H2, H3, H4, H5, H6, H7, H8, H9, HS0, HS1, HS2⟩
        isplitl [HS0 HS1 HS2 Hg]
        · isplitl [HS0 HS1 HS2]
          · isplitl [HS0]
            · unfold owns; iexists _; isplitr
              swap; · iexact HS0
              ipureintro; rfl
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 128 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel2Ideal.Moe

end
-- ==== Proof.MoeIdeal.Value.lean ====
module

public import proofs.«01_k».proof.Proof.MoeIdeal.Frame
public import Idealize.ShloMosaic.Lib.Pipeline.Value

/-! The run of the experts' kernel: the array it leaves, as its steps write it, and its arguments as they were. -/

@[expose] public section

noncomputable section

namespace Cert.Kernel2Ideal.Moe.Value

open Cert.Kernel2Ideal.Gen
open Cert.Kernel2Ideal.Moe

open Cert.Kernel2Ideal Cert.Kernel2Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

theorem post9 (r : PUnit × MemSt nD τ sig (Elt F)) (h : Pipeline.FramePost cfgs (dats m) 0 (V m) r) (c : Dev nD) :
    r.2.mem ((c : Thread nD τ).loc main_v13) = (dats m 0 c).arrAt 9 cfg0.N :=
  (h c).1 9

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem run_blocks : θ_run defs (onTc (τ := τ) (main (F := F))) ⟨m, fun _ => 0, ρ⟩ fun r => ∀ c : Dev nD,
      r.2.mem ((c : Thread nD τ).loc main_v13) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post9 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.Kernel2Ideal.Moe.Value

end
-- ==== Proof.Step.lean ====
/- One key chunk of the stick-breaking kernel as a function of what it finds, and a trip of the chunk loop as two such steps. -/
module

public import proofs.«01_k».proof.Proof.Gen.KernelIdeal.Loops
public import Idealize.ShloMosaic.Lib.WritesUnit
public import Idealize.ShloMosaic.Lib.VecWindow
public import Idealize.ShloMosaic.Lib.Pipeline.FrameBody
public import Idealize.ShloMosaic.Lib.Pointwise.SelectCore

@[expose] public section

set_option maxRecDepth 8192

noncomputable section

namespace Cert.Stick

open Cert.KernelIdeal Cert.KernelIdeal.Gen
open Idealize.ShloMosaic Idealize.ShloMosaic.TcCoe Idealize.ShloMosaic.Tactic

variable {F : FTy → Type} [FloatOps F] [Named F]

theorem slices_head (h : Fin 8) : S256x2048.Slices ![0, 256 * h.val] S256x256 := by
  fin_cases h <;> decide

theorem inb_head (h : Fin 8) : ∀ a, (![h.val, 0, 0] : Fin 3 → Nat) a + S1x64x256.size a ≤ S8x64x256.size a := by
  fin_cases h <;> decide

/-- One head's block of the accumulator. -/
abbrev slab (h : Fin 8) : Rect S8x64x256 := Rect.unit (s := S8x64x256) ![h.val, 0, 0] S1x64x256.size (inb_head h)

/-- The whole carry. -/
abbrev wholeC : Rect S1x2048 := Rect.unit (s := S1x2048) ![0, 0] S1x2048.size inb_S1x2048_S1x2048_0_0

/-- One head's accumulator block after a chunk: its values against the chunk's attention weights added. -/
def updHead (h : Fin 8) (att : FVec F S256x2048 .bf16) (acc : Vec F S1x64x256 .f32) (vb : Vec F S1x1x64x256 .bf16) :
    FVec F S1x64x256 .f32 :=
  shapeCast S1x64x256 (addf (shapeCast S64x256 acc shapeCasts_S1x64x256_S64x256)
    (matmul dot_S64x256_S256x256_S64x256_1_0_0_1_n_n none (shapeCast S64x256 vb shapeCasts_S1x1x64x256_S64x256)
      (extractStridedSlice S256x256 ![0, 256 * h.val] att (slices_head h)) (constant S64x256 .f32 0x00000000#32)))
    shapeCasts_S64x256_S1x64x256

/-- The four blocks of queries, two heads each. -/
structure Queries (F : FTy → Type) where
  a : FVec F S128x512 .bf16
  b : FVec F S128x512 .bf16
  c : FVec F S128x512 .bf16
  d : FVec F S128x512 .bf16

/-- What the kernel keeps from chunk to chunk: each head's accumulator block and the carry. -/
structure St (F : FTy → Type) where
  acc : Fin 8 → Vec F S1x64x256 .f32
  carry : Vec F S1x2048 .f32

/-- The attention weights of an earlier chunk. -/
def attOf (q : Queries F) (kc : Vec F S1x256x512 .bf16) (u : Vec F S272x256 .bf16) (carry : Vec F S1x2048 .f32) :
    FVec F S256x2048 .bf16 :=
  k0_pay8 (k0_pay3 q.a q.b q.c q.d kc) (k0_pay5 q.a q.b q.c q.d kc u) (k0_pay6 carry)

/-- The carry after an earlier chunk. -/
def carryOf (q : Queries F) (kc : Vec F S1x256x512 .bf16) (u : Vec F S272x256 .bf16) (carry : Vec F S1x2048 .f32) :
    Vec F S1x2048 .f32 :=
  k0_pay7 (k0_pay4 q.a q.b q.c q.d kc u) carry

/-- An earlier chunk's step. -/
def step (q : Queries F) (u : Vec F S272x256 .bf16) (kc : Vec F S1x256x512 .bf16) (vb : Fin 8 → Vec F S1x1x64x256 .bf16)
    (s : St F) : St F where
  acc h := updHead h (attOf q kc u s.carry) (s.acc h) (vb h)
  carry := carryOf q kc u s.carry

/-- The attention weights of the diagonal chunk, from a carry. -/
def attDiag (q : Queries F) (kc : Vec F S1x256x512 .bf16) (u : Vec F S272x256 .bf16) (carry : Vec F S1x2048 .f32) :
    FVec F S256x2048 .bf16 :=
  k0_pay104 (k0_pay101 q.a q.b q.c q.d (k0_pay96 kc) u carry)

/-- The diagonal chunk's step. -/
def stepDiag (q : Queries F) (u : Vec F S272x256 .bf16) (kc : Vec F S1x256x512 .bf16)
    (vb : Fin 8 → Vec F S1x1x64x256 .bf16) (s : St F) : St F where
  acc h := updHead h (attDiag q kc u s.carry) (s.acc h) (vb h)
  carry := k0_pay103 (k0_pay102 q.a q.b q.c q.d (k0_pay96 kc) u s.carry)

/-- The state two scratch buffers' contents hold. -/
def stOf (arg7 : Memref sig .tc .vmem S8x64x256 .f32) (arg8 : Memref sig .tc .vmem S1x2048 .f32)
    (f7 : BufTy.Contents (Elt F) arg7.view.ty) (f8 : BufTy.Contents (Elt F) arg8.view.ty) : St F where
  acc h := arg7.view.readAt (Elt F) (slab h).toLoadRect f7
  carry := arg8.view.readAt (Elt F) wholeC.toLoadRect f8

section Reads
variable {sg : RefSig} {κ : Kind} {sp : Space} {s : Shape} {e : EltTy} {Val : EltTy → Type} (v : View sg κ sp s e)
  (f : v.ty.Contents Val)

/-- A load of the box just stored reads what was stored. -/
theorem readAt_same {o o' sz : Fin s.rank → ℕ} (h : ∀ a, o a + sz a ≤ s.size a) (h' : ∀ a, o' a + sz a ≤ s.size a)
    (w : (Rect.unit o sz h).shape.Idx → Val e) (L : List (View.Piece Val s e)) (ho : o = o') :
    v.readAt Val (Rect.unit o' sz h').toLoadRect (v.writes Val f (⟨Rect.unit o sz h, w⟩ :: L)) = w := by
  subst ho
  funext y
  rw [View.readAt_apply]
  exact View.read_writes_cons_unit_of_mem v f h w L _ y rfl (fun a => by
    show o a + 1 * (y a).val = _
    rw [Nat.one_mul])

/-- A load of a box clear of the one just stored, on some axis, reads what was there before. -/
theorem readAt_clear {o o' sz sz' : Fin s.rank → ℕ} (h : ∀ a, o a + sz a ≤ s.size a) (h' : ∀ a, o' a + sz' a ≤ s.size a)
    (w : (Rect.unit o sz h).shape.Idx → Val e) (L : List (View.Piece Val s e)) (a : Fin s.rank)
    (hc : o' a + sz' a ≤ o a ∨ o a + sz a ≤ o' a) :
    v.readAt Val (Rect.unit o' sz' h').toLoadRect (v.writes Val f (⟨Rect.unit o sz h, w⟩ :: L))
      = v.readAt Val (Rect.unit o' sz' h').toLoadRect (v.writes Val f L) := by
  funext y
  rw [View.readAt_apply, View.readAt_apply]
  refine View.read_writes_cons_unit_of_not_mem v f h w L _ rfl a ?_
  have hy : (((Rect.unit o' sz' h').toLoadRect.idx y) a).val = o' a + (y a).val := by
    show o' a + 1 * (y a).val = _
    rw [Nat.one_mul]
  have hl : (y a).val < sz' a := (y a).isLt
  rw [hy]
  omega

end Reads

/-- The same for boxes of a rank-3 buffer told apart by their first axis. -/
theorem readAt_head {sg : RefSig} {κ : Kind} {sp : Space} {d : Fin 3 → ℕ} {e : EltTy} {Val : EltTy → Type}
    {v : View sg κ sp ⟨3, d⟩ e} {f : v.ty.Contents Val} {o o' sz sz' : Fin 3 → ℕ} {h : ∀ a : Fin 3, o a + sz a ≤ d a}
    {h' : ∀ a : Fin 3, o' a + sz' a ≤ d a} {w : (Rect.unit (s := ⟨3, d⟩) o sz h).shape.Idx → Val e}
    {L : List (View.Piece Val ⟨3, d⟩ e)}
    (hc : o' 0 + sz' 0 ≤ o 0 ∨ o 0 + sz 0 ≤ o' 0) :
    v.readAt Val (Rect.unit (s := ⟨3, d⟩) o' sz' h').toLoadRect
        (v.writes Val f (⟨Rect.unit (s := ⟨3, d⟩) o sz h, w⟩ :: L))
      = v.readAt Val (Rect.unit (s := ⟨3, d⟩) o' sz' h').toLoadRect (v.writes Val f L) :=
  readAt_clear v f h h' w L (0 : Fin 3) hc

end Cert.Stick

end
-- ==== Proof.Chunks.lean ====
/- The key and value blocks of a chunk, where the kernel loads them from, and the state after a number of chunks. -/
module

public import proofs.«01_k».proof.Proof.Step
public import Idealize.ShloMosaic.Lib.WholeRead
public import Idealize.ShloMosaic.Lib.ValueIdxCore

@[expose] public section

set_option maxRecDepth 8192

noncomputable section

namespace Cert.Stick

open Cert.KernelIdeal Cert.KernelIdeal.Gen
open Idealize.ShloMosaic hiding ix2 ix3 ix4
open Idealize.ShloMosaic.TcCoe Idealize.ShloMosaic.Tactic
open Idealize.ShloMosaic.ValueIdx (ix2 ix3 ix4)

variable {F : FTy → Type} [FloatOps F] [Named F]

/-- Chunk `j`'s keys. -/
def kblk (x1 : Vec F S1x4096x512 .bf16) (j : Fin 16) : Vec F S1x256x512 .bf16 :=
  fun y => x1 (ix3 (0 : Fin 1) (⟨256 * j.val + (y 1).val, by
    have h : (y 1).val < 256 := (y 1).isLt
    omega⟩ : Fin 4096) (y 2))

/-- Chunk `j`'s values of head `h`. -/
def vblk (x2 : Vec F S1x16x512x256 .bf16) (j : Fin 16) (h : Fin 8) : Vec F S1x1x64x256 .bf16 :=
  fun y => x2 (ix4 (0 : Fin 1) j (⟨64 * h.val + (y 2).val, by
    have h : (y 2).val < 64 := (y 2).isLt
    omega⟩ : Fin 512) (y 3))

theorem read_kblk {m : Memref sig .tc .vmem S1x4096x512 .bf16} (hm : m.IsWhole) (x : Vec F S1x4096x512 .bf16)
    {o : Fin 3 → ℕ} (j : Fin 16) (ho : o = ![0, 256 * j.val, 0]) (hb : ∀ a, o a + S1x256x512.size a ≤ S1x4096x512.size a) :
    m.view.readAt (Elt F) (Rect.unit (s := S1x4096x512) o S1x256x512.size hb).toLoadRect (hm.unread x) = kblk x j := by
  subst ho
  funext y
  rw [hm.readAt_unread]
  refine congrArg x (funext fun a => Fin.ext ?_)
  match a with
  | ⟨0, _⟩ =>
    have h : (y 0).val < 1 := (y 0).isLt
    show 0 + 1 * (y 0).val = 0
    omega
  | ⟨1, _⟩ =>
    show 256 * j.val + 1 * (y 1).val = 256 * j.val + (y 1).val
    omega
  | ⟨2, _⟩ =>
    show 0 + 1 * (y 2).val = (y 2).val
    omega

theorem read_vblk {m : Memref sig .tc .vmem S1x16x512x256 .bf16} (hm : m.IsWhole) (x : Vec F S1x16x512x256 .bf16)
    {o : Fin 4 → ℕ} (j : Fin 16) (h : Fin 8) (ho : o = ![0, j.val, 64 * h.val, 0])
    (hb : ∀ a, o a + S1x1x64x256.size a ≤ S1x16x512x256.size a) :
    m.view.readAt (Elt F) (Rect.unit (s := S1x16x512x256) o S1x1x64x256.size hb).toLoadRect (hm.unread x) = vblk x j h := by
  subst ho
  funext y
  rw [hm.readAt_unread]
  refine congrArg x (funext fun a => Fin.ext ?_)
  match a with
  | ⟨0, _⟩ =>
    have h : (y 0).val < 1 := (y 0).isLt
    show 0 + 1 * (y 0).val = 0
    omega
  | ⟨1, _⟩ =>
    have h : (y 1).val < 1 := (y 1).isLt
    show j.val + 1 * (y 1).val = j.val
    omega
  | ⟨2, _⟩ =>
    show 64 * h.val + 1 * (y 2).val = 64 * h.val + (y 2).val
    omega
  | ⟨3, _⟩ =>
    show 0 + 1 * (y 3).val = (y 3).val
    omega

/-- A load of everything a whole buffer holds. -/
theorem read_all {s : Shape} {e : EltTy} {m : Memref sig .tc .vmem s e} (hm : m.IsWhole) (x : Vec F s e)
    {o : Fin s.rank → ℕ} (ho : ∀ a, o a = 0) (hb : ∀ a, o a + s.size a ≤ s.size a) :
    m.view.readAt (Elt F) (Rect.unit (s := s) o s.size hb).toLoadRect (hm.unread x) = x := by
  funext y
  rw [hm.readAt_unread]
  refine congrArg x (funext fun a => Fin.ext ?_)
  show o a + 1 * (y a).val = (y a).val
  rw [ho a]
  omega

/-- The four query blocks of a query chunk. -/
def queries (x0 : Vec F S1x1x512x256 .bf16) : Queries F := ⟨k0_pay90 x0, k0_pay91 x0, k0_pay92 x0, k0_pay93 x0⟩

/-- Zero accumulator and zero carry. -/
def st0 : St F where
  acc _ := fun _ => Scalar.ofBits .f32 0x00000000#32
  carry := fun _ => Scalar.ofBits .f32 0x00000000#32

/-- The chunk index `n + 1` before chunk `i`. -/
def earlier (i : Fin 16) (n : ℕ) : Fin 16 := ⟨i.val - 1 - n, by omega⟩

/-- The state after the diagonal chunk and `n` earlier ones. -/
def stAfter (x0 : Vec F S1x1x512x256 .bf16) (x1 : Vec F S1x4096x512 .bf16) (x2 : Vec F S1x16x512x256 .bf16)
    (x3 : Vec F S272x256 .bf16) (i : Fin 16) : ℕ → St F
  | 0 => stepDiag (queries x0) x3 (kblk x1 i) (vblk x2 i) st0
  | n + 1 => step (queries x0) x3 (kblk x1 (earlier i n)) (vblk x2 (earlier i n)) (stAfter x0 x1 x2 x3 i n)

/-! ## The offsets -/

theorem trips_t1 (i : grid0.Coords) : (k0_t1_loop i).trips = (i 1).val / 2 := by
  have h : (i 1).val < 16 := (i 1).isLt
  unfold k0_t1_loop
  dsimp only
  generalize (i 1).val = n at *
  interval_cases n <;> rfl

theorem trips_t2 (i : grid0.Coords) : (k0_t2_loop i).trips = 0 := by
  have h : (i 1).val < 16 := (i 1).isLt
  unfold k0_t2_loop
  dsimp only
  generalize (i 1).val = n at *
  interval_cases n <;> rfl

theorem off1 (i : grid0.Coords) : k0_off1 i = ![0, 256 * (i 1).val, 0] := by
  have h : (i 1).val < 16 := (i 1).isLt
  unfold k0_off1
  dsimp only
  generalize (i 1).val = n at *
  interval_cases n <;> rfl

theorem off2 (i : grid0.Coords) : k0_off2 i = ![0, (i 1).val, 0, 0] := by
  have h : (i 1).val < 16 := (i 1).isLt
  unfold k0_off2
  dsimp only
  generalize (i 1).val = n at *
  interval_cases n <;> rfl

theorem off3 (i : grid0.Coords) : k0_off3 i = ![0, (i 1).val, 64, 0] := by
  have h : (i 1).val < 16 := (i 1).isLt
  unfold k0_off3
  dsimp only
  generalize (i 1).val = n at *
  interval_cases n <;> rfl

theorem off4 (i : grid0.Coords) : k0_off4 i = ![0, (i 1).val, 128, 0] := by
  have h : (i 1).val < 16 := (i 1).isLt
  unfold k0_off4
  dsimp only
  generalize (i 1).val = n at *
  interval_cases n <;> rfl

theorem off5 (i : grid0.Coords) : k0_off5 i = ![0, (i 1).val, 192, 0] := by
  have h : (i 1).val < 16 := (i 1).isLt
  unfold k0_off5
  dsimp only
  generalize (i 1).val = n at *
  interval_cases n <;> rfl

theorem off6 (i : grid0.Coords) : k0_off6 i = ![0, (i 1).val, 256, 0] := by
  have h : (i 1).val < 16 := (i 1).isLt
  unfold k0_off6
  dsimp only
  generalize (i 1).val = n at *
  interval_cases n <;> rfl

theorem off7 (i : grid0.Coords) : k0_off7 i = ![0, (i 1).val, 320, 0] := by
  have h : (i 1).val < 16 := (i 1).isLt
  unfold k0_off7
  dsimp only
  generalize (i 1).val = n at *
  interval_cases n <;> rfl

theorem off8 (i : grid0.Coords) : k0_off8 i = ![0, (i 1).val, 384, 0] := by
  have h : (i 1).val < 16 := (i 1).isLt
  unfold k0_off8
  dsimp only
  generalize (i 1).val = n at *
  interval_cases n <;> rfl

theorem off9 (i : grid0.Coords) : k0_off9 i = ![0, (i 1).val, 448, 0] := by
  have h : (i 1).val < 16 := (i 1).isLt
  unfold k0_off9
  dsimp only
  generalize (i 1).val = n at *
  interval_cases n <;> rfl

theorem off10 (i : grid0.Coords) (k : Fin (k0_t1_loop i).trips) : k0_off10 i k = ![0, 256 * ((i 1).val - 1 - (2 * k.val + 0)), 0] := by
  have h : (i 1).val < 16 := (i 1).isLt
  have hk : k.val < (i 1).val / 2 := (trips_t1 i) ▸ k.isLt
  unfold k0_off10
  dsimp only
  generalize k.val = m at *
  generalize (i 1).val = n at *
  interval_cases n <;> first | omega | (interval_cases m <;> rfl)

theorem off11 (i : grid0.Coords) (k : Fin (k0_t1_loop i).trips) : k0_off11 i k = ![0, (i 1).val - 1 - (2 * k.val + 0), 0, 0] := by
  have h : (i 1).val < 16 := (i 1).isLt
  have hk : k.val < (i 1).val / 2 := (trips_t1 i) ▸ k.isLt
  unfold k0_off11
  dsimp only
  generalize k.val = m at *
  generalize (i 1).val = n at *
  interval_cases n <;> first | omega | (interval_cases m <;> rfl)

theorem off12 (i : grid0.Coords) (k : Fin (k0_t1_loop i).trips) : k0_off12 i k = ![0, (i 1).val - 1 - (2 * k.val + 0), 64, 0] := by
  have h : (i 1).val < 16 := (i 1).isLt
  have hk : k.val < (i 1).val / 2 := (trips_t1 i) ▸ k.isLt
  unfold k0_off12
  dsimp only
  generalize k.val = m at *
  generalize (i 1).val = n at *
  interval_cases n <;> first | omega | (interval_cases m <;> rfl)

theorem off13 (i : grid0.Coords) (k : Fin (k0_t1_loop i).trips) : k0_off13 i k = ![0, (i 1).val - 1 - (2 * k.val + 0), 128, 0] := by
  have h : (i 1).val < 16 := (i 1).isLt
  have hk : k.val < (i 1).val / 2 := (trips_t1 i) ▸ k.isLt
  unfold k0_off13
  dsimp only
  generalize k.val = m at *
  generalize (i 1).val = n at *
  interval_cases n <;> first | omega | (interval_cases m <;> rfl)

theorem off14 (i : grid0.Coords) (k : Fin (k0_t1_loop i).trips) : k0_off14 i k = ![0, (i 1).val - 1 - (2 * k.val + 0), 192, 0] := by
  have h : (i 1).val < 16 := (i 1).isLt
  have hk : k.val < (i 1).val / 2 := (trips_t1 i) ▸ k.isLt
  unfold k0_off14
  dsimp only
  generalize k.val = m at *
  generalize (i 1).val = n at *
  interval_cases n <;> first | omega | (interval_cases m <;> rfl)

theorem off15 (i : grid0.Coords) (k : Fin (k0_t1_loop i).trips) : k0_off15 i k = ![0, (i 1).val - 1 - (2 * k.val + 0), 256, 0] := by
  have h : (i 1).val < 16 := (i 1).isLt
  have hk : k.val < (i 1).val / 2 := (trips_t1 i) ▸ k.isLt
  unfold k0_off15
  dsimp only
  generalize k.val = m at *
  generalize (i 1).val = n at *
  interval_cases n <;> first | omega | (interval_cases m <;> rfl)

theorem off16 (i : grid0.Coords) (k : Fin (k0_t1_loop i).trips) : k0_off16 i k = ![0, (i 1).val - 1 - (2 * k.val + 0), 320, 0] := by
  have h : (i 1).val < 16 := (i 1).isLt
  have hk : k.val < (i 1).val / 2 := (trips_t1 i) ▸ k.isLt
  unfold k0_off16
  dsimp only
  generalize k.val = m at *
  generalize (i 1).val = n at *
  interval_cases n <;> first | omega | (interval_cases m <;> rfl)

theorem off17 (i : grid0.Coords) (k : Fin (k0_t1_loop i).trips) : k0_off17 i k = ![0, (i 1).val - 1 - (2 * k.val + 0), 384, 0] := by
  have h : (i 1).val < 16 := (i 1).isLt
  have hk : k.val < (i 1).val / 2 := (trips_t1 i) ▸ k.isLt
  unfold k0_off17
  dsimp only
  generalize k.val = m at *
  generalize (i 1).val = n at *
  interval_cases n <;> first | omega | (interval_cases m <;> rfl)

theorem off18 (i : grid0.Coords) (k : Fin (k0_t1_loop i).trips) : k0_off18 i k = ![0, (i 1).val - 1 - (2 * k.val + 0), 448, 0] := by
  have h : (i 1).val < 16 := (i 1).isLt
  have hk : k.val < (i 1).val / 2 := (trips_t1 i) ▸ k.isLt
  unfold k0_off18
  dsimp only
  generalize k.val = m at *
  generalize (i 1).val = n at *
  interval_cases n <;> first | omega | (interval_cases m <;> rfl)

theorem off19 (i : grid0.Coords) (k : Fin (k0_t1_loop i).trips) : k0_off19 i k = ![0, 256 * ((i 1).val - 1 - (2 * k.val + 1)), 0] := by
  have h : (i 1).val < 16 := (i 1).isLt
  have hk : k.val < (i 1).val / 2 := (trips_t1 i) ▸ k.isLt
  unfold k0_off19
  dsimp only
  generalize k.val = m at *
  generalize (i 1).val = n at *
  interval_cases n <;> first | omega | (interval_cases m <;> rfl)

theorem off20 (i : grid0.Coords) (k : Fin (k0_t1_loop i).trips) : k0_off20 i k = ![0, (i 1).val - 1 - (2 * k.val + 1), 0, 0] := by
  have h : (i 1).val < 16 := (i 1).isLt
  have hk : k.val < (i 1).val / 2 := (trips_t1 i) ▸ k.isLt
  unfold k0_off20
  dsimp only
  generalize k.val = m at *
  generalize (i 1).val = n at *
  interval_cases n <;> first | omega | (interval_cases m <;> rfl)

theorem off21 (i : grid0.Coords) (k : Fin (k0_t1_loop i).trips) : k0_off21 i k = ![0, (i 1).val - 1 - (2 * k.val + 1), 64, 0] := by
  have h : (i 1).val < 16 := (i 1).isLt
  have hk : k.val < (i 1).val / 2 := (trips_t1 i) ▸ k.isLt
  unfold k0_off21
  dsimp only
  generalize k.val = m at *
  generalize (i 1).val = n at *
  interval_cases n <;> first | omega | (interval_cases m <;> rfl)

theorem off22 (i : grid0.Coords) (k : Fin (k0_t1_loop i).trips) : k0_off22 i k = ![0, (i 1).val - 1 - (2 * k.val + 1), 128, 0] := by
  have h : (i 1).val < 16 := (i 1).isLt
  have hk : k.val < (i 1).val / 2 := (trips_t1 i) ▸ k.isLt
  unfold k0_off22
  dsimp only
  generalize k.val = m at *
  generalize (i 1).val = n at *
  interval_cases n <;> first | omega | (interval_cases m <;> rfl)

theorem off23 (i : grid0.Coords) (k : Fin (k0_t1_loop i).trips) : k0_off23 i k = ![0, (i 1).val - 1 - (2 * k.val + 1), 192, 0] := by
  have h : (i 1).val < 16 := (i 1).isLt
  have hk : k.val < (i 1).val / 2 := (trips_t1 i) ▸ k.isLt
  unfold k0_off23
  dsimp only
  generalize k.val = m at *
  generalize (i 1).val = n at *
  interval_cases n <;> first | omega | (interval_cases m <;> rfl)

theorem off24 (i : grid0.Coords) (k : Fin (k0_t1_loop i).trips) : k0_off24 i k = ![0, (i 1).val - 1 - (2 * k.val + 1), 256, 0] := by
  have h : (i 1).val < 16 := (i 1).isLt
  have hk : k.val < (i 1).val / 2 := (trips_t1 i) ▸ k.isLt
  unfold k0_off24
  dsimp only
  generalize k.val = m at *
  generalize (i 1).val = n at *
  interval_cases n <;> first | omega | (interval_cases m <;> rfl)

theorem off25 (i : grid0.Coords) (k : Fin (k0_t1_loop i).trips) : k0_off25 i k = ![0, (i 1).val - 1 - (2 * k.val + 1), 320, 0] := by
  have h : (i 1).val < 16 := (i 1).isLt
  have hk : k.val < (i 1).val / 2 := (trips_t1 i) ▸ k.isLt
  unfold k0_off25
  dsimp only
  generalize k.val = m at *
  generalize (i 1).val = n at *
  interval_cases n <;> first | omega | (interval_cases m <;> rfl)

theorem off26 (i : grid0.Coords) (k : Fin (k0_t1_loop i).trips) : k0_off26 i k = ![0, (i 1).val - 1 - (2 * k.val + 1), 384, 0] := by
  have h : (i 1).val < 16 := (i 1).isLt
  have hk : k.val < (i 1).val / 2 := (trips_t1 i) ▸ k.isLt
  unfold k0_off26
  dsimp only
  generalize k.val = m at *
  generalize (i 1).val = n at *
  interval_cases n <;> first | omega | (interval_cases m <;> rfl)

theorem off27 (i : grid0.Coords) (k : Fin (k0_t1_loop i).trips) : k0_off27 i k = ![0, (i 1).val - 1 - (2 * k.val + 1), 448, 0] := by
  have h : (i 1).val < 16 := (i 1).isLt
  have hk : k.val < (i 1).val / 2 := (trips_t1 i) ▸ k.isLt
  unfold k0_off27
  dsimp only
  generalize k.val = m at *
  generalize (i 1).val = n at *
  interval_cases n <;> first | omega | (interval_cases m <;> rfl)

theorem off46 (i : grid0.Coords) : k0_off46 i = ![0, 0, 0] := by
  have h : (i 1).val < 16 := (i 1).isLt
  unfold k0_off46
  dsimp only
  generalize (i 1).val = n at *
  interval_cases n <;> rfl

theorem off47 (i : grid0.Coords) : k0_off47 i = ![0, 0, 0, 0] := by
  have h : (i 1).val < 16 := (i 1).isLt
  unfold k0_off47
  dsimp only
  generalize (i 1).val = n at *
  interval_cases n <;> rfl

theorem off48 (i : grid0.Coords) : k0_off48 i = ![0, 0, 64, 0] := by
  have h : (i 1).val < 16 := (i 1).isLt
  unfold k0_off48
  dsimp only
  generalize (i 1).val = n at *
  interval_cases n <;> rfl

theorem off49 (i : grid0.Coords) : k0_off49 i = ![0, 0, 128, 0] := by
  have h : (i 1).val < 16 := (i 1).isLt
  unfold k0_off49
  dsimp only
  generalize (i 1).val = n at *
  interval_cases n <;> rfl

theorem off50 (i : grid0.Coords) : k0_off50 i = ![0, 0, 192, 0] := by
  have h : (i 1).val < 16 := (i 1).isLt
  unfold k0_off50
  dsimp only
  generalize (i 1).val = n at *
  interval_cases n <;> rfl

theorem off51 (i : grid0.Coords) : k0_off51 i = ![0, 0, 256, 0] := by
  have h : (i 1).val < 16 := (i 1).isLt
  unfold k0_off51
  dsimp only
  generalize (i 1).val = n at *
  interval_cases n <;> rfl

theorem off52 (i : grid0.Coords) : k0_off52 i = ![0, 0, 320, 0] := by
  have h : (i 1).val < 16 := (i 1).isLt
  unfold k0_off52
  dsimp only
  generalize (i 1).val = n at *
  interval_cases n <;> rfl

theorem off53 (i : grid0.Coords) : k0_off53 i = ![0, 0, 384, 0] := by
  have h : (i 1).val < 16 := (i 1).isLt
  unfold k0_off53
  dsimp only
  generalize (i 1).val = n at *
  interval_cases n <;> rfl

theorem off54 (i : grid0.Coords) : k0_off54 i = ![0, 0, 448, 0] := by
  have h : (i 1).val < 16 := (i 1).isLt
  unfold k0_off54
  dsimp only
  generalize (i 1).val = n at *
  interval_cases n <;> rfl

end Cert.Stick

end
-- ==== Proof.Spec.lean ====
/- Stick-breaking attention over the reals, and sums of reals among the extended reals. -/
module

public import Idealize.ShloMosaic.PureOps.Ideal
public import Idealize.ShloMosaic.PureOps.Ideal.Laws
public import Mathlib.Analysis.SpecialFunctions.Pow.Real

@[expose] public section

noncomputable section

namespace Cert.Stick

open Idealize.ShloMosaic

/-- A sum of reals among the extended reals is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The same, over the first `n` numbers. -/
theorem sum_fin {n : ℕ} (g : Fin n → EReal) (f : ℕ → ℝ) (h : ∀ x : Fin n, g x = ((f x.val : ℝ) : EReal)) :
    ∑ x, g x = ((∑ x ∈ Finset.range n, f x : ℝ) : EReal) := by
  rw [Finset.sum_congr rfl (fun x _ => h x), coe_sum, Fin.sum_univ_eq_sum_range]

variable (q k v : ℕ → ℕ → ℝ)

/-- The logit of query `T` and key `s` in head `h`, over `ln 2`. -/
def zz (h T s : ℕ) : ℝ := ∑ d ∈ Finset.range 64, k s (64 * h + d) * (q T (64 * h + d) * ((Real.log 2)⁻¹ * 8⁻¹))

/-- The base-two logarithm of the logistic function at `z · ln 2`. -/
def lb (z : ℝ) : ℝ := min z 0 - Real.log (1 + Real.rpow 2 (-|z|)) * (Real.log 2)⁻¹

/-- The base-two logarithm of what key `s` leaves of the stick; a key not before the query leaves all of it. -/
def lr (h T s : ℕ) : ℝ := if s < T then lb (zz q k h T s) - zz q k h T s else 0

/-- What the keys from `a` on leave. -/
def later (h T a : ℕ) : ℝ := ∑ s ∈ Finset.Ico a 4096, lr q k h T s

/-- The attention weight of key `s`. -/
def wt (h T s : ℕ) : ℝ := if s < T then Real.rpow 2 (lb (zz q k h T s) + later q k h T (s + 1)) else 0

/-- The part of the output that the keys from `a` on give. -/
def part (h d T a : ℕ) : ℝ := ∑ s ∈ Finset.Ico a 4096, v s (64 * h + d) * wt q k h T s

theorem lr_of_le {h T s : ℕ} (hs : T ≤ s) : lr q k h T s = 0 := if_neg (by omega)

theorem wt_of_le {h T s : ℕ} (hs : T ≤ s) : wt q k h T s = 0 := if_neg (by omega)

theorem later_of_le {h T a : ℕ} (ha : T ≤ a) : later q k h T a = 0 :=
  Finset.sum_eq_zero fun s hs => lr_of_le q k (ha.trans (Finset.mem_Ico.1 hs).1)

theorem part_of_le {h d T a : ℕ} (ha : T ≤ a) : part q k v h d T a = 0 :=
  Finset.sum_eq_zero fun s hs => by rw [wt_of_le q k (ha.trans (Finset.mem_Ico.1 hs).1), mul_zero]

/-- A sum over a chunk. -/
theorem sum_chunk (f : ℕ → ℝ) (a n : ℕ) : ∑ x ∈ Finset.range n, f (a + x) = ∑ s ∈ Finset.Ico a (a + n), f s := by
  rw [Finset.sum_Ico_eq_sum_range, Nat.add_sub_cancel_left]

/-- A row of the matrix of later keys sums what comes after the row's key in the chunk. -/
theorem sum_later (f : ℕ → ℝ) (a r n : ℕ) (hr : r < n) :
    ∑ x ∈ Finset.range n, (if x ≤ r then 0 else 1) * f (a + x) = ∑ s ∈ Finset.Ico (a + r + 1) (a + n), f s := by
  rw [Finset.range_eq_Ico, ← Finset.sum_Ico_consecutive _ (Nat.zero_le (r + 1)) (by omega : r + 1 ≤ n)]
  rw [Finset.sum_eq_zero (s := Finset.Ico 0 (r + 1)) (fun x hx => by
    rw [if_pos (by have := (Finset.mem_Ico.1 hx).2; omega), zero_mul]), zero_add]
  rw [show a + r + 1 = r + 1 + a by omega, show a + n = n + a by omega, ← Finset.sum_Ico_add f (r + 1) n a]
  exact Finset.sum_congr rfl fun x hx => by rw [if_neg (by have := (Finset.mem_Ico.1 hx).1; omega), one_mul]

theorem later_chunk (h T j : ℕ) (hj : j < 16) :
    later q k h T (256 * (j + 1)) + ∑ x ∈ Finset.range 256, lr q k h T (256 * j + x) = later q k h T (256 * j) := by
  unfold later
  rw [sum_chunk, show 256 * (j + 1) = 256 * j + 256 by ring, add_comm]
  exact Finset.sum_Ico_consecutive _ (by omega) (by omega)

theorem later_row (h T j r : ℕ) (hj : j < 16) (hr : r < 256) :
    ∑ x ∈ Finset.range 256, (if x ≤ r then 0 else 1) * lr q k h T (256 * j + x) + later q k h T (256 * (j + 1))
      = later q k h T (256 * j + r + 1) := by
  unfold later
  rw [sum_later _ _ _ _ hr, show 256 * (j + 1) = 256 * j + 256 by ring]
  exact Finset.sum_Ico_consecutive _ (by omega) (by omega)

theorem part_chunk (h d T j : ℕ) (hj : j < 16) :
    part q k v h d T (256 * (j + 1)) + ∑ x ∈ Finset.range 256, v (256 * j + x) (64 * h + d) * wt q k h T (256 * j + x)
      = part q k v h d T (256 * j) := by
  unfold part
  rw [sum_chunk (fun s => v s (64 * h + d) * wt q k h T s), show 256 * (j + 1) = 256 * j + 256 by ring, add_comm]
  exact Finset.sum_Ico_consecutive _ (by omega) (by omega)

theorem coe_max (a b : ℝ) : ((max a b : ℝ) : EReal) = max (a : EReal) (b : EReal) := EReal.coe_strictMono.monotone.map_max

theorem coe_min (a b : ℝ) : ((min a b : ℝ) : EReal) = min (a : EReal) (b : EReal) := EReal.coe_strictMono.monotone.map_min

/-- The logarithm of the logistic function, as the kernel spells it. -/
theorem lb_eq (z : ℝ) :
    min ((z : ℝ) : EReal) 0 - Ideal.log (1 + Ideal.exp2 (0 - max ((z : ℝ) : EReal) (-(z : EReal)))) * (((Real.log 2)⁻¹ : ℝ) : EReal)
      = ((lb z : ℝ) : EReal) := by
  have h1 : max ((z : ℝ) : EReal) (-(z : EReal)) = ((|z| : ℝ) : EReal) := by
    rw [← EReal.coe_neg]; exact (coe_max _ _).symm
  have h0 : (0 : ℝ) < Real.rpow 2 (-|z|) := Real.rpow_pos_of_pos (by norm_num) _
  rw [h1, ← EReal.coe_zero, ← EReal.coe_sub, zero_sub, Ideal.exp2_coe, ← EReal.coe_one, ← EReal.coe_add, Ideal.log_coe,
    if_neg (by linarith), ← EReal.coe_mul, ← coe_min, ← EReal.coe_sub]
  rfl

/-- A pair's block of queries: two heads on the diagonal, zero off it. -/
def pq (i p r c : ℕ) : ℝ :=
  if r < 64 then if c < 256 then q (256 * i + c) (128 * p + r) * ((Real.log 2)⁻¹ * 8⁻¹) else 0
  else if c < 256 then 0 else q (256 * i + (c - 256)) (128 * p + r) * ((Real.log 2)⁻¹ * 8⁻¹)

/-- The product of a pair's keys with its block of queries is the logit of the column's head. -/
theorem pair_sum (i p h t s c : ℕ) (ht : t < 256) (hc : (h = 2 * p ∧ c = t) ∨ (h = 2 * p + 1 ∧ c = 256 + t)) :
    ∑ r ∈ Finset.range 128, k s (128 * p + r) * pq q i p r c = zz q k h (256 * i + t) s := by
  rw [Finset.range_eq_Ico, ← Finset.sum_Ico_consecutive _ (Nat.zero_le 64) (by omega : 64 ≤ 128)]
  unfold zz
  rcases hc with ⟨rfl, rfl⟩ | ⟨rfl, rfl⟩
  · rw [Finset.sum_eq_zero (s := Finset.Ico 64 128) (fun r hr => by
      have := (Finset.mem_Ico.1 hr).1
      rw [pq, if_neg (by omega), if_pos ht, mul_zero]), add_zero, ← Finset.range_eq_Ico]
    refine Finset.sum_congr rfl fun r hr => ?_
    rw [pq, if_pos (Finset.mem_range.1 hr), if_pos ht, show 64 * (2 * p) + r = 128 * p + r by ring]
  · rw [Finset.sum_eq_zero (s := Finset.Ico 0 64) (fun r hr => by
      have := (Finset.mem_Ico.1 hr).2
      rw [pq, if_pos (by omega), if_neg (by omega), mul_zero]), zero_add, Finset.sum_Ico_eq_sum_range]
    refine Finset.sum_congr rfl fun r hr => ?_
    rw [pq, if_neg (by omega), if_neg (by omega), show 64 * (2 * p + 1) + r = 128 * p + (64 + r) by ring,
      show 256 + t - 256 = t by omega]

end Cert.Stick

end
-- ==== Proof.Points.lean ====
/- The kernel's stored words over the reals, read at an index. -/
module

public import proofs.«01_k».proof.Proof.Chunks
public import proofs.«01_k».proof.Proof.Spec
public import Idealize.ShloMosaic.Lib.Pointwise

@[expose] public section

set_option maxRecDepth 8192

noncomputable section

namespace Cert.Stick

open Cert.KernelIdeal Cert.KernelIdeal.Gen
open Idealize.ShloMosaic

theorem named_qscale : (Named.named κ "qscale" 0x3E38AA3B#32 : Ideal .f32) = (((Real.log 2)⁻¹ * 8⁻¹ : ℝ) : EReal) :=
  (IdealRules.named_const.statement Cert.KernelIdeal.κ "qscale" .f32 0x3E38AA3B#32 (((Real.log 2)⁻¹ * 8⁻¹ : ℝ) : EReal) rfl).2.2

theorem named_log2e : (Named.named κ "log2e" 0x3FB8AA3B#32 : Ideal .f32) = (((Real.log 2)⁻¹ : ℝ) : EReal) :=
  (IdealRules.named_const.statement Cert.KernelIdeal.κ "log2e" .f32 0x3FB8AA3B#32 (((Real.log 2)⁻¹ : ℝ) : EReal) rfl).2.2

/-- A column of a chunk: head `h`, query `t`. -/
abbrev col (h : Fin 8) (t : Fin 256) : Fin 2048 := ⟨256 * h.val + t.val, by omega⟩

section
variable (q k v : ℕ → ℕ → ℝ)

/-- A block of queries holds a pair's queries. -/
abbrev IsPair (i p : ℕ) (Q : FVec Ideal S128x512 .bf16) : Prop :=
  ∀ (r : Fin 128) (c : Fin 512), Q (ix2 r c) = ((pq q i p r.val c.val : ℝ) : EReal)

variable (i : ℕ) (x0 : Vec Ideal S1x1x512x256 .bf16)
  (hx0 : ∀ (f : Fin 512) (t : Fin 256), x0 (ix4 0 0 f t) = ((q (256 * i + t.val) f.val : ℝ) : EReal))
include hx0

theorem pay88_at (f : Fin 512) (t : Fin 256) :
    k0_pay88 x0 (ix2 f t) = ((q (256 * i + t.val) f.val * ((Real.log 2)⁻¹ * 8⁻¹) : ℝ) : EReal) := by
  pointwise [k0_pay88]
  rw [hx0, named_qscale, ← EReal.coe_mul]

theorem pay90_at : IsPair q i 0 (k0_pay90 x0) := by
  intro r c
  pointwise [k0_pay90, k0_pay89]
  unfold pq
  by_cases h1 : r.val < 64 <;> by_cases h2 : c.val < 256
  · rw [dif_pos h1, dif_pos h2, if_pos h1, if_pos h2]
    refine (pay88_at q i x0 hx0 _ _).trans ?_
    dsimp only
    rw [show 128 * 0 + r.val = r.val by omega]
  · rw [dif_pos h1, dif_neg h2, if_pos h1, if_neg h2]
    rfl
  · rw [dif_neg h1, dif_pos h2, if_neg h1, if_pos h2]
    rfl
  · rw [dif_neg h1, dif_neg h2, if_neg h1, if_neg h2]
    refine (pay88_at q i x0 hx0 _ _).trans ?_
    dsimp only
    rw [show 64 + (r.val - 64) = 128 * 0 + r.val by omega]

theorem pay91_at : IsPair q i 1 (k0_pay91 x0) := by
  intro r c
  pointwise [k0_pay91, k0_pay89]
  unfold pq
  by_cases h1 : r.val < 64 <;> by_cases h2 : c.val < 256
  · rw [dif_pos h1, dif_pos h2, if_pos h1, if_pos h2]
    refine (pay88_at q i x0 hx0 _ _).trans ?_
    dsimp only
  · rw [dif_pos h1, dif_neg h2, if_pos h1, if_neg h2]
    rfl
  · rw [dif_neg h1, dif_pos h2, if_neg h1, if_pos h2]
    rfl
  · rw [dif_neg h1, dif_neg h2, if_neg h1, if_neg h2]
    refine (pay88_at q i x0 hx0 _ _).trans ?_
    dsimp only
    rw [show 192 + (r.val - 64) = 128 * 1 + r.val by omega]

theorem pay92_at : IsPair q i 2 (k0_pay92 x0) := by
  intro r c
  pointwise [k0_pay92, k0_pay89]
  unfold pq
  by_cases h1 : r.val < 64 <;> by_cases h2 : c.val < 256
  · rw [dif_pos h1, dif_pos h2, if_pos h1, if_pos h2]
    refine (pay88_at q i x0 hx0 _ _).trans ?_
    dsimp only
  · rw [dif_pos h1, dif_neg h2, if_pos h1, if_neg h2]
    rfl
  · rw [dif_neg h1, dif_pos h2, if_neg h1, if_pos h2]
    rfl
  · rw [dif_neg h1, dif_neg h2, if_neg h1, if_neg h2]
    refine (pay88_at q i x0 hx0 _ _).trans ?_
    dsimp only
    rw [show 320 + (r.val - 64) = 128 * 2 + r.val by omega]

theorem pay93_at : IsPair q i 3 (k0_pay93 x0) := by
  intro r c
  pointwise [k0_pay93, k0_pay89]
  unfold pq
  by_cases h1 : r.val < 64 <;> by_cases h2 : c.val < 256
  · rw [dif_pos h1, dif_pos h2, if_pos h1, if_pos h2]
    refine (pay88_at q i x0 hx0 _ _).trans ?_
    dsimp only
  · rw [dif_pos h1, dif_neg h2, if_pos h1, if_neg h2]
    rfl
  · rw [dif_neg h1, dif_pos h2, if_neg h1, if_pos h2]
    rfl
  · rw [dif_neg h1, dif_neg h2, if_neg h1, if_neg h2]
    refine (pay88_at q i x0 hx0 _ _).trans ?_
    dsimp only
    rw [show 448 + (r.val - 64) = 128 * 3 + r.val by omega]

end

section
variable (q k v : ℕ → ℕ → ℝ) (i j : ℕ) {Qa Qb Qc Qd : FVec Ideal S128x512 .bf16} (ha : IsPair q i 0 Qa) (hb : IsPair q i 1 Qb)
  (hc : IsPair q i 2 Qc) (hd : IsPair q i 3 Qd) {kc : Vec Ideal S1x256x512 .bf16}
  (hk : ∀ (s : Fin 256) (f : Fin 512), kc (ix3 0 s f) = ((k (256 * j + s.val) f.val : ℝ) : EReal))

theorem pair_at (p : ℕ) {Q : FVec Ideal S128x512 .bf16} (hQ : IsPair q i p Q) (h : Fin 8) (t s : Fin 256) (c : Fin 512)
    (hc : (h.val = 2 * p ∧ c.val = t.val) ∨ (h.val = 2 * p + 1 ∧ c.val = 256 + t.val)) (K : Fin 128 → EReal)
    (hK : ∀ r, K r = ((k (256 * j + s.val) (128 * p + r.val) : ℝ) : EReal)) :
    ∑ r, K r * Q (ix2 r c) = ((zz q k h.val (256 * i + t.val) (256 * j + s.val) : ℝ) : EReal) := by
  rw [← pair_sum q k i p h.val t.val (256 * j + s.val) c.val t.isLt hc]
  refine sum_fin _ _ fun r => ?_
  rw [hK, hQ, ← EReal.coe_mul]

include ha hb hc hd hk

/-- The logits of a chunk. -/
theorem pay2_at (h : Fin 8) (t s : Fin 256) :
    k0_pay2 Qa Qb Qc Qd kc (ix2 s (col h t)) = ((zz q k h.val (256 * i + t.val) (256 * j + s.val) : ℝ) : EReal) := by
  pointwise [k0_pay2]
  have hh := h.isLt
  have ht := t.isLt
  have hcol : (col h t).val = 256 * h.val + t.val := rfl
  by_cases h1 : (col h t).val < 512
  · rw [dif_pos h1]
    exact pair_at q k i j 0 ha h t s _ (by dsimp only; omega) _ (fun r => (hk _ _).trans (by simp))
  by_cases h2 : (col h t).val - 512 < 512
  · rw [dif_neg h1, dif_pos h2]
    exact pair_at q k i j 1 hb h t s _ (by dsimp only; omega) _ (fun r => (hk _ _).trans (by simp))
  by_cases h3 : (col h t).val - 512 - 512 < 512
  · rw [dif_neg h1, dif_neg h2, dif_pos h3]
    exact pair_at q k i j 2 hc h t s _ (by dsimp only; omega) _ (fun r => (hk _ _).trans (by simp))
  · rw [dif_neg h1, dif_neg h2, dif_neg h3]
    exact pair_at q k i j 3 hd h t s _ (by dsimp only; omega) _ (fun r => (hk _ _).trans (by simp))

theorem pay3_at (h : Fin 8) (t s : Fin 256) :
    k0_pay3 Qa Qb Qc Qd kc (ix2 s (col h t)) = ((lb (zz q k h.val (256 * i + t.val) (256 * j + s.val)) : ℝ) : EReal) := by
  pointwise [k0_pay3]
  rw [pay2_at q k i j ha hb hc hd hk, named_log2e]
  exact lb_eq _

end

end Cert.Stick

end
-- ==== Proof.StepReal.lean ====
/- One chunk's step over the reals. -/
module

public import proofs.«01_k».proof.Proof.Points

@[expose] public section

set_option maxRecDepth 8192

noncomputable section

namespace Cert.Stick

open Cert.KernelIdeal Cert.KernelIdeal.Gen
open Idealize.ShloMosaic

/-- The state holds what the keys from chunk `n` on leave and give. -/
structure Good (q k v : ℕ → ℕ → ℝ) (i n : ℕ) (st : St Ideal) : Prop where
  carry : ∀ (h : Fin 8) (t : Fin 256),
    st.carry (ix2 0 (col h t)) = ((later q k h.val (256 * i + t.val) (256 * n) : ℝ) : EReal)
  acc : ∀ (h : Fin 8) (d : Fin 64) (t : Fin 256),
    st.acc h (ix3 0 d t) = ((part q k v h.val d.val (256 * i + t.val) (256 * n) : ℝ) : EReal)

/-- The matrix of later keys. -/
structure IsLater (u : Vec Ideal S272x256 .bf16) : Prop where
  row : ∀ (r c : Fin 256), u (ix2 (⟨r.val, by omega⟩ : Fin 272) c) = ((if c.val ≤ r.val then 0 else 1 : ℝ) : EReal)
  all : ∀ c : Fin 256, u (ix2 (256 : Fin 272) c) = ((1 : ℝ) : EReal)

variable (q k v : ℕ → ℕ → ℝ) (i j : ℕ) {Qa Qb Qc Qd : FVec Ideal S128x512 .bf16} (ha : IsPair q i 0 Qa) (hb : IsPair q i 1 Qb)
  (hc : IsPair q i 2 Qc) (hd : IsPair q i 3 Qd) {kc : Vec Ideal S1x256x512 .bf16}
  (hk : ∀ (s : Fin 256) (f : Fin 512), kc (ix3 0 s f) = ((k (256 * j + s.val) f.val : ℝ) : EReal))
  {u : Vec Ideal S272x256 .bf16} (hu : IsLater u)

/-- Masked or not, the same product with the matrix of later keys. -/
theorem row_sum (hu : IsLater u) (hj : j < 16) (h : Fin 8) (t r : Fin 256) (R : Fin 256 → EReal)
    (hR : ∀ x : Fin 256, R x = ((lr q k h.val (256 * i + t.val) (256 * j + x.val) : ℝ) : EReal)) :
    (∑ x, u (ix2 (⟨r.val, by omega⟩ : Fin 272) x) * R x) + ((later q k h.val (256 * i + t.val) (256 * (j + 1)) : ℝ) : EReal)
      = ((later q k h.val (256 * i + t.val) (256 * j + r.val + 1) : ℝ) : EReal) := by
  rw [sum_fin _ (fun x => (if x ≤ r.val then 0 else 1) * lr q k h.val (256 * i + t.val) (256 * j + x)) (fun x => by
    rw [hu.row, hR, ← EReal.coe_mul]), ← EReal.coe_add, later_row q k _ _ _ _ hj r.isLt]

theorem all_sum (hu : IsLater u) (hj : j < 16) (h : Fin 8) (t : Fin 256) (R : Fin 256 → EReal)
    (hR : ∀ x : Fin 256, R x = ((lr q k h.val (256 * i + t.val) (256 * j + x.val) : ℝ) : EReal)) :
    ((later q k h.val (256 * i + t.val) (256 * (j + 1)) : ℝ) : EReal) + (∑ x, u (ix2 (256 : Fin 272) x) * R x)
      = ((later q k h.val (256 * i + t.val) (256 * j) : ℝ) : EReal) := by
  rw [sum_fin _ (fun x => lr q k h.val (256 * i + t.val) (256 * j + x)) (fun x => by
    rw [hu.all, hR, ← EReal.coe_mul, one_mul]), ← EReal.coe_add, later_chunk q k _ _ _ hj]

/-- One head's product of values and weights. -/
theorem head_sum (hj : j < 16) (h : Fin 8) (d : Fin 64) (t : Fin 256) (att : FVec Ideal S256x2048 .bf16)
    (acc : Vec Ideal S1x64x256 .f32) (vb : Vec Ideal S1x1x64x256 .bf16)
    (hacc : acc (ix3 0 d t) = ((part q k v h.val d.val (256 * i + t.val) (256 * (j + 1)) : ℝ) : EReal))
    (hatt : ∀ s : Fin 256, att (ix2 s (col h t)) = ((wt q k h.val (256 * i + t.val) (256 * j + s.val) : ℝ) : EReal))
    (hv : ∀ s : Fin 256, vb (ix4 0 0 d s) = ((v (256 * j + s.val) (64 * h.val + d.val) : ℝ) : EReal)) :
    updHead h att acc vb (ix3 0 d t) = ((part q k v h.val d.val (256 * i + t.val) (256 * j) : ℝ) : EReal) := by
  pointwise [updHead]
  rw [sum_fin _ (fun x => v (256 * j + x) (64 * h.val + d.val) * wt q k h.val (256 * i + t.val) (256 * j + x)) (fun x => by
    rw [hv, hatt, ← EReal.coe_mul]), hacc, ← EReal.coe_add, part_chunk q k v _ _ _ _ hj]

include ha hb hc hd hk

/-- The logarithms of an earlier chunk. -/
theorem rest_at (hji : j < i) (h : Fin 8) (t s : Fin 256) :
    k0_pay3 Qa Qb Qc Qd kc (ix2 s (col h t)) - k0_pay2 Qa Qb Qc Qd kc (ix2 s (col h t))
      = ((lr q k h.val (256 * i + t.val) (256 * j + s.val) : ℝ) : EReal) := by
  rw [pay3_at q k i j ha hb hc hd hk, pay2_at q k i j ha hb hc hd hk, ← EReal.coe_sub, lr, if_pos (by omega)]

include hu

theorem att_at (hi : i < 16) (hji : j < i) (carry : Vec Ideal S1x2048 .f32) (h : Fin 8) (t s : Fin 256)
    (hcar : carry (ix2 0 (col h t)) = ((later q k h.val (256 * i + t.val) (256 * (j + 1)) : ℝ) : EReal)) :
    attOf ⟨Qa, Qb, Qc, Qd⟩ kc u carry (ix2 s (col h t))
      = ((wt q k h.val (256 * i + t.val) (256 * j + s.val) : ℝ) : EReal) := by
  pointwise [attOf, k0_pay8, k0_pay6, k0_pay5, k0_pay4]
  rw [hcar, row_sum q k i j hu (by omega) h t s _ (rest_at q k i j ha hb hc hd hk hji h t),
    pay3_at q k i j ha hb hc hd hk, ← EReal.coe_add, wt, if_pos (by omega)]
  rfl

/-- An earlier chunk's step. -/
theorem step_good (hi : i < 16) (hji : j < i) {vb : Fin 8 → Vec Ideal S1x1x64x256 .bf16}
    (hv : ∀ (h : Fin 8) (d : Fin 64) (s : Fin 256), vb h (ix4 0 0 d s) = ((v (256 * j + s.val) (64 * h.val + d.val) : ℝ) : EReal))
    {st : St Ideal} (hs : Good q k v i (j + 1) st) : Good q k v i j (step ⟨Qa, Qb, Qc, Qd⟩ u kc vb st) where
  carry h t := by
    pointwise [step, carryOf, k0_pay7, k0_pay4]
    rw [hs.carry]
    exact all_sum q k i j hu (by omega) h t _ (rest_at q k i j ha hb hc hd hk hji h t)
  acc h d t := head_sum q k v i j (by omega) h d t _ _ _ (hs.acc h d t)
    (fun s => att_at q k i j ha hb hc hd hk hu hi hji _ h t s (hs.carry h t)) (hv h d)

end Cert.Stick

end
-- ==== Proof.DiagReal.lean ====
/- The diagonal chunk's step over the reals, and the state after every chunk. -/
module

public import proofs.«01_k».proof.Proof.StepReal
public import Idealize.ShloMosaic.Lib.WordCmp

@[expose] public section

set_option maxRecDepth 8192

noncomputable section

namespace Cert.Stick

open Cert.KernelIdeal Cert.KernelIdeal.Gen
open Idealize.ShloMosaic

/-- The mask of the diagonal chunk: keys before the column's query. -/
theorem pay99_at (h : Fin 8) (t s : Fin 256) : k0_pay99 (ix2 s (col h t)) = 1#1 ↔ s.val < t.val := by
  pointwise [k0_pay99]
  rw [show IntOp.andi (BitVec.ofNat 32 (256 * h.val + t.val)) 255#32 = BitVec.ofNat 32 t.val from BitVec.eq_of_toNat_eq (by
    have hh := h.isLt
    have ht := t.isLt
    show (BitVec.ofNat 32 (256 * h.val + t.val) &&& 255#32).toNat = _
    rw [BitVec.toNat_and, BitVec.toNat_ofNat, BitVec.toNat_ofNat, BitVec.toNat_ofNat, Nat.mod_eq_of_lt (by omega),
      Nat.mod_eq_of_lt (by omega)]
    exact (Nat.and_two_pow_sub_one_eq_mod _ 8).trans (by omega))]
  exact WordCmp.cmpi_slt_ofNat_eq_one_iff (by have := s.isLt; omega) (by have := t.isLt; omega)

/-- The masked sums of the diagonal chunk. -/
theorem pay100_at (Qa Qb Qc Qd : FVec Ideal S128x512 .bf16) (kb : FVec Ideal S256x512 .bf16) (u : Vec Ideal S272x256 .bf16)
    (r : Fin 272) (c : Fin 2048) :
    k0_pay100 Qa Qb Qc Qd kb u (ix2 r c) = ∑ x : Fin 256, u (ix2 r x) *
      Scalar.select (k0_pay99 (ix2 x c)) (k0_pay98 Qa Qb Qc Qd kb (ix2 x c) - k0_pay97 Qa Qb Qc Qd kb (ix2 x c)) (0 : EReal) := by
  have hR : ∀ R : FVec Ideal S256x2048 .f32,
      matmul dot_S272x256_S256x2048_S272x2048_1_0_0_1_n_n none (shapeCast S272x256 u shapeCasts_S272x256_S272x256 : FVec Ideal S272x256 .bf16)
        (truncf .bf16 R bitsLt_bf16_f32) (constant S272x2048 .f32 0x00000000#32) (ix2 r c)
      = ∑ x : Fin 256, u (ix2 r x) * R (ix2 x c) := by
    intro R
    pointwise
  refine (hR _).trans (Finset.sum_congr rfl fun x _ => ?_)
  rw [← Ideal.ofBits_zero_f32]
  rfl

theorem select_at {α : Type} (c : BitVec 1) (a b : α) (p : Prop) [Decidable p] (hc : c = 1#1 ↔ p) :
    Scalar.select c a b = if p then a else b := by
  unfold Scalar.select
  exact if_congr hc rfl rfl

variable (q k v : ℕ → ℕ → ℝ) (i : ℕ) {Qa Qb Qc Qd : FVec Ideal S128x512 .bf16} (ha : IsPair q i 0 Qa) (hb : IsPair q i 1 Qb)
  (hc : IsPair q i 2 Qc) (hd : IsPair q i 3 Qd) {kc : Vec Ideal S1x256x512 .bf16}
  (hk : ∀ (s : Fin 256) (f : Fin 512), kc (ix3 0 s f) = ((k (256 * i + s.val) f.val : ℝ) : EReal))
  {u : Vec Ideal S272x256 .bf16} (hu : IsLater u)

include ha hb hc hd hk

/-- The masked logarithms of the diagonal chunk. -/
theorem restDiag_at (h : Fin 8) (t s : Fin 256) :
    Scalar.select (k0_pay99 (ix2 s (col h t)))
      (k0_pay98 Qa Qb Qc Qd (k0_pay96 kc) (ix2 s (col h t)) - k0_pay97 Qa Qb Qc Qd (k0_pay96 kc) (ix2 s (col h t))) (0 : EReal)
      = ((lr q k h.val (256 * i + t.val) (256 * i + s.val) : ℝ) : EReal) := by
  rw [select_at _ _ _ _ (pay99_at h t s), show k0_pay98 Qa Qb Qc Qd (k0_pay96 kc) = k0_pay3 Qa Qb Qc Qd kc from rfl,
    show k0_pay97 Qa Qb Qc Qd (k0_pay96 kc) = k0_pay2 Qa Qb Qc Qd kc from rfl,
    pay3_at q k i i ha hb hc hd hk, pay2_at q k i i ha hb hc hd hk, ← EReal.coe_sub, lr]
  by_cases hst : s.val < t.val
  · rw [if_pos hst, if_pos (by omega)]
  · rw [if_neg hst, if_neg (by omega), EReal.coe_zero]

include hu

theorem attDiag_at (hi : i < 16) (carry : Vec Ideal S1x2048 .f32) (h : Fin 8) (t s : Fin 256)
    (hcar : carry (ix2 0 (col h t)) = ((later q k h.val (256 * i + t.val) (256 * (i + 1)) : ℝ) : EReal)) :
    attDiag ⟨Qa, Qb, Qc, Qd⟩ kc u carry (ix2 s (col h t))
      = ((wt q k h.val (256 * i + t.val) (256 * i + s.val) : ℝ) : EReal) := by
  have hr := row_sum q k i i hu (by omega) h t s _ (restDiag_at q k i ha hb hc hd hk h t)
  rw [← pay100_at, ← hcar] at hr
  pointwise [attDiag, k0_pay104, k0_pay101]
  rw [hr,
    select_at _ _ _ _ (pay99_at h t s), show k0_pay98 Qa Qb Qc Qd (k0_pay96 kc) = k0_pay3 Qa Qb Qc Qd kc from rfl,
    pay3_at q k i i ha hb hc hd hk, ← EReal.coe_add, wt]
  by_cases hst : s.val < t.val
  · rw [if_pos hst, if_pos (by omega)]
    rfl
  · rw [if_neg hst, if_neg (by omega), EReal.coe_zero]

/-- The diagonal chunk's step. -/
theorem stepDiag_good (hi : i < 16) {vb : Fin 8 → Vec Ideal S1x1x64x256 .bf16}
    (hv : ∀ (h : Fin 8) (d : Fin 64) (s : Fin 256), vb h (ix4 0 0 d s) = ((v (256 * i + s.val) (64 * h.val + d.val) : ℝ) : EReal))
    {st : St Ideal} (hs : Good q k v i (i + 1) st) : Good q k v i i (stepDiag ⟨Qa, Qb, Qc, Qd⟩ u kc vb st) where
  carry h t := by
    have hr := all_sum q k i i hu (by omega) h t _ (restDiag_at q k i ha hb hc hd hk h t)
    rw [← pay100_at, ← hs.carry] at hr
    pointwise [stepDiag, k0_pay103, k0_pay102]
    exact hr
  acc h d t := head_sum q k v i i (by omega) h d t _ _ _ (hs.acc h d t)
    (fun s => attDiag_at q k i ha hb hc hd hk hu hi _ h t s (hs.carry h t)) (hv h d)

omit ha hb hc hd hk hu

theorem st0_good : Good q k v i (i + 1) st0 where
  carry h t := by
    rw [later_of_le q k (by have := t.isLt; omega)]
    exact Ideal.ofBits_zero_f32
  acc h d t := by
    rw [part_of_le q k v (by have := t.isLt; omega)]
    exact Ideal.ofBits_zero_f32

/-- The state after every chunk down to chunk `i - n`. -/
theorem stAfter_good {x0 : Vec Ideal S1x1x512x256 .bf16} {x1 : Vec Ideal S1x4096x512 .bf16} {x2 : Vec Ideal S1x16x512x256 .bf16}
    {x3 : Vec Ideal S272x256 .bf16} (i : Fin 16)
    (hx0 : ∀ (f : Fin 512) (t : Fin 256), x0 (ix4 0 0 f t) = ((q (256 * i.val + t.val) f.val : ℝ) : EReal))
    (hx1 : ∀ (s : Fin 4096) (f : Fin 512), x1 (ix3 0 s f) = ((k s.val f.val : ℝ) : EReal))
    (hx2 : ∀ (j : Fin 16) (f : Fin 512) (s : Fin 256), x2 (ix4 0 j f s) = ((v (256 * j.val + s.val) f.val : ℝ) : EReal))
    (hu : IsLater x3) (n : ℕ) (hn : n ≤ i.val) : Good q k v i.val (i.val - n) (stAfter x0 x1 x2 x3 i n) := by
  have hK : ∀ (j : Fin 16) (s : Fin 256) (f : Fin 512), kblk x1 j (ix3 0 s f) = ((k (256 * j.val + s.val) f.val : ℝ) : EReal) :=
    fun j s f => hx1 ⟨256 * j.val + s.val, by omega⟩ f
  have hV : ∀ (j : Fin 16) (h : Fin 8) (d : Fin 64) (s : Fin 256),
      vblk x2 j h (ix4 0 0 d s) = ((v (256 * j.val + s.val) (64 * h.val + d.val) : ℝ) : EReal) :=
    fun j h d s => hx2 j ⟨64 * h.val + d.val, by omega⟩ s
  have ha := pay90_at q i.val x0 hx0
  have hb := pay91_at q i.val x0 hx0
  have hc := pay92_at q i.val x0 hx0
  have hd := pay93_at q i.val x0 hx0
  induction n with
  | zero => exact stepDiag_good q k v i.val ha hb hc hd (hK i) hu i.isLt (hV i) (st0_good q k v i.val)
  | succ n ih =>
    have he : (earlier i n).val = i.val - (n + 1) := by show i.val - 1 - n = _; omega
    have hs := ih (by omega)
    rw [show i.val - n = (earlier i n).val + 1 by omega] at hs
    rw [← he]
    exact step_good q k v i.val (earlier i n).val ha hb hc hd (hK _) hu i.isLt (by omega) (hV _) hs

end Cert.Stick

end
-- ==== Proof.Blocks.lean ====
/- What the blocks of the kernel's operands hold, entry by entry, of the arguments. -/
module

public import proofs.«01_k».proof.Proof.Gen.KernelIdeal.Value
public import proofs.«01_k».proof.Proof.DiagReal
public import Idealize.ShloMosaic.Lib.Pipeline.ValueKit
public import Idealize.ShloMosaic.Lib.Claim
public import Idealize.ShloMosaic.Lib.Pointwise

@[expose] public section

set_option maxRecDepth 8192

noncomputable section

namespace Cert.Stick

open Cert.KernelIdeal Cert.KernelIdeal.Gen
open Idealize.ShloMosaic Idealize.ShloMosaic.TcCoe
open Idealize.SL.Sem

theorem idx0 : ∀ t : Fin cfg0.N, win0_0.index t = ![(grid0.coords t 0).val, (grid0.coords t 1).val, 0, 0] :=
  (by decide +kernel : ∀ t : Fin grid0.N, _)
theorem idx1 : ∀ t : Fin cfg0.N, win0_1.index t = ![(grid0.coords t 0).val, 0, 0] :=
  (by decide +kernel : ∀ t : Fin grid0.N, _)
theorem idx2 : ∀ t : Fin cfg0.N, win0_2.index t = ![(grid0.coords t 0).val, 0, 0, 0] :=
  (by decide +kernel : ∀ t : Fin grid0.N, _)
theorem idx3 : ∀ t : Fin cfg0.N, win0_3.index t = ![0, 0] :=
  (by decide +kernel : ∀ t : Fin grid0.N, _)
theorem idx4 : ∀ t : Fin cfg0.N, win0_4.index t = ![(grid0.coords t 0).val, (grid0.coords t 1).val, 0] :=
  (by decide +kernel : ∀ t : Fin grid0.N, _)
theorem coord1 : ∀ t : Fin cfg0.N, (grid0.coords t 1).val % 2 = t.val % 2 :=
  (by decide +kernel : ∀ t : Fin grid0.N, _)

variable (m : (ℓ : Loc nD τ sig) → Buf (Elt Ideal) ℓ) (c : Dev nD) (t : Fin cfg0.N)

theorem blk1_at (s : Fin 4096) (f : Fin 512) :
    iblk m c 1 t (ix3 0 s f) = m ((c : Thread nD τ).loc main_arg1) (ix3 (grid0.coords t 0) s f) := by
  blk_simp [iblk, idx1 t]
  entry_read
  pointwise []
  blk_ext [idx1 t]

theorem blk0_at (f : Fin 512) (s : Fin 256) :
    iblk m c 0 t (ix4 0 0 f s) = m ((c : Thread nD τ).loc main_arg0)
      (ix3 (grid0.coords t 0) ⟨256 * (grid0.coords t 1).val + s.val, by have : (grid0.coords t 1).val < 16 := (grid0.coords t 1).isLt; omega⟩ f) := by
  blk_simp [iblk, idx0 t]
  entry_read
  pointwise []
  blk_ext [idx0 t]

theorem blk2_at (j : Fin 16) (f : Fin 512) (s : Fin 256) :
    iblk m c 2 t (ix4 0 j f s) = m ((c : Thread nD τ).loc main_arg2)
      (ix3 (grid0.coords t 0) ⟨256 * j.val + s.val, by omega⟩ f) := by
  blk_simp [iblk, idx2 t]
  entry_read
  pointwise []
  blk_ext [idx2 t]

theorem emb3 (r : Fin 272) (s : Fin 256) : ((win0_3.blk t).view.emb (ix2 r s) 0).val = r.val ∧ ((win0_3.blk t).view.emb (ix2 r s) 1).val = s.val := by
  constructor
  · blk_simp [idx3 t]
  · blk_simp [idx3 t]

theorem blk3_at : IsLater (iblk m c 3 t) where
  row r s := by
    blk_simp [iblk, idx3 t]
    entry_read
    pointwise []
    have h := emb3 t ⟨r.val, by omega⟩ s
    erw [h.1, h.2]
    rw [dif_pos r.isLt]
    rw [WordCmp.cmpi_sgt_ofNat (by have := s.isLt; omega) (by have := r.isLt; omega)]
    by_cases hrs : s.val ≤ r.val
    · simp [hrs, FloatOps.uitofp]
      exact hrs
    · simp [hrs, FloatOps.uitofp]
      exact not_le.mp hrs
  all s := by
    blk_simp [iblk, idx3 t]
    entry_read
    pointwise []
    have h := emb3 t 256 s
    erw [h.1]
    rfl

end Cert.Stick

end
-- ==== Proof.Trip.lean ====
/- A trip of the chunk loop as two of the kernel's steps. -/
module

public import proofs.«01_k».proof.Proof.Step

@[expose] public section

set_option maxRecDepth 8192

noncomputable section

namespace Cert.Stick

open Cert.KernelIdeal Cert.KernelIdeal.Gen
open Idealize.ShloMosaic Idealize.ShloMosaic.TcCoe Idealize.ShloMosaic.Tactic

variable {F : FTy → Type} [FloatOps F] [Named F]

set_option maxHeartbeats 4000000 in
/-- A trip of the chunk loop is two steps. -/
theorem trip_t1 (𝒱 : Variants) (c : Dev nD) (bd : Option 𝒱.V) (i : grid0.Coords) (arg2 : Memref sig .tc .vmem S1x1x512x256 .bf16) (harg2 : arg2.IsWhole) (arg3 : Memref sig .tc .vmem S1x4096x512 .bf16) (harg3 : arg3.IsWhole) (arg4 : Memref sig .tc .vmem S1x16x512x256 .bf16) (harg4 : arg4.IsWhole) (arg5 : Memref sig .tc .vmem S272x256 .bf16) (harg5 : arg5.IsWhole) (arg6 : Memref sig .tc .vmem S1x256x512 .bf16) (harg6 : arg6.IsWhole) (arg7 : Memref sig .tc .vmem S8x64x256 .f32) (harg7 : arg7.IsWhole) (arg8 : Memref sig .tc .vmem S1x2048 .f32) (harg8 : arg8.IsWhole) (arg1 : BitVec 32) (v11 : FVec F S128x512 .bf16) (v16 : FVec F S128x512 .bf16) (v21 : FVec F S128x512 .bf16) (v26 : FVec F S128x512 .bf16) (v171 : FVec F S64x256 .f32) (X_arg3 : BufTy.Contents (Elt F) arg3.view.ty) (X_arg4 : BufTy.Contents (Elt F) arg4.view.ty) (X_arg5 : BufTy.Contents (Elt F) arg5.view.ty) (k : Fin (k0_t1_loop i).trips) (f7 : BufTy.Contents (Elt F) arg7.view.ty) (f8 : BufTy.Contents (Elt F) arg8.view.ty) :
    stOf arg7 arg8 (arg7.view.writes (Elt F) f7 ((trip_k0_t1 (F := F) 𝒱 c bd i arg2 harg2 arg3 harg3 arg4 harg4 arg5 harg5 arg6 harg6 arg7 harg7 arg8 harg8 arg1 v11 v16 v21 v26 v171 X_arg3 X_arg4 X_arg5 k).1 f7 f8))
      (arg8.view.writes (Elt F) f8 ((trip_k0_t1 (F := F) 𝒱 c bd i arg2 harg2 arg3 harg3 arg4 harg4 arg5 harg5 arg6 harg6 arg7 harg7 arg8 harg8 arg1 v11 v16 v21 v26 v171 X_arg3 X_arg4 X_arg5 k).2.1 f7 f8))
    = step ⟨v11, v16, v21, v26⟩ (arg5.view.readAt (Elt F) (Rect.unit (s := S272x256) ![0, 0] S272x256.size inb_S272x256_S272x256_0_0).toLoadRect X_arg5) (arg3.view.readAt (Elt F) (Rect.unit (s := S1x4096x512) (k0_off19 i k) S1x256x512.size (k0_off19_inb i k)).toLoadRect X_arg3)
      ![arg4.view.readAt (Elt F) (Rect.unit (s := S1x16x512x256) (k0_off20 i k) S1x1x64x256.size (k0_off20_inb i k)).toLoadRect X_arg4,
      arg4.view.readAt (Elt F) (Rect.unit (s := S1x16x512x256) (k0_off21 i k) S1x1x64x256.size (k0_off21_inb i k)).toLoadRect X_arg4,
      arg4.view.readAt (Elt F) (Rect.unit (s := S1x16x512x256) (k0_off22 i k) S1x1x64x256.size (k0_off22_inb i k)).toLoadRect X_arg4,
      arg4.view.readAt (Elt F) (Rect.unit (s := S1x16x512x256) (k0_off23 i k) S1x1x64x256.size (k0_off23_inb i k)).toLoadRect X_arg4,
      arg4.view.readAt (Elt F) (Rect.unit (s := S1x16x512x256) (k0_off24 i k) S1x1x64x256.size (k0_off24_inb i k)).toLoadRect X_arg4,
      arg4.view.readAt (Elt F) (Rect.unit (s := S1x16x512x256) (k0_off25 i k) S1x1x64x256.size (k0_off25_inb i k)).toLoadRect X_arg4,
      arg4.view.readAt (Elt F) (Rect.unit (s := S1x16x512x256) (k0_off26 i k) S1x1x64x256.size (k0_off26_inb i k)).toLoadRect X_arg4,
      arg4.view.readAt (Elt F) (Rect.unit (s := S1x16x512x256) (k0_off27 i k) S1x1x64x256.size (k0_off27_inb i k)).toLoadRect X_arg4]
      (step ⟨v11, v16, v21, v26⟩ (arg5.view.readAt (Elt F) (Rect.unit (s := S272x256) ![0, 0] S272x256.size inb_S272x256_S272x256_0_0).toLoadRect X_arg5) (arg3.view.readAt (Elt F) (Rect.unit (s := S1x4096x512) (k0_off10 i k) S1x256x512.size (k0_off10_inb i k)).toLoadRect X_arg3)
      ![arg4.view.readAt (Elt F) (Rect.unit (s := S1x16x512x256) (k0_off11 i k) S1x1x64x256.size (k0_off11_inb i k)).toLoadRect X_arg4,
      arg4.view.readAt (Elt F) (Rect.unit (s := S1x16x512x256) (k0_off12 i k) S1x1x64x256.size (k0_off12_inb i k)).toLoadRect X_arg4,
      arg4.view.readAt (Elt F) (Rect.unit (s := S1x16x512x256) (k0_off13 i k) S1x1x64x256.size (k0_off13_inb i k)).toLoadRect X_arg4,
      arg4.view.readAt (Elt F) (Rect.unit (s := S1x16x512x256) (k0_off14 i k) S1x1x64x256.size (k0_off14_inb i k)).toLoadRect X_arg4,
      arg4.view.readAt (Elt F) (Rect.unit (s := S1x16x512x256) (k0_off15 i k) S1x1x64x256.size (k0_off15_inb i k)).toLoadRect X_arg4,
      arg4.view.readAt (Elt F) (Rect.unit (s := S1x16x512x256) (k0_off16 i k) S1x1x64x256.size (k0_off16_inb i k)).toLoadRect X_arg4,
      arg4.view.readAt (Elt F) (Rect.unit (s := S1x16x512x256) (k0_off17 i k) S1x1x64x256.size (k0_off17_inb i k)).toLoadRect X_arg4,
      arg4.view.readAt (Elt F) (Rect.unit (s := S1x16x512x256) (k0_off18 i k) S1x1x64x256.size (k0_off18_inb i k)).toLoadRect X_arg4]
      (stOf arg7 arg8 f7 f8)) := by
  unfold trip_k0_t1
  dsimp only
  sl_unfold_words
  unfold stOf step
  congr 1
  · funext h
    fin_cases h <;>
    · simp (disch := decide) only [View.readCov, readAt_same, readAt_head, View.writes_nil]
      rfl
  · simp (disch := decide) only [View.readCov, readAt_same, readAt_head, View.writes_nil]
    rfl

end Cert.Stick

end
-- ==== Proof.Runs.lean ====
/- What the runs of the kernel body leave, as the chunks' state. -/
module

public import proofs.«01_k».proof.Proof.Chunks
public import proofs.«01_k».proof.Proof.Trip
public import proofs.«01_k».proof.Proof.Gen.KernelIdeal.Frame

@[expose] public section

set_option maxRecDepth 8192

noncomputable section

namespace Cert.Stick

open Cert.KernelIdeal Cert.KernelIdeal.Gen
open Idealize.ShloMosaic hiding ix2 ix3 ix4
open Idealize.ShloMosaic.TcCoe Idealize.ShloMosaic.Tactic
open Idealize.ShloMosaic.ValueIdx (ix2 ix3 ix4)

variable {F : FTy → Type} [FloatOps F] [Named F]

open Idealize.SL.Sem

/-- A load of a box of a buffer stored as a whole. -/
theorem readAt_whole {sg : RefSig} {κ : Kind} {sp : Space} {s : Shape} {e : EltTy} {Val : EltTy → Type} (v : View sg κ sp s e)
    (f : v.ty.Contents Val) {o o' sz' : Fin s.rank → ℕ} (h : ∀ a, o a + s.size a ≤ s.size a)
    (h' : ∀ a, o' a + sz' a ≤ s.size a) (w : (Rect.unit o s.size h).shape.Idx → Val e) (L : List (View.Piece Val s e)) :
    v.readAt Val (Rect.unit o' sz' h').toLoadRect (v.writes Val f (⟨Rect.unit o s.size h, w⟩ :: L))
      = fun y => w ((Rect.unit o' sz' h').toLoadRect.idx y) := by
  funext y
  rw [View.readAt_apply]
  exact View.read_writes_cons_unit_of_mem v f h w L _ _ rfl (fun a => by
    have := h a
    rw [show o a = 0 by omega, Nat.zero_add])

/-- A load of a part of the cleared accumulator. -/
theorem readAt_cleared (v : View sig .tc .vmem S8x64x256 .f32) (f : v.ty.Contents (Elt F)) {o sz : Fin 3 → ℕ}
    {h : ∀ a, (![0, 0, 0] : Fin 3 → ℕ) a + (![8, 64, 256] : Fin 3 → ℕ) a ≤ S8x64x256.size a}
    {h' : ∀ a, o a + sz a ≤ S8x64x256.size a} :
    v.readAt (Elt F) (Rect.unit (s := S8x64x256) o sz h').toLoadRect
      (v.writes (Elt F) f [⟨Rect.unit (s := S8x64x256) ![0, 0, 0] ![8, 64, 256] h, k0_pay94⟩])
      = fun _ => Scalar.ofBits .f32 0x00000000#32 :=
  readAt_whole v f h h' k0_pay94 []

/-- Eight functions of one chunk's value blocks, by the offsets they are loaded from. -/
theorem vblks {m : Memref sig .tc .vmem S1x16x512x256 .bf16} (hm : m.IsWhole) (x : Vec F S1x16x512x256 .bf16) (j : Fin 16)
    {o0 o1 o2 o3 o4 o5 o6 o7 : Fin 4 → ℕ} (e0 : o0 = ![0, j.val, 0, 0]) (e1 : o1 = ![0, j.val, 64, 0])
    (e2 : o2 = ![0, j.val, 128, 0]) (e3 : o3 = ![0, j.val, 192, 0]) (e4 : o4 = ![0, j.val, 256, 0])
    (e5 : o5 = ![0, j.val, 320, 0]) (e6 : o6 = ![0, j.val, 384, 0]) (e7 : o7 = ![0, j.val, 448, 0])
    (b0 : ∀ a, o0 a + S1x1x64x256.size a ≤ S1x16x512x256.size a)
    (b1 : ∀ a, o1 a + S1x1x64x256.size a ≤ S1x16x512x256.size a)
    (b2 : ∀ a, o2 a + S1x1x64x256.size a ≤ S1x16x512x256.size a)
    (b3 : ∀ a, o3 a + S1x1x64x256.size a ≤ S1x16x512x256.size a)
    (b4 : ∀ a, o4 a + S1x1x64x256.size a ≤ S1x16x512x256.size a)
    (b5 : ∀ a, o5 a + S1x1x64x256.size a ≤ S1x16x512x256.size a)
    (b6 : ∀ a, o6 a + S1x1x64x256.size a ≤ S1x16x512x256.size a)
    (b7 : ∀ a, o7 a + S1x1x64x256.size a ≤ S1x16x512x256.size a) :
    (![m.view.readAt (Elt F) (Rect.unit (s := S1x16x512x256) o0 S1x1x64x256.size b0).toLoadRect (hm.unread x),
      m.view.readAt (Elt F) (Rect.unit (s := S1x16x512x256) o1 S1x1x64x256.size b1).toLoadRect (hm.unread x),
      m.view.readAt (Elt F) (Rect.unit (s := S1x16x512x256) o2 S1x1x64x256.size b2).toLoadRect (hm.unread x),
      m.view.readAt (Elt F) (Rect.unit (s := S1x16x512x256) o3 S1x1x64x256.size b3).toLoadRect (hm.unread x),
      m.view.readAt (Elt F) (Rect.unit (s := S1x16x512x256) o4 S1x1x64x256.size b4).toLoadRect (hm.unread x),
      m.view.readAt (Elt F) (Rect.unit (s := S1x16x512x256) o5 S1x1x64x256.size b5).toLoadRect (hm.unread x),
      m.view.readAt (Elt F) (Rect.unit (s := S1x16x512x256) o6 S1x1x64x256.size b6).toLoadRect (hm.unread x),
      m.view.readAt (Elt F) (Rect.unit (s := S1x16x512x256) o7 S1x1x64x256.size b7).toLoadRect (hm.unread x)] : Fin 8 → Vec F S1x1x64x256 .bf16) = vblk x j := by
  funext h
  match h with
  | ⟨0, _⟩ => exact read_vblk hm x j 0 e0 b0
  | ⟨1, _⟩ => exact read_vblk hm x j 1 e1 b1
  | ⟨2, _⟩ => exact read_vblk hm x j 2 e2 b2
  | ⟨3, _⟩ => exact read_vblk hm x j 3 e3 b3
  | ⟨4, _⟩ => exact read_vblk hm x j 4 e4 b4
  | ⟨5, _⟩ => exact read_vblk hm x j 5 e5 b5
  | ⟨6, _⟩ => exact read_vblk hm x j 6 e6 b6
  | ⟨7, _⟩ => exact read_vblk hm x j 7 e7 b7

/-- After `n` trips of the chunk loop the scratch buffers hold the state after `2 n` earlier chunks. -/
theorem loop (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (x0 : Vec F S1x1x512x256 .bf16) (x1 : Vec F S1x4096x512 .bf16) (x2 : Vec F S1x16x512x256 .bf16) (x3 : Vec F S272x256 .bf16) (𝒱 : Variants) (bd : Option 𝒱.V)
    (a1 : BitVec 32) (a2 : FVec F S64x256 .f32) (G7 : BufTy.Contents (Elt F) arg7.view.ty)
    (G8 : BufTy.Contents (Elt F) arg8.view.ty) (hG : stOf arg7 arg8 G7 G8 = stAfter x0 x1 x2 x3 (i 1) 0) (n : ℕ)
    (hn : n ≤ (k0_t1_loop i).trips) :
    stOf arg7 arg8
      (arg7.view.writes (Elt F) G7 (pb_k0_t1 𝒱 c bd i arg2 harg2 arg3 harg3 arg4 harg4 arg5 harg5 arg6 harg6 arg7 harg7 arg8 harg8 a1 (k0_pay90 x0) (k0_pay91 x0) (k0_pay92 x0) (k0_pay93 x0) a2
        (harg3.unread x1) (harg4.unread x2) (harg5.unread x3) G7 G8 n).1)
      (arg8.view.writes (Elt F) G8 (pb_k0_t1 𝒱 c bd i arg2 harg2 arg3 harg3 arg4 harg4 arg5 harg5 arg6 harg6 arg7 harg7 arg8 harg8 a1 (k0_pay90 x0) (k0_pay91 x0) (k0_pay92 x0) (k0_pay93 x0) a2
        (harg3.unread x1) (harg4.unread x2) (harg5.unread x3) G7 G8 n).2)
    = stAfter x0 x1 x2 x3 (i 1) (2 * n) := by
  induction n with
  | zero => exact hG
  | succ n ih =>
    have ih := ih (Nat.le_of_succ_le hn)
    have hs := pb_k0_t1_succ 𝒱 c bd i arg2 harg2 arg3 harg3 arg4 harg4 arg5 harg5 arg6 harg6 arg7 harg7 arg8 harg8 a1 (k0_pay90 x0) (k0_pay91 x0) (k0_pay92 x0) (k0_pay93 x0) a2
        (harg3.unread x1) (harg4.unread x2) (harg5.unread x3) G7 G8 ⟨n, hn⟩
    dsimp only at hs
    rw [hs]
    dsimp only
    rw [View.writes_append, View.writes_append]
    refine (trip_t1 𝒱 c bd i arg2 harg2 arg3 harg3 arg4 harg4 arg5 harg5 arg6 harg6 arg7 harg7 arg8 harg8 a1 (k0_pay90 x0) (k0_pay91 x0) (k0_pay92 x0) (k0_pay93 x0) a2
        (harg3.unread x1) (harg4.unread x2) (harg5.unread x3) ⟨n, hn⟩ _ _).trans ?_
    rw [ih, read_all harg5 x3 (fun a => by fin_cases a <;> rfl), read_kblk harg3 x1 (earlier (i 1) (2 * n)) (off10 i ⟨n, hn⟩),
      read_kblk harg3 x1 (earlier (i 1) (2 * n + 1)) (off19 i ⟨n, hn⟩),
      vblks harg4 x2 (earlier (i 1) (2 * n)) (off11 i ⟨n, hn⟩) (off12 i ⟨n, hn⟩) (off13 i ⟨n, hn⟩) (off14 i ⟨n, hn⟩) (off15 i ⟨n, hn⟩) (off16 i ⟨n, hn⟩) (off17 i ⟨n, hn⟩) (off18 i ⟨n, hn⟩),
      vblks harg4 x2 (earlier (i 1) (2 * n + 1)) (off20 i ⟨n, hn⟩) (off21 i ⟨n, hn⟩) (off22 i ⟨n, hn⟩) (off23 i ⟨n, hn⟩) (off24 i ⟨n, hn⟩) (off25 i ⟨n, hn⟩) (off26 i ⟨n, hn⟩) (off27 i ⟨n, hn⟩)]
    rfl

set_option maxHeartbeats 1000000 in
/-- The diagonal chunk leaves its state. -/
theorem diagA (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (x0 : Vec F S1x1x512x256 .bf16) (x1 : Vec F S1x4096x512 .bf16) (x2 : Vec F S1x16x512x256 .bf16) (x3 : Vec F S272x256 .bf16) :
    stOf arg7 arg8
      (arg7.view.writes (Elt F) arg7.view.junk
        (kernelRun0_A.sl.HS0_9 c i arg2 harg2 arg3 harg3 arg4 harg4 arg5 harg5 arg7 arg8 x0 x1 x2 x3))
      (arg8.view.writes (Elt F) arg8.view.junk (kernelRun0_A.sl.HS1_2 c i arg2 harg2 arg3 harg3 arg5 harg5 arg8 x0 x1 x3))
    = stAfter x0 x1 x2 x3 (i 1) 0 := by
  have hv := vblks harg4 x2 (i 1) (off2 i) (off3 i) (off4 i) (off5 i) (off6 i) (off7 i) (off8 i) (off9 i) (k0_off2_inb i) (k0_off3_inb i) (k0_off4_inb i) (k0_off5_inb i) (k0_off6_inb i) (k0_off7_inb i) (k0_off8_inb i) (k0_off9_inb i)
  show _ = stepDiag (queries x0) x3 (kblk x1 (i 1)) (vblk x2 (i 1)) st0
  rw [← hv, ← read_kblk harg3 x1 (i 1) (off1 i) (k0_off1_inb i)]
  sl_unfold_words
  rw [read_all harg2 x0 (fun a => by fin_cases a <;> rfl), read_all harg5 x3 (fun a => by fin_cases a <;> rfl)]
  unfold stOf stepDiag
  congr 1
  · funext h
    fin_cases h <;>
    · simp (disch := decide) only [View.readCov, readAt_same, readAt_head, readAt_cleared, View.writes_nil]
      rfl
  · simp (disch := decide) only [View.readCov, readAt_same, readAt_head, readAt_cleared, View.writes_nil]
    rfl

set_option maxHeartbeats 1000000 in
/-- The diagonal chunk leaves its state. -/
theorem diagB (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (x0 : Vec F S1x1x512x256 .bf16) (x1 : Vec F S1x4096x512 .bf16) (x2 : Vec F S1x16x512x256 .bf16) (x3 : Vec F S272x256 .bf16) :
    stOf arg7 arg8
      (arg7.view.writes (Elt F) arg7.view.junk
        (kernelRun0_B.sl.HS0_9 c i arg2 harg2 arg3 harg3 arg4 harg4 arg5 harg5 arg7 arg8 x0 x1 x2 x3))
      (arg8.view.writes (Elt F) arg8.view.junk (kernelRun0_B.sl.HS1_2 c i arg2 harg2 arg3 harg3 arg5 harg5 arg8 x0 x1 x3))
    = stAfter x0 x1 x2 x3 (i 1) 0 := by
  have hv := vblks harg4 x2 (i 1) (off2 i) (off3 i) (off4 i) (off5 i) (off6 i) (off7 i) (off8 i) (off9 i) (k0_off2_inb i) (k0_off3_inb i) (k0_off4_inb i) (k0_off5_inb i) (k0_off6_inb i) (k0_off7_inb i) (k0_off8_inb i) (k0_off9_inb i)
  show _ = stepDiag (queries x0) x3 (kblk x1 (i 1)) (vblk x2 (i 1)) st0
  rw [← hv, ← read_kblk harg3 x1 (i 1) (off1 i) (k0_off1_inb i)]
  sl_unfold_words
  rw [read_all harg2 x0 (fun a => by fin_cases a <;> rfl), read_all harg5 x3 (fun a => by fin_cases a <;> rfl)]
  unfold stOf stepDiag
  congr 1
  · funext h
    fin_cases h <;>
    · simp (disch := decide) only [View.readCov, readAt_same, readAt_head, readAt_cleared, View.writes_nil]
      rfl
  · simp (disch := decide) only [View.readCov, readAt_same, readAt_head, readAt_cleared, View.writes_nil]
    rfl

end Cert.Stick

end
-- ==== Proof.Out.lean ====
/- What the two runs of the kernel body store. -/
module

public import proofs.«01_k».proof.Proof.Runs

@[expose] public section

set_option maxRecDepth 8192

noncomputable section

namespace Cert.Stick

open Cert.KernelIdeal Cert.KernelIdeal.Gen
open Idealize.ShloMosaic hiding ix2 ix3 ix4
open Idealize.ShloMosaic.TcCoe Idealize.ShloMosaic.Tactic
open Idealize.ShloMosaic.ValueIdx (ix2 ix3 ix4)

variable {F : FTy → Type} [FloatOps F] [Named F]

open Idealize.SL.Sem

/-- The stored block of a state: the eight slabs of the accumulator. -/
def outOf (s : St F) : Vec F S1x256x512 .bf16 :=
  k0_pay1 (s.acc 0) (s.acc 1) (s.acc 2) (s.acc 3) (s.acc 4) (s.acc 5) (s.acc 6) (s.acc 7)

/-- A whole buffer read after it was stored as a whole. -/
theorem read_whole {sg : RefSig} {κ : Kind} {sp : Space} {s : Shape} {e : EltTy} {Val : EltTy → Type} (v : View sg κ sp s e)
    (f : v.ty.Contents Val) {o : Fin s.rank → ℕ} (h : ∀ a, o a + s.size a ≤ s.size a)
    (w : (Rect.unit o s.size h).shape.Idx → Val e) :
    v.read Val (v.writes Val f [⟨Rect.unit o s.size h, w⟩]) = w := by
  funext y
  exact View.read_writes_cons_unit_of_mem v f h w [] y y rfl (fun a => by
    have := h a
    rw [show o a = 0 by omega, Nat.zero_add])

/-- The two loops, from the diagonal chunk's state. -/
theorem loops (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (x0 : Vec F S1x1x512x256 .bf16) (x1 : Vec F S1x4096x512 .bf16) (x2 : Vec F S1x16x512x256 .bf16) (x3 : Vec F S272x256 .bf16) (𝒱 : Variants) (bd : Option 𝒱.V)
    (a1 : BitVec 32) (a2 : FVec F S64x256 .f32) (a3 : BitVec 32) (r0 r1 r2 r3 : FVec F S128x512 .bf16)
    (e0 : r0 = k0_pay90 x0) (e1 : r1 = k0_pay91 x0) (e2 : r2 = k0_pay92 x0) (e3 : r3 = k0_pay93 x0)
    (L7 : List (View.Piece (Elt F) S8x64x256 .f32)) (L8 : List (View.Piece (Elt F) S1x2048 .f32))
    (W7 : BufTy.Contents (Elt F) arg7.view.ty) (W8 : BufTy.Contents (Elt F) arg8.view.ty)
    (hG : stOf arg7 arg8 (arg7.view.writes (Elt F) arg7.view.junk L7) (arg8.view.writes (Elt F) arg8.view.junk L8)
      = stAfter x0 x1 x2 x3 (i 1) 0) :
    stOf arg7 arg8
      (arg7.view.writes (Elt F) arg7.view.junk
        ((pb_k0_t2 𝒱 c bd i arg2 harg2 arg3 harg3 arg4 harg4 arg5 harg5 arg6 harg6 arg7 harg7 arg8 harg8 a1 r0 r1 r2 r3 a2 a3 (harg3.unread x1) (harg4.unread x2) (harg5.unread x3) W7 W8 (Scf.trips (k0_t2_loop i).lb (k0_t2_loop i).ub (k0_t2_loop i).st)).1 ++ ((pb_k0_t1 𝒱 c bd i arg2 harg2 arg3 harg3 arg4 harg4 arg5 harg5 arg6 harg6 arg7 harg7 arg8 harg8 a1 r0 r1 r2 r3 a2 (harg3.unread x1) (harg4.unread x2) (harg5.unread x3) (arg7.view.writes (Elt F) arg7.view.junk L7) (arg8.view.writes (Elt F) arg8.view.junk L8) (Scf.trips (k0_t1_loop i).lb (k0_t1_loop i).ub (k0_t1_loop i).st)).1 ++ L7)))
      (arg8.view.writes (Elt F) arg8.view.junk
        ((pb_k0_t2 𝒱 c bd i arg2 harg2 arg3 harg3 arg4 harg4 arg5 harg5 arg6 harg6 arg7 harg7 arg8 harg8 a1 r0 r1 r2 r3 a2 a3 (harg3.unread x1) (harg4.unread x2) (harg5.unread x3) W7 W8 (Scf.trips (k0_t2_loop i).lb (k0_t2_loop i).ub (k0_t2_loop i).st)).2 ++ ((pb_k0_t1 𝒱 c bd i arg2 harg2 arg3 harg3 arg4 harg4 arg5 harg5 arg6 harg6 arg7 harg7 arg8 harg8 a1 r0 r1 r2 r3 a2 (harg3.unread x1) (harg4.unread x2) (harg5.unread x3) (arg7.view.writes (Elt F) arg7.view.junk L7) (arg8.view.writes (Elt F) arg8.view.junk L8) (Scf.trips (k0_t1_loop i).lb (k0_t1_loop i).ub (k0_t1_loop i).st)).2 ++ L8)))
    = stAfter x0 x1 x2 x3 (i 1) (2 * ((i 1).val / 2)) := by
  subst e0 e1 e2 e3
  rw [show Scf.trips (k0_t2_loop i).lb (k0_t2_loop i).ub (k0_t2_loop i).st = 0 from trips_t2 i,
    show Scf.trips (k0_t1_loop i).lb (k0_t1_loop i).ub (k0_t1_loop i).st = (i 1).val / 2 from trips_t1 i]
  unfold pb_k0_t2
  dsimp only [List.nil_append]
  rw [View.writes_append, View.writes_append]
  exact loop c i arg2 harg2 arg3 harg3 arg4 harg4 arg5 harg5 arg6 harg6 arg7 harg7 arg8 harg8 x0 x1 x2 x3 𝒱 bd a1 a2 _ _ hG _ (le_of_eq (trips_t1 i).symm)

/-- The query blocks of run A. -/
theorem queryA (c : Dev nD) (arg2 : Memref sig .tc .vmem S1x1x512x256 .bf16) (harg2 : arg2.IsWhole) (x0 : Vec F S1x1x512x256 .bf16) :
    kernelRun0_A.sl.r c arg2 harg2 x0 = k0_pay90 x0 ∧ kernelRun0_A.sl.r_1 c arg2 harg2 x0 = k0_pay91 x0 ∧
    kernelRun0_A.sl.r_2 c arg2 harg2 x0 = k0_pay92 x0 ∧ kernelRun0_A.sl.r_3 c arg2 harg2 x0 = k0_pay93 x0 := by
  unfold kernelRun0_A.sl.r kernelRun0_A.sl.r_1 kernelRun0_A.sl.r_2 kernelRun0_A.sl.r_3
  rw [read_all harg2 x0 (fun a => by fin_cases a <;> rfl)]
  exact ⟨rfl, rfl, rfl, rfl⟩

/-- The query blocks of run B. -/
theorem queryB (c : Dev nD) (arg2 : Memref sig .tc .vmem S1x1x512x256 .bf16) (harg2 : arg2.IsWhole) (x0 : Vec F S1x1x512x256 .bf16) :
    kernelRun0_B.sl.r c arg2 harg2 x0 = k0_pay90 x0 ∧ kernelRun0_B.sl.r_1 c arg2 harg2 x0 = k0_pay91 x0 ∧
    kernelRun0_B.sl.r_2 c arg2 harg2 x0 = k0_pay92 x0 ∧ kernelRun0_B.sl.r_3 c arg2 harg2 x0 = k0_pay93 x0 := by
  unfold kernelRun0_B.sl.r kernelRun0_B.sl.r_1 kernelRun0_B.sl.r_2 kernelRun0_B.sl.r_3
  rw [read_all harg2 x0 (fun a => by fin_cases a <;> rfl)]
  exact ⟨rfl, rfl, rfl, rfl⟩

set_option maxHeartbeats 400000 in
/-- The first run stores the state after all chunks. -/
theorem outA (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (hc : ¬cond0_0 i) (x0 : Vec F S1x1x512x256 .bf16) (x1 : Vec F S1x4096x512 .bf16) (x2 : Vec F S1x16x512x256 .bf16) (x3 : Vec F S272x256 .bf16) (hi : (i 1).val % 2 = 0) :
    out0_A_4 c i arg2 harg2 arg3 harg3 arg4 harg4 arg5 harg5 arg6 harg6 arg7 harg7 arg8 harg8 hc x0 x1 x2 x3 = outOf (stAfter x0 x1 x2 x3 (i 1) (i 1).val) := by
  have hd := fun a2 a3 W7 W8 => loops c i arg2 harg2 arg3 harg3 arg4 harg4 arg5 harg5 arg6 harg6 arg7 harg7 arg8 harg8 x0 x1 x2 x3 Variants.none none
    (BitVec.ofNat 32 (i 1).val) a2 a3 _ _ _ _ (queryA c arg2 harg2 x0).1 (queryA c arg2 harg2 x0).2.1 (queryA c arg2 harg2 x0).2.2.1
    (queryA c arg2 harg2 x0).2.2.2 _ _ W7 W8 (diagA c i arg2 harg2 arg3 harg3 arg4 harg4 arg5 harg5 arg6 harg6 arg7 harg7 arg8 harg8 x0 x1 x2 x3)
  rw [show 2 * ((i 1).val / 2) = (i 1).val by omega] at hd
  unfold out0_A_4 kernelRun0_A
  dsimp only
  refine (read_whole _ _ _ _).trans ?_
  unfold outOf
  congr 1
  · unfold kernelRun0_A.sl.v210 View.readCov
    exact congrFun (congrArg St.acc (hd _ _ _ _)) 0
  · unfold kernelRun0_A.sl.v212 View.readCov
    exact congrFun (congrArg St.acc (hd _ _ _ _)) 1
  · unfold kernelRun0_A.sl.v214 View.readCov
    exact congrFun (congrArg St.acc (hd _ _ _ _)) 2
  · unfold kernelRun0_A.sl.v216 View.readCov
    exact congrFun (congrArg St.acc (hd _ _ _ _)) 3
  · unfold kernelRun0_A.sl.v218 View.readCov
    exact congrFun (congrArg St.acc (hd _ _ _ _)) 4
  · unfold kernelRun0_A.sl.v220 View.readCov
    exact congrFun (congrArg St.acc (hd _ _ _ _)) 5
  · unfold kernelRun0_A.sl.v222 View.readCov
    exact congrFun (congrArg St.acc (hd _ _ _ _)) 6
  · unfold kernelRun0_A.sl.v224 View.readCov
    exact congrFun (congrArg St.acc (hd _ _ _ _)) 7

end Cert.Stick

end
-- ==== Proof.OutB.lean ====
/- What the second run of the kernel body stores. -/
module

public import proofs.«01_k».proof.Proof.Out

@[expose] public section

set_option maxRecDepth 8192

noncomputable section

namespace Cert.Stick

open Cert.KernelIdeal Cert.KernelIdeal.Gen
open Idealize.ShloMosaic hiding ix2 ix3 ix4
open Idealize.ShloMosaic.TcCoe Idealize.ShloMosaic.Tactic
open Idealize.ShloMosaic.ValueIdx (ix2 ix3 ix4)

variable {F : FTy → Type} [FloatOps F] [Named F]

open Idealize.SL.Sem

set_option maxHeartbeats 400000 in
theorem accB0 (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (x0 : Vec F S1x1x512x256 .bf16) (x1 : Vec F S1x4096x512 .bf16) (x2 : Vec F S1x16x512x256 .bf16) (x3 : Vec F S272x256 .bf16) :
    kernelRun0_B.sl.v278 c i arg2 harg2 arg3 harg3 arg4 harg4 arg5 harg5 arg6 harg6 arg7 harg7 arg8 harg8 x0 x1 x2 x3 = (stAfter x0 x1 x2 x3 (i 1) (2 * ((i 1).val / 2))).acc 0 := by
  unfold kernelRun0_B.sl.v278
  exact congrFun (congrArg St.acc (loops c i arg2 harg2 arg3 harg3 arg4 harg4 arg5 harg5 arg6 harg6 arg7 harg7 arg8 harg8 x0 x1 x2 x3 Variants.none none
    (BitVec.ofNat 32 (i 1).val) _ _ _ _ _ _ (queryB c arg2 harg2 x0).1 (queryB c arg2 harg2 x0).2.1 (queryB c arg2 harg2 x0).2.2.1
    (queryB c arg2 harg2 x0).2.2.2 _ _ _ _ (diagB c i arg2 harg2 arg3 harg3 arg4 harg4 arg5 harg5 arg6 harg6 arg7 harg7 arg8 harg8 x0 x1 x2 x3))) 0

set_option maxHeartbeats 400000 in
theorem accB1 (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (hc : cond0_0 i) (x0 : Vec F S1x1x512x256 .bf16) (x1 : Vec F S1x4096x512 .bf16) (x2 : Vec F S1x16x512x256 .bf16) (x3 : Vec F S272x256 .bf16) :
    kernelRun0_B.sl.v289 c i arg2 harg2 arg3 harg3 arg4 harg4 arg5 harg5 arg6 harg6 arg7 harg7 arg8 harg8 hc x0 x1 x2 x3 = (stAfter x0 x1 x2 x3 (i 1) (2 * ((i 1).val / 2))).acc 1 := by
  unfold kernelRun0_B.sl.v289
  simp (disch := decide) only [kernelRun0_B.sl.HS0_1_1, View.readCov, readAt_head]
  exact congrFun (congrArg St.acc (loops c i arg2 harg2 arg3 harg3 arg4 harg4 arg5 harg5 arg6 harg6 arg7 harg7 arg8 harg8 x0 x1 x2 x3 Variants.none none
    (BitVec.ofNat 32 (i 1).val) _ _ _ _ _ _ (queryB c arg2 harg2 x0).1 (queryB c arg2 harg2 x0).2.1 (queryB c arg2 harg2 x0).2.2.1
    (queryB c arg2 harg2 x0).2.2.2 _ _ _ _ (diagB c i arg2 harg2 arg3 harg3 arg4 harg4 arg5 harg5 arg6 harg6 arg7 harg7 arg8 harg8 x0 x1 x2 x3))) 1

set_option maxHeartbeats 400000 in
theorem accB2 (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (hc : cond0_0 i) (x0 : Vec F S1x1x512x256 .bf16) (x1 : Vec F S1x4096x512 .bf16) (x2 : Vec F S1x16x512x256 .bf16) (x3 : Vec F S272x256 .bf16) :
    kernelRun0_B.sl.v300 c i arg2 harg2 arg3 harg3 arg4 harg4 arg5 harg5 arg6 harg6 arg7 harg7 arg8 harg8 hc x0 x1 x2 x3 = (stAfter x0 x1 x2 x3 (i 1) (2 * ((i 1).val / 2))).acc 2 := by
  unfold kernelRun0_B.sl.v300
  simp (disch := decide) only [kernelRun0_B.sl.HS0_1_1, kernelRun0_B.sl.HS0_2_1, View.readCov, readAt_head]
  exact congrFun (congrArg St.acc (loops c i arg2 harg2 arg3 harg3 arg4 harg4 arg5 harg5 arg6 harg6 arg7 harg7 arg8 harg8 x0 x1 x2 x3 Variants.none none
    (BitVec.ofNat 32 (i 1).val) _ _ _ _ _ _ (queryB c arg2 harg2 x0).1 (queryB c arg2 harg2 x0).2.1 (queryB c arg2 harg2 x0).2.2.1
    (queryB c arg2 harg2 x0).2.2.2 _ _ _ _ (diagB c i arg2 harg2 arg3 harg3 arg4 harg4 arg5 harg5 arg6 harg6 arg7 harg7 arg8 harg8 x0 x1 x2 x3))) 2

set_option maxHeartbeats 400000 in
theorem accB3 (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (hc : cond0_0 i) (x0 : Vec F S1x1x512x256 .bf16) (x1 : Vec F S1x4096x512 .bf16) (x2 : Vec F S1x16x512x256 .bf16) (x3 : Vec F S272x256 .bf16) :
    kernelRun0_B.sl.v311 c i arg2 harg2 arg3 harg3 arg4 harg4 arg5 harg5 arg6 harg6 arg7 harg7 arg8 harg8 hc x0 x1 x2 x3 = (stAfter x0 x1 x2 x3 (i 1) (2 * ((i 1).val / 2))).acc 3 := by
  unfold kernelRun0_B.sl.v311
  simp (disch := decide) only [kernelRun0_B.sl.HS0_1_1, kernelRun0_B.sl.HS0_2_1, kernelRun0_B.sl.HS0_3_1, View.readCov, readAt_head]
  exact congrFun (congrArg St.acc (loops c i arg2 harg2 arg3 harg3 arg4 harg4 arg5 harg5 arg6 harg6 arg7 harg7 arg8 harg8 x0 x1 x2 x3 Variants.none none
    (BitVec.ofNat 32 (i 1).val) _ _ _ _ _ _ (queryB c arg2 harg2 x0).1 (queryB c arg2 harg2 x0).2.1 (queryB c arg2 harg2 x0).2.2.1
    (queryB c arg2 harg2 x0).2.2.2 _ _ _ _ (diagB c i arg2 harg2 arg3 harg3 arg4 harg4 arg5 harg5 arg6 harg6 arg7 harg7 arg8 harg8 x0 x1 x2 x3))) 3

set_option maxHeartbeats 400000 in
theorem accB4 (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (hc : cond0_0 i) (x0 : Vec F S1x1x512x256 .bf16) (x1 : Vec F S1x4096x512 .bf16) (x2 : Vec F S1x16x512x256 .bf16) (x3 : Vec F S272x256 .bf16) :
    kernelRun0_B.sl.v322 c i arg2 harg2 arg3 harg3 arg4 harg4 arg5 harg5 arg6 harg6 arg7 harg7 arg8 harg8 hc x0 x1 x2 x3 = (stAfter x0 x1 x2 x3 (i 1) (2 * ((i 1).val / 2))).acc 4 := by
  unfold kernelRun0_B.sl.v322
  simp (disch := decide) only [kernelRun0_B.sl.HS0_1_1, kernelRun0_B.sl.HS0_2_1, kernelRun0_B.sl.HS0_3_1, kernelRun0_B.sl.HS0_4_1, View.readCov, readAt_head]
  exact congrFun (congrArg St.acc (loops c i arg2 harg2 arg3 harg3 arg4 harg4 arg5 harg5 arg6 harg6 arg7 harg7 arg8 harg8 x0 x1 x2 x3 Variants.none none
    (BitVec.ofNat 32 (i 1).val) _ _ _ _ _ _ (queryB c arg2 harg2 x0).1 (queryB c arg2 harg2 x0).2.1 (queryB c arg2 harg2 x0).2.2.1
    (queryB c arg2 harg2 x0).2.2.2 _ _ _ _ (diagB c i arg2 harg2 arg3 harg3 arg4 harg4 arg5 harg5 arg6 harg6 arg7 harg7 arg8 harg8 x0 x1 x2 x3))) 4

set_option maxHeartbeats 400000 in
theorem accB5 (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (hc : cond0_0 i) (x0 : Vec F S1x1x512x256 .bf16) (x1 : Vec F S1x4096x512 .bf16) (x2 : Vec F S1x16x512x256 .bf16) (x3 : Vec F S272x256 .bf16) :
    kernelRun0_B.sl.v333 c i arg2 harg2 arg3 harg3 arg4 harg4 arg5 harg5 arg6 harg6 arg7 harg7 arg8 harg8 hc x0 x1 x2 x3 = (stAfter x0 x1 x2 x3 (i 1) (2 * ((i 1).val / 2))).acc 5 := by
  unfold kernelRun0_B.sl.v333
  simp (disch := decide) only [kernelRun0_B.sl.HS0_1_1, kernelRun0_B.sl.HS0_2_1, kernelRun0_B.sl.HS0_3_1, kernelRun0_B.sl.HS0_4_1, kernelRun0_B.sl.HS0_5_1, View.readCov, readAt_head]
  exact congrFun (congrArg St.acc (loops c i arg2 harg2 arg3 harg3 arg4 harg4 arg5 harg5 arg6 harg6 arg7 harg7 arg8 harg8 x0 x1 x2 x3 Variants.none none
    (BitVec.ofNat 32 (i 1).val) _ _ _ _ _ _ (queryB c arg2 harg2 x0).1 (queryB c arg2 harg2 x0).2.1 (queryB c arg2 harg2 x0).2.2.1
    (queryB c arg2 harg2 x0).2.2.2 _ _ _ _ (diagB c i arg2 harg2 arg3 harg3 arg4 harg4 arg5 harg5 arg6 harg6 arg7 harg7 arg8 harg8 x0 x1 x2 x3))) 5

set_option maxHeartbeats 400000 in
theorem accB6 (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (hc : cond0_0 i) (x0 : Vec F S1x1x512x256 .bf16) (x1 : Vec F S1x4096x512 .bf16) (x2 : Vec F S1x16x512x256 .bf16) (x3 : Vec F S272x256 .bf16) :
    kernelRun0_B.sl.v344 c i arg2 harg2 arg3 harg3 arg4 harg4 arg5 harg5 arg6 harg6 arg7 harg7 arg8 harg8 hc x0 x1 x2 x3 = (stAfter x0 x1 x2 x3 (i 1) (2 * ((i 1).val / 2))).acc 6 := by
  unfold kernelRun0_B.sl.v344
  simp (disch := decide) only [kernelRun0_B.sl.HS0_1_1, kernelRun0_B.sl.HS0_2_1, kernelRun0_B.sl.HS0_3_1, kernelRun0_B.sl.HS0_4_1, kernelRun0_B.sl.HS0_5_1, kernelRun0_B.sl.HS0_6_1, View.readCov, readAt_head]
  exact congrFun (congrArg St.acc (loops c i arg2 harg2 arg3 harg3 arg4 harg4 arg5 harg5 arg6 harg6 arg7 harg7 arg8 harg8 x0 x1 x2 x3 Variants.none none
    (BitVec.ofNat 32 (i 1).val) _ _ _ _ _ _ (queryB c arg2 harg2 x0).1 (queryB c arg2 harg2 x0).2.1 (queryB c arg2 harg2 x0).2.2.1
    (queryB c arg2 harg2 x0).2.2.2 _ _ _ _ (diagB c i arg2 harg2 arg3 harg3 arg4 harg4 arg5 harg5 arg6 harg6 arg7 harg7 arg8 harg8 x0 x1 x2 x3))) 6

set_option maxHeartbeats 400000 in
theorem accB7 (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (hc : cond0_0 i) (x0 : Vec F S1x1x512x256 .bf16) (x1 : Vec F S1x4096x512 .bf16) (x2 : Vec F S1x16x512x256 .bf16) (x3 : Vec F S272x256 .bf16) :
    kernelRun0_B.sl.v355 c i arg2 harg2 arg3 harg3 arg4 harg4 arg5 harg5 arg6 harg6 arg7 harg7 arg8 harg8 hc x0 x1 x2 x3 = (stAfter x0 x1 x2 x3 (i 1) (2 * ((i 1).val / 2))).acc 7 := by
  unfold kernelRun0_B.sl.v355
  simp (disch := decide) only [kernelRun0_B.sl.HS0_1_1, kernelRun0_B.sl.HS0_2_1, kernelRun0_B.sl.HS0_3_1, kernelRun0_B.sl.HS0_4_1, kernelRun0_B.sl.HS0_5_1, kernelRun0_B.sl.HS0_6_1, kernelRun0_B.sl.HS0_7_1, View.readCov, readAt_head]
  exact congrFun (congrArg St.acc (loops c i arg2 harg2 arg3 harg3 arg4 harg4 arg5 harg5 arg6 harg6 arg7 harg7 arg8 harg8 x0 x1 x2 x3 Variants.none none
    (BitVec.ofNat 32 (i 1).val) _ _ _ _ _ _ (queryB c arg2 harg2 x0).1 (queryB c arg2 harg2 x0).2.1 (queryB c arg2 harg2 x0).2.2.1
    (queryB c arg2 harg2 x0).2.2.2 _ _ _ _ (diagB c i arg2 harg2 arg3 harg3 arg4 harg4 arg5 harg5 arg6 harg6 arg7 harg7 arg8 harg8 x0 x1 x2 x3))) 7

theorem carryB (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (x0 : Vec F S1x1x512x256 .bf16) (x1 : Vec F S1x4096x512 .bf16) (x2 : Vec F S1x16x512x256 .bf16) (x3 : Vec F S272x256 .bf16) :
    kernelRun0_B.sl.v266 c i arg2 harg2 arg3 harg3 arg4 harg4 arg5 harg5 arg6 harg6 arg7 harg7 arg8 harg8 x0 x1 x2 x3 = (stAfter x0 x1 x2 x3 (i 1) (2 * ((i 1).val / 2))).carry := by
  unfold kernelRun0_B.sl.v266
  exact congrArg St.carry (loops c i arg2 harg2 arg3 harg3 arg4 harg4 arg5 harg5 arg6 harg6 arg7 harg7 arg8 harg8 x0 x1 x2 x3 Variants.none none
    (BitVec.ofNat 32 (i 1).val) _ _ _ _ _ _ (queryB c arg2 harg2 x0).1 (queryB c arg2 harg2 x0).2.1 (queryB c arg2 harg2 x0).2.2.1
    (queryB c arg2 harg2 x0).2.2.2 _ _ _ _ (diagB c i arg2 harg2 arg3 harg3 arg4 harg4 arg5 harg5 arg6 harg6 arg7 harg7 arg8 harg8 x0 x1 x2 x3))

theorem attB (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (hc : cond0_0 i) (x0 : Vec F S1x1x512x256 .bf16) (x1 : Vec F S1x4096x512 .bf16) (x2 : Vec F S1x16x512x256 .bf16) (x3 : Vec F S272x256 .bf16) :
    kernelRun0_B.sl.v277 c i arg2 harg2 arg3 harg3 arg4 harg4 arg5 harg5 arg6 harg6 arg7 harg7 arg8 harg8 hc x0 x1 x2 x3
      = attOf (queries x0) (kblk x1 0) x3 (stAfter x0 x1 x2 x3 (i 1) (2 * ((i 1).val / 2))).carry := by
  have hk := read_kblk harg3 x1 0 (off46 i) (k0_off46_inb i hc)
  unfold kernelRun0_B.sl.v277 kernelRun0_B.sl.r_11
  rw [hk, carryB, (queryB c arg2 harg2 x0).1, (queryB c arg2 harg2 x0).2.1, (queryB c arg2 harg2 x0).2.2.1,
    (queryB c arg2 harg2 x0).2.2.2, read_all harg5 x3 (fun a => by fin_cases a <;> rfl)]
  rfl

theorem slabB0 (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (hc : cond0_0 i) (x0 : Vec F S1x1x512x256 .bf16) (x1 : Vec F S1x4096x512 .bf16) (x2 : Vec F S1x16x512x256 .bf16) (x3 : Vec F S272x256 .bf16) :
    kernelRun0_B.sl.v210 c i arg2 harg2 arg3 harg3 arg4 harg4 arg5 harg5 arg6 harg6 arg7 harg7 arg8 harg8 hc x0 x1 x2 x3
      = (step (queries x0) x3 (kblk x1 0) (vblk x2 0) (stAfter x0 x1 x2 x3 (i 1) (2 * ((i 1).val / 2)))).acc 0 := by
  have hv := read_vblk harg4 x2 0 0 (off47 i) (k0_off47_inb i hc)
  unfold kernelRun0_B.sl.v210 View.readCov
  simp (disch := decide) only [kernelRun0_B.sl.HS0_1_1, kernelRun0_B.sl.HS0_2_1, kernelRun0_B.sl.HS0_3_1, kernelRun0_B.sl.HS0_4_1, kernelRun0_B.sl.HS0_5_1, kernelRun0_B.sl.HS0_6_1, kernelRun0_B.sl.HS0_7_1, kernelRun0_B.sl.HS0_8_1, readAt_same, readAt_head]
  unfold kernelRun0_B.sl.v288 kernelRun0_B.sl.v285 kernelRun0_B.sl.v284 kernelRun0_B.sl.v283 kernelRun0_B.sl.v282 kernelRun0_B.sl.v279
  rw [accB0, attB, hv]
  rfl

theorem slabB1 (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (hc : cond0_0 i) (x0 : Vec F S1x1x512x256 .bf16) (x1 : Vec F S1x4096x512 .bf16) (x2 : Vec F S1x16x512x256 .bf16) (x3 : Vec F S272x256 .bf16) :
    kernelRun0_B.sl.v212 c i arg2 harg2 arg3 harg3 arg4 harg4 arg5 harg5 arg6 harg6 arg7 harg7 arg8 harg8 hc x0 x1 x2 x3
      = (step (queries x0) x3 (kblk x1 0) (vblk x2 0) (stAfter x0 x1 x2 x3 (i 1) (2 * ((i 1).val / 2)))).acc 1 := by
  have hv := read_vblk harg4 x2 0 1 (off48 i) (k0_off48_inb i hc)
  unfold kernelRun0_B.sl.v212 View.readCov
  simp (disch := decide) only [kernelRun0_B.sl.HS0_2_1, kernelRun0_B.sl.HS0_3_1, kernelRun0_B.sl.HS0_4_1, kernelRun0_B.sl.HS0_5_1, kernelRun0_B.sl.HS0_6_1, kernelRun0_B.sl.HS0_7_1, kernelRun0_B.sl.HS0_8_1, readAt_same, readAt_head]
  unfold kernelRun0_B.sl.v299 kernelRun0_B.sl.v296 kernelRun0_B.sl.v295 kernelRun0_B.sl.v294 kernelRun0_B.sl.v293 kernelRun0_B.sl.v290
  rw [accB1, attB, hv]
  rfl

theorem slabB2 (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (hc : cond0_0 i) (x0 : Vec F S1x1x512x256 .bf16) (x1 : Vec F S1x4096x512 .bf16) (x2 : Vec F S1x16x512x256 .bf16) (x3 : Vec F S272x256 .bf16) :
    kernelRun0_B.sl.v214 c i arg2 harg2 arg3 harg3 arg4 harg4 arg5 harg5 arg6 harg6 arg7 harg7 arg8 harg8 hc x0 x1 x2 x3
      = (step (queries x0) x3 (kblk x1 0) (vblk x2 0) (stAfter x0 x1 x2 x3 (i 1) (2 * ((i 1).val / 2)))).acc 2 := by
  have hv := read_vblk harg4 x2 0 2 (off49 i) (k0_off49_inb i hc)
  unfold kernelRun0_B.sl.v214 View.readCov
  simp (disch := decide) only [kernelRun0_B.sl.HS0_3_1, kernelRun0_B.sl.HS0_4_1, kernelRun0_B.sl.HS0_5_1, kernelRun0_B.sl.HS0_6_1, kernelRun0_B.sl.HS0_7_1, kernelRun0_B.sl.HS0_8_1, readAt_same, readAt_head]
  unfold kernelRun0_B.sl.v310 kernelRun0_B.sl.v307 kernelRun0_B.sl.v306 kernelRun0_B.sl.v305 kernelRun0_B.sl.v304 kernelRun0_B.sl.v301
  rw [accB2, attB, hv]
  rfl

theorem slabB3 (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (hc : cond0_0 i) (x0 : Vec F S1x1x512x256 .bf16) (x1 : Vec F S1x4096x512 .bf16) (x2 : Vec F S1x16x512x256 .bf16) (x3 : Vec F S272x256 .bf16) :
    kernelRun0_B.sl.v216 c i arg2 harg2 arg3 harg3 arg4 harg4 arg5 harg5 arg6 harg6 arg7 harg7 arg8 harg8 hc x0 x1 x2 x3
      = (step (queries x0) x3 (kblk x1 0) (vblk x2 0) (stAfter x0 x1 x2 x3 (i 1) (2 * ((i 1).val / 2)))).acc 3 := by
  have hv := read_vblk harg4 x2 0 3 (off50 i) (k0_off50_inb i hc)
  unfold kernelRun0_B.sl.v216 View.readCov
  simp (disch := decide) only [kernelRun0_B.sl.HS0_4_1, kernelRun0_B.sl.HS0_5_1, kernelRun0_B.sl.HS0_6_1, kernelRun0_B.sl.HS0_7_1, kernelRun0_B.sl.HS0_8_1, readAt_same, readAt_head]
  unfold kernelRun0_B.sl.v321 kernelRun0_B.sl.v318 kernelRun0_B.sl.v317 kernelRun0_B.sl.v316 kernelRun0_B.sl.v315 kernelRun0_B.sl.v312
  rw [accB3, attB, hv]
  rfl

theorem slabB4 (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (hc : cond0_0 i) (x0 : Vec F S1x1x512x256 .bf16) (x1 : Vec F S1x4096x512 .bf16) (x2 : Vec F S1x16x512x256 .bf16) (x3 : Vec F S272x256 .bf16) :
    kernelRun0_B.sl.v218 c i arg2 harg2 arg3 harg3 arg4 harg4 arg5 harg5 arg6 harg6 arg7 harg7 arg8 harg8 hc x0 x1 x2 x3
      = (step (queries x0) x3 (kblk x1 0) (vblk x2 0) (stAfter x0 x1 x2 x3 (i 1) (2 * ((i 1).val / 2)))).acc 4 := by
  have hv := read_vblk harg4 x2 0 4 (off51 i) (k0_off51_inb i hc)
  unfold kernelRun0_B.sl.v218 View.readCov
  simp (disch := decide) only [kernelRun0_B.sl.HS0_5_1, kernelRun0_B.sl.HS0_6_1, kernelRun0_B.sl.HS0_7_1, kernelRun0_B.sl.HS0_8_1, readAt_same, readAt_head]
  unfold kernelRun0_B.sl.v332 kernelRun0_B.sl.v329 kernelRun0_B.sl.v328 kernelRun0_B.sl.v327 kernelRun0_B.sl.v326 kernelRun0_B.sl.v323
  rw [accB4, attB, hv]
  rfl

theorem slabB5 (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (hc : cond0_0 i) (x0 : Vec F S1x1x512x256 .bf16) (x1 : Vec F S1x4096x512 .bf16) (x2 : Vec F S1x16x512x256 .bf16) (x3 : Vec F S272x256 .bf16) :
    kernelRun0_B.sl.v220 c i arg2 harg2 arg3 harg3 arg4 harg4 arg5 harg5 arg6 harg6 arg7 harg7 arg8 harg8 hc x0 x1 x2 x3
      = (step (queries x0) x3 (kblk x1 0) (vblk x2 0) (stAfter x0 x1 x2 x3 (i 1) (2 * ((i 1).val / 2)))).acc 5 := by
  have hv := read_vblk harg4 x2 0 5 (off52 i) (k0_off52_inb i hc)
  unfold kernelRun0_B.sl.v220 View.readCov
  simp (disch := decide) only [kernelRun0_B.sl.HS0_6_1, kernelRun0_B.sl.HS0_7_1, kernelRun0_B.sl.HS0_8_1, readAt_same, readAt_head]
  unfold kernelRun0_B.sl.v343 kernelRun0_B.sl.v340 kernelRun0_B.sl.v339 kernelRun0_B.sl.v338 kernelRun0_B.sl.v337 kernelRun0_B.sl.v334
  rw [accB5, attB, hv]
  rfl

theorem slabB6 (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (hc : cond0_0 i) (x0 : Vec F S1x1x512x256 .bf16) (x1 : Vec F S1x4096x512 .bf16) (x2 : Vec F S1x16x512x256 .bf16) (x3 : Vec F S272x256 .bf16) :
    kernelRun0_B.sl.v222 c i arg2 harg2 arg3 harg3 arg4 harg4 arg5 harg5 arg6 harg6 arg7 harg7 arg8 harg8 hc x0 x1 x2 x3
      = (step (queries x0) x3 (kblk x1 0) (vblk x2 0) (stAfter x0 x1 x2 x3 (i 1) (2 * ((i 1).val / 2)))).acc 6 := by
  have hv := read_vblk harg4 x2 0 6 (off53 i) (k0_off53_inb i hc)
  unfold kernelRun0_B.sl.v222 View.readCov
  simp (disch := decide) only [kernelRun0_B.sl.HS0_7_1, kernelRun0_B.sl.HS0_8_1, readAt_same, readAt_head]
  unfold kernelRun0_B.sl.v354 kernelRun0_B.sl.v351 kernelRun0_B.sl.v350 kernelRun0_B.sl.v349 kernelRun0_B.sl.v348 kernelRun0_B.sl.v345
  rw [accB6, attB, hv]
  rfl

theorem slabB7 (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (hc : cond0_0 i) (x0 : Vec F S1x1x512x256 .bf16) (x1 : Vec F S1x4096x512 .bf16) (x2 : Vec F S1x16x512x256 .bf16) (x3 : Vec F S272x256 .bf16) :
    kernelRun0_B.sl.v224 c i arg2 harg2 arg3 harg3 arg4 harg4 arg5 harg5 arg6 harg6 arg7 harg7 arg8 harg8 hc x0 x1 x2 x3
      = (step (queries x0) x3 (kblk x1 0) (vblk x2 0) (stAfter x0 x1 x2 x3 (i 1) (2 * ((i 1).val / 2)))).acc 7 := by
  have hv := read_vblk harg4 x2 0 7 (off54 i) (k0_off54_inb i hc)
  unfold kernelRun0_B.sl.v224 View.readCov
  simp (disch := decide) only [kernelRun0_B.sl.HS0_8_1, readAt_same, readAt_head]
  unfold kernelRun0_B.sl.v362 kernelRun0_B.sl.v361 kernelRun0_B.sl.v360 kernelRun0_B.sl.v359 kernelRun0_B.sl.v356
  rw [accB7, attB, hv]
  rfl

/-- The second run takes one more chunk, the first of all, and stores the state after it. -/
theorem outB (c : Dev nD) (i : grid0.Coords) (arg2 : Memref sig .tc .vmem S1x1x512x256 .bf16) (harg2 : arg2.IsWhole)
    (arg3 : Memref sig .tc .vmem S1x4096x512 .bf16) (harg3 : arg3.IsWhole) (arg4 : Memref sig .tc .vmem S1x16x512x256 .bf16)
    (harg4 : arg4.IsWhole) (arg5 : Memref sig .tc .vmem S272x256 .bf16) (harg5 : arg5.IsWhole)
    (arg6 : Memref sig .tc .vmem S1x256x512 .bf16) (harg6 : arg6.IsWhole) (arg7 : Memref sig .tc .vmem S8x64x256 .f32)
    (harg7 : arg7.IsWhole) (arg8 : Memref sig .tc .vmem S1x2048 .f32) (harg8 : arg8.IsWhole)
    (hc : cond0_0 i) (x0 : Vec F S1x1x512x256 .bf16) (x1 : Vec F S1x4096x512 .bf16) (x2 : Vec F S1x16x512x256 .bf16) (x3 : Vec F S272x256 .bf16) (hi : (i 1).val % 2 = 1) :
    out0_B_4 c i arg2 harg2 arg3 harg3 arg4 harg4 arg5 harg5 arg6 harg6 arg7 harg7 arg8 harg8 hc x0 x1 x2 x3 = outOf (stAfter x0 x1 x2 x3 (i 1) (i 1).val) := by
  obtain ⟨n, hn⟩ : ∃ n, (i 1).val = n + 1 := ⟨(i 1).val - 1, by omega⟩
  have he : earlier (i 1) n = 0 := Fin.ext (show (i 1).val - 1 - n = 0 by omega)
  have hs : stAfter x0 x1 x2 x3 (i 1) (i 1).val
      = step (queries x0) x3 (kblk x1 0) (vblk x2 0) (stAfter x0 x1 x2 x3 (i 1) (2 * ((i 1).val / 2))) := by
    rw [show 2 * ((i 1).val / 2) = n by omega, hn, ← he]
    rfl
  rw [hs]
  unfold out0_B_4 kernelRun0_B
  dsimp only
  refine (read_whole _ _ _ _).trans ?_
  unfold outOf
  rw [slabB0, slabB1, slabB2, slabB3, slabB4, slabB5, slabB6, slabB7]

end Cert.Stick

end
-- ==== Proof.KernelValue.lean ====
/- What the kernel's result array holds after the run, entry by entry. -/
module

public import proofs.«01_k».proof.Proof.Blocks
public import proofs.«01_k».proof.Proof.OutB

@[expose] public section

set_option maxRecDepth 8192

noncomputable section

namespace Cert.Stick

open Cert.KernelIdeal Cert.KernelIdeal.Gen
open Idealize.ShloMosaic Idealize.ShloMosaic.TcCoe
open Idealize.SL.Sem

/-- Row `b` of an argument as reals by position and feature. -/
def real3 (x : FVec Ideal S4x4096x512 .f32) (b : Fin 4) (s f : ℕ) : ℝ :=
  if h : s < 4096 ∧ f < 512 then EReal.toReal (x (ix3 b ⟨s, h.1⟩ ⟨f, h.2⟩)) else 0

theorem real3_at (x : FVec Ideal S4x4096x512 .f32) (hx : ∀ i, x i = ((EReal.toReal (x i) : ℝ) : EReal)) (b : Fin 4) (s : Fin 4096) (f : Fin 512) :
    x (ix3 b s f) = ((real3 x b s.val f.val : ℝ) : EReal) := by
  unfold real3
  rw [dif_pos ⟨s.isLt, f.isLt⟩]
  exact hx _

theorem pay1_at (a : Fin 8 → FVec Ideal S1x64x256 .f32) (g : ℕ → ℕ → ℕ → ℝ)
    (ha : ∀ (h : Fin 8) (d : Fin 64) (t : Fin 256), a h (ix3 0 d t) = ((g h.val d.val t.val : ℝ) : EReal)) (t : Fin 256) (l : Fin 512) :
    (k0_pay1 (a 0) (a 1) (a 2) (a 3) (a 4) (a 5) (a 6) (a 7) : FVec Ideal S1x256x512 .bf16) (ix3 0 t l) = ((g (l.val / 64) (l.val % 64) t.val : ℝ) : EReal) := by
  pointwise [k0_pay1]
  simp only [ha]
  have hg : ∀ n d : ℕ, n = l.val / 64 → d = l.val % 64 → ((g n d t.val : ℝ) : EReal) = ((g (l.val / 64) (l.val % 64) t.val : ℝ) : EReal) := by
    rintro n d rfl rfl; rfl
  have hl := l.isLt
  split_ifs
  · exact hg 0 _ (by omega) (by omega)
  · exact hg 1 _ (by omega) (by omega)
  · exact hg 2 _ (by omega) (by omega)
  · exact hg 3 _ (by omega) (by omega)
  · exact hg 4 _ (by omega) (by omega)
  · exact hg 5 _ (by omega) (by omega)
  · exact hg 6 _ (by omega) (by omega)
  · exact hg 7 _ (by omega) (by omega)

variable (m : (ℓ : Loc nD τ sig) → Buf (Elt Ideal) ℓ) (c : Dev nD)

/-- What a point leaves in the output's buffer. -/
theorem outs_eq (t : Fin cfg0.N) : outsAt0 m c t.val t.isLt
    = outOf (stAfter (iblk m c 0 t) (iblk m c 1 t) (iblk m c 2 t) (iblk m c 3 t) (grid0.coords t 1) (grid0.coords t 1).val) := by
  have hp := coord1 t
  by_cases h : t.val % 2 = 1
  · rw [outsAt0_B m c t h]
    exact outB _ _ _ _ _ _ _ _ _ _ _ _ _ _ _ _ _ _ _ _ _ (by omega)
  · rw [outsAt0_A m c t h]
    exact outA _ _ _ _ _ _ _ _ _ _ _ _ _ _ _ _ _ _ _ _ _ (by omega)

theorem emb4 (t : Fin cfg0.N) (s : Fin 256) (l : Fin 512) : (win0_4.blk t).view.emb (ix3 0 s l)
    = (ix3 (grid0.coords t 0) (⟨256 * (grid0.coords t 1).val + s.val, by have : (grid0.coords t 1).val < 16 := (grid0.coords t 1).isLt; omega⟩ : Fin 4096) l : S4x4096x512.Idx) := by
  blk_ext [idx4 t]

/-- The result, entry by entry, of the arguments' reals. -/
def result : FVec Ideal S4x4096x512 .bf16 := fun i =>
  ((part (real3 (m ((c : Thread nD τ).loc main_arg0)) (i 0)) (real3 (m ((c : Thread nD τ).loc main_arg1)) (i 0))
    (real3 (m ((c : Thread nD τ).loc main_arg2)) (i 0)) ((i 2).val / 64) ((i 2).val % 64) (i 1).val 0 : ℝ) : EReal)

section

variable (h0 : ∀ i, (m ((c : Thread nD τ).loc main_arg0) : FVec Ideal S4x4096x512 .f32) i = ((EReal.toReal ((m ((c : Thread nD τ).loc main_arg0) : FVec Ideal S4x4096x512 .f32) i) : ℝ) : EReal))
  (h1 : ∀ i, (m ((c : Thread nD τ).loc main_arg1) : FVec Ideal S4x4096x512 .f32) i = ((EReal.toReal ((m ((c : Thread nD τ).loc main_arg1) : FVec Ideal S4x4096x512 .f32) i) : ℝ) : EReal))
  (h2 : ∀ i, (m ((c : Thread nD τ).loc main_arg2) : FVec Ideal S4x4096x512 .f32) i = ((EReal.toReal ((m ((c : Thread nD τ).loc main_arg2) : FVec Ideal S4x4096x512 .f32) i) : ℝ) : EReal))

include h0 h1 h2

theorem outs_at (t : Fin cfg0.N) (s : Fin 256) (l : Fin 512) : (outsAt0 m c t.val t.isLt : FVec Ideal S1x256x512 .bf16) (ix3 0 s l)
    = ((part (real3 (m ((c : Thread nD τ).loc main_arg0)) (grid0.coords t 0)) (real3 (m ((c : Thread nD τ).loc main_arg1)) (grid0.coords t 0))
    (real3 (m ((c : Thread nD τ).loc main_arg2)) (grid0.coords t 0)) (l.val / 64) (l.val % 64) (256 * (grid0.coords t 1).val + s.val) 0 : ℝ) : EReal) := by
  have hG := stAfter_good (real3 (m ((c : Thread nD τ).loc main_arg0)) (grid0.coords t 0)) (real3 (m ((c : Thread nD τ).loc main_arg1)) (grid0.coords t 0))
    (real3 (m ((c : Thread nD τ).loc main_arg2)) (grid0.coords t 0)) (grid0.coords t 1)
    (fun f s => (blk0_at m c t f s).trans (real3_at _ h0 _ _ _))
    (fun s f => (blk1_at m c t s f).trans (real3_at _ h1 _ _ _))
    (fun j f s => (blk2_at m c t j f s).trans (real3_at _ h2 _ _ _))
    (blk3_at m c t) (grid0.coords t 1).val le_rfl
  rw [outs_eq]
  refine pay1_at _ (fun h d s => part (real3 (m ((c : Thread nD τ).loc main_arg0)) (grid0.coords t 0)) (real3 (m ((c : Thread nD τ).loc main_arg1)) (grid0.coords t 0))
    (real3 (m ((c : Thread nD τ).loc main_arg2)) (grid0.coords t 0)) h d (256 * (grid0.coords t 1).val + s) 0) (fun h d s => ?_) s l
  have := hG.acc h d s
  rw [Nat.sub_self, Nat.mul_zero] at this
  exact this

theorem outs_emb (t : Fin cfg0.N) (y : S1x256x512.Idx) :
    (outsAt0 m c t.val t.isLt : FVec Ideal S1x256x512 .bf16) y = result m c ((win0_4.blk t).view.emb y) := by
  have hy : y = ix3 0 (y 1) (y 2) := funext fun a => by
    match a with
    | ⟨0, _⟩ => exact Subsingleton.elim (α := Fin 1) _ _
    | ⟨1, _⟩ => rfl
    | ⟨2, _⟩ => rfl
  rw [hy]
  refine (outs_at m c h0 h1 h2 t (y 1) (y 2)).trans ?_
  exact (congrArg (result m c) (emb4 t (y 1) (y 2))).symm

/-- The kernel's result array after the run. -/
theorem final : (dats m 0 c).arrAt 4 cfg0.N = result m c := by
  refine (dats m 0 c).arrAt_eq_of_covers 4 _ (by decide +kernel) fun t hf y => ?_
  blk_simp
  rw [after0_4]
  exact outs_emb m c h0 h1 h2 t y

end

end Cert.Stick

end
-- ==== Proof.Natural.lean ====
/- The attention of Spec.lean in natural logarithms, as the reference takes them. -/
module

public import proofs.«01_k».proof.Proof.Spec

@[expose] public section

noncomputable section

namespace Cert.Stick

open Idealize.ShloMosaic

theorem ln2_pos : 0 < Real.log 2 := Real.log_pos (by norm_num)

/-- The logarithm of the logistic function. -/
def ls (x : ℝ) : ℝ := -(max (-x) 0 + Real.log (1 + Real.exp (-|x|)))

theorem ls_eq (z : ℝ) : ls (z * Real.log 2) = lb z * Real.log 2 := by
  have hL := ln2_pos
  have h2 : Real.rpow 2 (-|z|) = Real.exp (-|z * Real.log 2|) := by
    show (2 : ℝ) ^ (-|z|) = _
    rw [Real.rpow_def_of_pos (by norm_num), abs_mul, abs_of_pos hL]
    congr 1; ring
  have h3 : max (-(z * Real.log 2)) 0 = -(min z 0 * Real.log 2) := by
    rcases le_total z 0 with h | h
    · rw [min_eq_left h, max_eq_left (by nlinarith)]
    · rw [min_eq_right h, max_eq_right (by nlinarith)]; ring
  unfold ls lb
  rw [h2, h3, sub_mul, mul_assoc, inv_mul_cancel₀ hL.ne']
  ring

theorem ls_neg (x : ℝ) : ls (-x) = ls x - x := by
  unfold ls
  rw [abs_neg, neg_neg]
  rcases le_total x 0 with h | h
  · rw [max_eq_right h, max_eq_left (by linarith)]; ring
  · rw [max_eq_left h, max_eq_right (by linarith)]; ring

/-- The reference's spelling. -/
theorem ls_coe (x : ℝ) : -(max (-(x : EReal)) 0 + Ideal.log1p (Ideal.exp (-(max (-(x : EReal)) (- -(x : EReal)))))) = ((ls x : ℝ) : EReal) := by
  have h0 : (0 : ℝ) < Real.exp (-|x|) := Real.exp_pos _
  have h1 : max (-(x : EReal)) (- -(x : EReal)) = ((|x| : ℝ) : EReal) := by
    rw [neg_neg, max_comm, ← EReal.coe_neg]; exact (coe_max _ _).symm
  rw [h1, ← EReal.coe_neg, ← EReal.coe_neg, Ideal.exp_coe, Ideal.log1p, ← EReal.coe_one, ← EReal.coe_add, Ideal.log_coe,
    if_neg (by linarith), ← EReal.coe_zero, ← coe_max, ← EReal.coe_add, ← EReal.coe_neg]
  rfl

variable (q k v : ℕ → ℕ → ℝ)

/-- The logit of query `T` and key `s` in head `h`. -/
def logit (h T s : ℕ) : ℝ := (∑ d ∈ Finset.range 64, q T (64 * h + d) * k s (64 * h + d)) * (1 / 8)

theorem logit_eq (h T s : ℕ) : logit q k h T s = zz q k h T s * Real.log 2 := by
  unfold logit zz
  rw [Finset.sum_mul, Finset.sum_mul]
  refine Finset.sum_congr rfl fun d _ => ?_
  have := ln2_pos.ne'
  field_simp

theorem lr_eq (h T s : ℕ) : (if s < T then ls (-logit q k h T s) else 0) = lr q k h T s * Real.log 2 := by
  unfold lr
  split_ifs
  · rw [ls_neg, logit_eq, ls_eq]; ring
  · rw [zero_mul]

theorem later_eq (h T s : ℕ) (hs : s < 4096) :
    (∑ r ∈ Finset.range 4096, if s + r < 4096 then lr q k h T (s + r) * Real.log 2 else 0) - lr q k h T s * Real.log 2
      = later q k h T (s + 1) * Real.log 2 := by
  rw [Finset.range_eq_Ico, ← Finset.sum_Ico_consecutive _ (Nat.zero_le (4096 - s)) (by omega : 4096 - s ≤ 4096),
    Finset.sum_eq_zero (s := Finset.Ico (4096 - s) 4096) (fun r hr => by
      rw [if_neg (by have := (Finset.mem_Ico.1 hr).1; omega)]), add_zero,
    Finset.sum_congr rfl (fun r hr => by rw [if_pos (by have := (Finset.mem_Ico.1 hr).2; omega)]),
    ← Finset.sum_mul, ← sub_mul, ← Finset.range_eq_Ico, sum_chunk (fun s => lr q k h T s), show s + (4096 - s) = 4096 by omega,
    Finset.sum_eq_sum_Ico_succ_bot (by omega : s < 4096)]
  unfold later
  ring

theorem wt_eq (h T s : ℕ) :
    (if s < T then Real.exp (ls (logit q k h T s) + later q k h T (s + 1) * Real.log 2) else 0) = wt q k h T s := by
  unfold wt
  split_ifs
  · show _ = (2 : ℝ) ^ (_ : ℝ)
    rw [logit_eq, ls_eq, Real.rpow_def_of_pos (by norm_num)]
    congr 1; ring
  · rfl

end Cert.Stick

end
-- ==== Proof.RefStages.lean ====
/- The reference's result in named stages, and each stage read at an entry. -/
module

public import proofs.«01_k».proof.Proof.Gen.ReferenceIdeal.Run
public import proofs.«01_k».proof.Proof.Natural
public import Idealize.ShloMosaic.Lib.Pointwise
public import Idealize.ShloMosaic.Lib.WordCmp

@[expose] public section

set_option maxRecDepth 8192

noncomputable section

namespace Cert.Stick

open Cert.ReferenceIdeal Cert.ReferenceIdeal.Gen Idealize.ShloMosaic Idealize.ShloMosaic.TcCoe

abbrev Arg := FVec Ideal S4x4096x512 .f32
abbrev Pair4 := FVec Ideal S4x8x4096x4096 .f32

def refZ (q k : Arg) : Pair4 :=
  Host.divf (Host.dotGeneral dot_S4x4096x8x64_S4x4096x8x64_S4x8x4096x4096_3_3_1_1_02_02 none (shapeCast _ q shapeCasts_S4x4096x512_S4x4096x8x64) (shapeCast _ k shapeCasts_S4x4096x512_S4x4096x8x64)) (broadcastInDim S4x8x4096x4096 ![] bcast_S_S4x8x4096x4096 (constant S_ .f32 0x41000000#32))

def refO : Pair4 := broadcastInDim S4x8x4096x4096 ![] bcast_S_S4x8x4096x4096 (constant S_ .f32 0x00000000#32)

def refLs (z : Pair4) : Pair4 :=
  Host.negf (select (cmpf .une (subf (Host.negf z) refO) (subf (Host.negf z) refO)) (addf (Host.negf z) refO) (addf (maximumf (Host.negf z) refO) (Host.log1p (Host.exp (Host.negf (Host.absf (subf (Host.negf z) refO)))))))

def refMask : IVec S4x8x4096x4096 1 :=
  broadcastInDim S4x8x4096x4096 ![2, 3] bcast_S4096x4096_S4x8x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

def refSel (x : Pair4) : Pair4 :=
  select refMask x (broadcastInDim S4x8x4096x4096 ![] bcast_S_S4x8x4096x4096 (id (constant S_ .f32 0x00000000#32)))

def refCum (x : Pair4) : Pair4 :=
  Host.reduceWindowAdd ![1, 1, 1, 4096] ![1, 1, 1, 1] ![0, 0, 0, 0] ![0, 0, 0, 4095] x (broadcastInDim S_ ![] bcast_S_S_ (constant S_ .f32 0x00000000#32)) reduceWindows_S4x8x4096x4096_S4x8x4096x4096_w1s1p0_0_w1s1p0_0_w1s1p0_0_w4096s1p0_4095 h_S_

def refAtt (q k : Arg) : Pair4 :=
  refSel (Host.exp (addf (refLs (refZ q k)) (subf (refCum (refSel (refLs (Host.negf (refZ q k))))) (refSel (refLs (Host.negf (refZ q k)))))))

def refOut (v : Arg) (a : Pair4) : FVec Ideal S4x4096x512 .bf16 :=
  truncf .bf16 (shapeCast _ (transpose S4x4096x8x64 [0, 3, 1, 2] (Host.dotGeneral dot_S4x4096x8x64_S4x8x4096x4096_S4x8x64x4096_1_3_3_2_02_01 none (shapeCast _ v shapeCasts_S4x4096x512_S4x4096x8x64) a) transposes_S4x8x64x4096_S4x4096x8x64_0_3_1_2) shapeCasts_S4x4096x8x64_S4x4096x512) bitsLt_bf16_f32

theorem ref_stages (m : (ℓ : Loc nD τ sig) → Buf (Elt Ideal) ℓ) (c : Dev nD) :
    Value.res_out0 m c = refOut (m ((c.tc : Thread nD τ).loc main_arg2)) (refAtt (m ((c.tc : Thread nD τ).loc main_arg0)) (m ((c.tc : Thread nD τ).loc main_arg1))) := by
  rfl

/-- The reference's divisor. -/
theorem eight : Ideal.ofBits .f32 0x41000000#32 = ((8 : ℝ) : EReal) := by
  simp [Ideal.ofBits, Ideal.ieee, -EReal.coe_mul]; norm_num

theorem refZ_at (q k : Arg) (b : Fin 4) (h : Fin 8) (t s : Fin 4096) (Q K : ℕ → ℕ → ℝ)
    (hq : ∀ (t : Fin 4096) (f : Fin 512), q (ix3 b t f) = ((Q t.val f.val : ℝ) : EReal))
    (hk : ∀ (t : Fin 4096) (f : Fin 512), k (ix3 b t f) = ((K t.val f.val : ℝ) : EReal)) :
    refZ q k (ix4 b h t s) = ((logit Q K h.val t.val s.val : ℝ) : EReal) := by
  pointwise [refZ]
  rw [eight, Ideal.div_coe (by norm_num), sum_fin _ (fun d => Q t.val (64 * h.val + d) * K s.val (64 * h.val + d)) (fun x => by
    rw [hq, hk, ← EReal.coe_mul]
    dsimp only
    rw [mul_comm h.val 64]), ← EReal.coe_mul]
  rfl

theorem refO_at (b : Fin 4) (h : Fin 8) (t s : Fin 4096) : refO (ix4 b h t s) = 0 := by
  pointwise [refO]

theorem refLs_at (z : Pair4) (b : Fin 4) (h : Fin 8) (t s : Fin 4096) (x : ℝ) (hz : z (ix4 b h t s) = ((x : ℝ) : EReal)) :
    refLs z (ix4 b h t s) = ((ls x : ℝ) : EReal) := by
  pointwise [refLs, refO_at]
  rw [hz, if_neg (fun h => h rfl)]
  exact ls_coe x

theorem refSel_at (z : Pair4) (b : Fin 4) (h : Fin 8) (t s : Fin 4096) (x : ℝ) (hz : z (ix4 b h t s) = ((x : ℝ) : EReal)) :
    refSel z (ix4 b h t s) = (((if s.val < t.val then x else 0 : ℝ) : ℝ) : EReal) := by
  pointwise [refSel, refMask]
  rw [hz, WordCmp.cmpi_slt_ofNat (by have := s.isLt; omega) (by have := t.isLt; omega)]
  by_cases hst : s.val < t.val
  · rw [if_pos hst, decide_eq_true hst]; rfl
  · rw [if_neg hst, decide_eq_false hst]; exact Ideal.ofBits_zero_f32

/-! The running sum from the end -/

theorem foldl_add {α : Type} (g : α → EReal) (l : List α) (a : EReal) : l.foldl (fun r i => r + g i) a = a + (l.map g).sum := by
  induction l generalizing a with
  | nil => simp
  | cons x l ih => rw [List.foldl_cons, ih, List.map_cons, List.sum_cons, add_assoc]

/-- The places of a window along the last axis. -/
def along : Fin 4096 ≃ (⟨4, ![1, 1, 1, 4096]⟩ : Shape).Idx where
  toFun r := fun a => match a with
    | ⟨0, _⟩ => (0 : Fin 1)
    | ⟨1, _⟩ => (0 : Fin 1)
    | ⟨2, _⟩ => (0 : Fin 1)
    | ⟨3, _⟩ => r
  invFun i := i 3
  left_inv r := rfl
  right_inv i := by
    funext a
    match a with
    | ⟨0, _⟩ => exact (Subsingleton.elim (0 : Fin 1) (i 0))
    | ⟨1, _⟩ => exact (Subsingleton.elim (0 : Fin 1) (i 1))
    | ⟨2, _⟩ => exact (Subsingleton.elim (0 : Fin 1) (i 2))
    | ⟨3, _⟩ => rfl

/-- A windowed sum from zero, at one entry: the sum over the places of the window. -/
theorem window_sum {s t : Shape} (window strides lo hi : Fin s.rank → ℕ) (h : s.ReduceWindows window strides lo hi t) (x : s.Idx → EReal) (j : t.Idx) :
    Ideal.hostReduceWindowAdd window strides lo hi h x 0 j = ∑ i : (⟨s.rank, window⟩ : Shape).Idx,
      if hin : ∀ a, lo a ≤ (j (a.cast h.1.symm)).val * strides a + (i a).val ∧ (j (a.cast h.1.symm)).val * strides a + (i a).val - lo a < s.size a
      then x (fun a => ⟨(j (a.cast h.1.symm)).val * strides a + (i a).val - lo a, (hin a).2⟩) else 0 := by
  unfold Ideal.hostReduceWindowAdd Host.reduceWindow
  dsimp only
  rw [foldl_add, zero_add, ← Fin.sum_univ_def]
  refine (Finset.sum_congr rfl fun n _ => ?_).trans (Equiv.sum_comp (Shape.rowMajor ⟨s.rank, window⟩).symm (fun i : (⟨s.rank, window⟩ : Shape).Idx =>
    if hin : ∀ a, lo a ≤ (j (a.cast h.1.symm)).val * strides a + (i a).val ∧ (j (a.cast h.1.symm)).val * strides a + (i a).val - lo a < s.size a
      then x (fun a => ⟨(j (a.cast h.1.symm)).val * strides a + (i a).val - lo a, (hin a).2⟩) else 0))
  by_cases hin : ∀ a, lo a ≤ (j (a.cast h.1.symm)).val * strides a + ((Shape.rowMajor ⟨s.rank, window⟩).symm n a).val
      ∧ (j (a.cast h.1.symm)).val * strides a + ((Shape.rowMajor ⟨s.rank, window⟩).symm n a).val - lo a < s.size a
  · rw [dif_pos hin, dif_pos hin]
  · rw [dif_neg hin, dif_neg hin]

theorem window_def {s t u : Shape} (window strides lo hi : Fin s.rank → ℕ) (x : FVec Ideal s .f32) (init : FVec Ideal u .f32)
    (h : s.ReduceWindows window strides lo hi t) (hu : 0 < u.numel) :
    Host.reduceWindowAdd window strides lo hi x init h hu = Ideal.hostReduceWindowAdd window strides lo hi h x (init (Shape.Idx.first hu)) := rfl

theorem refCum_at (x : Pair4) (b : Fin 4) (h : Fin 8) (t s : Fin 4096) :
    refCum x (ix4 b h t s) = ∑ r : Fin 4096, if hr : s.val + r.val < 4096 then x (ix4 b h t ⟨s.val + r.val, hr⟩) else 0 := by
  have hz : ∀ i, (broadcastInDim S_ ![] bcast_S_S_ (constant S_ .f32 0x00000000#32) : FVec Ideal S_ .f32) i = 0 := fun i => Ideal.ofBits_zero_f32
  unfold refCum
  rw [window_def, hz, window_sum]
  refine (Equiv.sum_comp along _).symm.trans (Finset.sum_congr rfl fun r _ => ?_)
  by_cases hr : s.val + r.val < 4096
  · rw [dif_pos hr, dif_pos]
    · refine congrArg x (funext fun a => Fin.ext ?_)
      match a with
      | ⟨0, _⟩ => show b.val * 1 + 0 - 0 = b.val; omega
      | ⟨1, _⟩ => show h.val * 1 + 0 - 0 = h.val; omega
      | ⟨2, _⟩ => show t.val * 1 + 0 - 0 = t.val; omega
      | ⟨3, _⟩ => show s.val * 1 + r.val - 0 = s.val + r.val; omega
    · intro a
      match a with
      | ⟨0, _⟩ => show 0 ≤ b.val * 1 + 0 ∧ b.val * 1 + 0 - 0 < 4; omega
      | ⟨1, _⟩ => show 0 ≤ h.val * 1 + 0 ∧ h.val * 1 + 0 - 0 < 8; omega
      | ⟨2, _⟩ => show 0 ≤ t.val * 1 + 0 ∧ t.val * 1 + 0 - 0 < 4096; omega
      | ⟨3, _⟩ => show 0 ≤ s.val * 1 + r.val ∧ s.val * 1 + r.val - 0 < 4096; omega
  · rw [dif_neg hr, dif_neg]
    intro hin
    have h3 : 0 ≤ s.val * 1 + r.val ∧ s.val * 1 + r.val - 0 < 4096 := hin 3
    omega

theorem refOut_at (v : Arg) (a : Pair4) (b : Fin 4) (t : Fin 4096) (f : Fin 512) :
    refOut v a (ix3 b t f) = ∑ x : Fin 4096, v (ix3 b x f) * a (ix4 b ⟨f.val / 64, by omega⟩ t x) := by
  pointwise [refOut]

section

variable (q k v : Arg) (b : Fin 4) (Q K V : ℕ → ℕ → ℝ)
    (hq : ∀ (t : Fin 4096) (f : Fin 512), q (ix3 b t f) = ((Q t.val f.val : ℝ) : EReal))
    (hk : ∀ (t : Fin 4096) (f : Fin 512), k (ix3 b t f) = ((K t.val f.val : ℝ) : EReal))
    (hv : ∀ (t : Fin 4096) (f : Fin 512), v (ix3 b t f) = ((V t.val f.val : ℝ) : EReal))

include hq hk

theorem left_at (h : Fin 8) (t s : Fin 4096) :
    refSel (refLs (Host.negf (refZ q k))) (ix4 b h t s) = ((lr Q K h.val t.val s.val * Real.log 2 : ℝ) : EReal) := by
  have hn : (Host.negf (refZ q k) : Pair4) (ix4 b h t s) = ((-logit Q K h.val t.val s.val : ℝ) : EReal) := by
    pointwise []
    rw [refZ_at q k b h t s Q K hq hk, EReal.coe_neg]
  rw [refSel_at _ b h t s _ (refLs_at _ b h t s _ hn), lr_eq]

theorem cum_at (h : Fin 8) (t s : Fin 4096) :
    refCum (refSel (refLs (Host.negf (refZ q k)))) (ix4 b h t s)
      = ((∑ r ∈ Finset.range 4096, if s.val + r < 4096 then lr Q K h.val t.val (s.val + r) * Real.log 2 else 0 : ℝ) : EReal) := by
  rw [refCum_at]
  refine sum_fin _ (fun r => if s.val + r < 4096 then lr Q K h.val t.val (s.val + r) * Real.log 2 else 0) fun r => ?_
  by_cases hr : s.val + r.val < 4096
  · rw [dif_pos hr, if_pos hr, left_at q k b Q K hq hk]
  · rw [dif_neg hr, if_neg hr, EReal.coe_zero]

theorem refAtt_at (h : Fin 8) (t s : Fin 4096) : refAtt q k (ix4 b h t s) = ((wt Q K h.val t.val s.val : ℝ) : EReal) := by
  have he : (Host.exp (addf (refLs (refZ q k)) (subf (refCum (refSel (refLs (Host.negf (refZ q k))))) (refSel (refLs (Host.negf (refZ q k)))))) : Pair4) (ix4 b h t s)
      = ((Real.exp (ls (logit Q K h.val t.val s.val) + later Q K h.val t.val (s.val + 1) * Real.log 2) : ℝ) : EReal) := by
    pointwise []
    rw [cum_at q k b Q K hq hk, left_at q k b Q K hq hk, refLs_at _ b h t s _ (refZ_at q k b h t s Q K hq hk), ← EReal.coe_sub,
      later_eq Q K h.val t.val s.val s.isLt, ← EReal.coe_add, Ideal.exp_coe]
  unfold refAtt
  rw [refSel_at _ b h t s _ he, wt_eq]

include hv

/-- The reference's result, entry by entry. -/
theorem ref_at (t : Fin 4096) (f : Fin 512) :
    refOut v (refAtt q k) (ix3 b t f) = ((part Q K V (f.val / 64) (f.val % 64) t.val 0 : ℝ) : EReal) := by
  rw [refOut_at, sum_fin _ (fun s => V s (64 * (f.val / 64) + f.val % 64) * wt Q K (f.val / 64) t.val s) (fun s => by
    rw [hv, refAtt_at q k b Q K hq hk, ← EReal.coe_mul, Nat.div_add_mod]), Finset.range_eq_Ico]
  rfl

end

end Cert.Stick

end
-- ==== Proof.Finite.lean ====
/- Arguments that satisfy the precondition hold reals. -/
module

public import proofs.«01_k».proof.Pre_finite
public import proofs.«01_k».proof.Proof.Gen.Pre_finite
public import Idealize.ShloMosaic.PureOps.Ideal.Laws
public import Idealize.ShloMosaic.Lib.ReduceAll
public import Idealize.ShloMosaic.Lib.Pointwise

@[expose] public section

noncomputable section

namespace Cert.Stick

open Idealize.ShloMosaic

/-- An extended real whose absolute value is below infinity is real. -/
theorem real_of_lt (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => rw [EReal.toReal_coe]

open Cert.Pre_finite Cert.Pre_finite.Gen

instance : Subsingleton (Shape.Idx S_) := ⟨fun a b => funext fun i => i.elim0⟩

theorem andi_one (a b : IVec S_ 1) (h : andi a b = fun _ => 1#1) : a = (fun _ => 1#1) ∧ b = (fun _ => 1#1) :=
  ⟨funext fun i => (IntOp.andi_eq_one.1 (congrFun h i)).1, funext fun i => (IntOp.andi_eq_one.1 (congrFun h i)).2⟩

theorem real_all (x : FVec Ideal S4x4096x512 .f32)
    (h : Host.reduce IntOp.andi (cmpf .olt (Host.absf x) (broadcastInDim S4x4096x512 ![] bcast_S_S4x4096x512 (constant S_ .f32 0x7F800000#32)))
      (constantI S_ 1 1#1) reducesTo_S4x4096x512_S_d0_1_2 h_S_ = fun _ => 1#1) (i : S4x4096x512.Idx) : x i = ((EReal.toReal (x i) : ℝ) : EReal) :=
  real_of_lt (x i) (Host.reduce_andi_all _ _ _ _ (Shape.Idx.first h_S_) (congrFun h _) i)

/-- The precondition, entry by entry. -/
theorem finite_real (q k v : FVec Ideal S4x4096x512 .f32) (h : Cert.Pre_finite.fn (F := Ideal) q k v = fun _ => 1#1) :
    (∀ i, q i = ((EReal.toReal (q i) : ℝ) : EReal)) ∧ (∀ i, k i = ((EReal.toReal (k i) : ℝ) : EReal)) ∧ (∀ i, v i = ((EReal.toReal (v i) : ℝ) : EReal)) := by
  have h1 := andi_one _ _ h
  have h2 := andi_one _ _ h1.1
  exact ⟨real_all q h2.1, real_all k h2.2, real_all v h1.2⟩

end Cert.Stick

end
-- ==== Proof.Equal.lean ====
/- The kernel's result is the reference's. -/
module

public import proofs.«01_k».proof.Defs
public import proofs.«01_k».proof.Proof.KernelValue
public import proofs.«01_k».proof.Proof.RefStages
public import proofs.«01_k».proof.Proof.Finite

@[expose] public section

set_option maxRecDepth 8192

noncomputable section

namespace Cert.Stick

open Idealize.ShloMosaic Idealize.ShloMosaic.TcCoe
open Idealize.SL.Sem

/-- The reference's result of arguments that hold reals. -/
theorem ref_result (q k v : Arg) (h0 : ∀ i, q i = ((EReal.toReal (q i) : ℝ) : EReal)) (h1 : ∀ i, k i = ((EReal.toReal (k i) : ℝ) : EReal))
    (h2 : ∀ i, v i = ((EReal.toReal (v i) : ℝ) : EReal)) (b : Fin 4) (t : Fin 4096) (f : Fin 512) :
    refOut v (refAtt q k) (ix3 b t f) = ((part (real3 q b) (real3 k b) (real3 v b) (f.val / 64) (f.val % 64) t.val 0 : ℝ) : EReal) :=
  ref_at q k v b _ _ _ (real3_at q h0 b) (real3_at k h1 b) (real3_at v h2 b) t f

theorem ref_eq (m : (ℓ : Loc Cert.KernelIdeal.nD Cert.KernelIdeal.τ Cert.KernelIdeal.sig) → Buf (Elt Ideal) ℓ) (c : Dev Cert.KernelIdeal.nD)
    (q k v : Arg) (hq : q = m ((c.tc : Thread Cert.KernelIdeal.nD Cert.KernelIdeal.τ).loc Cert.KernelIdeal.main_arg0))
    (hk : k = m ((c.tc : Thread Cert.KernelIdeal.nD Cert.KernelIdeal.τ).loc Cert.KernelIdeal.main_arg1))
    (hv : v = m ((c.tc : Thread Cert.KernelIdeal.nD Cert.KernelIdeal.τ).loc Cert.KernelIdeal.main_arg2))
    (hp : Cert.Pre_finite.fn (F := Ideal) q k v = fun _ => 1#1) : refOut v (refAtt q k) = result m c := by
  obtain ⟨h0, h1, h2⟩ := finite_real q k v hp
  funext i
  have hi : i = ix3 (i 0) (i 1) (i 2) := funext fun a => by
    match a with
    | ⟨0, _⟩ => rfl
    | ⟨1, _⟩ => rfl
    | ⟨2, _⟩ => rfl
  refine ((congrArg (refOut v (refAtt q k)) hi).trans (ref_result q k v h0 h1 h2 (i 0) (i 1) (i 2))).trans ?_
  unfold result
  rw [← hq, ← hk, ← hv]

/-- On finite arguments both programs end with the same result. -/
theorem algebraic : Cert.algebraic_KernelIdeal_ReferenceIdeal_pre_finite := by
  intro m g m' g' hpre hag
  refine ⟨fun c => result m c, ?_, ?_⟩
  · refine (θ_run Cert.KernelIdeal.defs _ _).mono (fun r h c => ⟨(h c).1.trans ?_, (h c).2⟩) (Cert.KernelIdeal.Value.run_blocks (F := Ideal) m g)
    obtain ⟨h0, h1, h2⟩ := finite_real _ _ _ (hpre c)
    exact final m c h0 h1 h2
  · refine (θ_run Cert.ReferenceIdeal.defs _ _).mono (fun r h c => ⟨(h c).1.trans ?_, (h c).2⟩) (Cert.ReferenceIdeal.Value.run (F := Ideal) m' g')
    obtain ⟨e0, e1, e2⟩ := hag c
    refine (ref_stages m' c).trans (ref_eq m c _ _ _ e0 e1 e2 ?_)
    rw [e0, e1, e2]
    exact hpre c

end Cert.Stick

end
-- ==== Proof.MoeBlock.lean ====
/- One block of an expert's routed tokens: what it adds to the accumulator. -/
module

public import proofs.«01_k».proof.Proof.Gen.Kernel2Ideal.Skeleton
public import Idealize.ShloMosaic.Lib.Pointwise

@[expose] public section

set_option maxRecDepth 8192

noncomputable section

namespace Cert.Moe

open Cert.Kernel2Ideal Cert.Kernel2Ideal.Gen
open Idealize.ShloMosaic

theorem named_slot : (Named.named κ "slot" 0x3BCCCCCD#32 : Ideal .f32) = ((160⁻¹ : ℝ) : EReal) :=
  (IdealRules.named_const.statement Cert.Kernel2Ideal.κ "slot" .f32 0x3BCCCCCD#32 ((160⁻¹ : ℝ) : EReal) rfl).2.2

/-- Which token each of a block's 160 rows selects. -/
def selB (slot : FVec Ideal S1x1024 .f32) (w : BitVec 32) : FVec Ideal S160x1024 .f32 :=
  select (cmpf .oeq (broadcastTo S160x1024 slot broadcasts_S1x1024_S160x1024)
      (addf (k0_pay12 (F := Ideal)) (broadcast S160x1024 (Scalar.sitofp .f32 (Scalar.muli w 160#32) : Ideal .f32))))
    (broadcast S160x1024 (Scalar.ofBits .f32 0x3F800000#32 : Ideal .f32)) (broadcast S160x1024 (Scalar.ofBits .f32 0x00000000#32 : Ideal .f32))

/-- The selected tokens. -/
def gathB (sel : FVec Ideal S160x1024 .f32) (xb : FVec Ideal S1024x1024 .bf16) : FVec Ideal S160x1024 .f32 :=
  matmul dot_S160x1024_S1024x1024_S160x1024_1_0_0_1_n_n none (truncf .bf16 sel bitsLt_bf16_f32) xb (constant S160x1024 .f32 0x00000000#32)

/-- A gate or up product of the selected tokens. -/
def upB (xs : FVec Ideal S160x1024 .f32) (w : FVec Ideal S1x1024x512 .bf16) : FVec Ideal S160x512 .f32 :=
  matmul dot_S160x1024_S1024x512_S160x512_1_0_0_1_n_n none (truncf .bf16 xs bitsLt_bf16_f32)
    (shapeCast S1024x512 w shapeCasts_S1x1024x512_S1024x512) (constant S160x512 .f32 0x00000000#32)

/-- The gated product brought down. -/
def downB (g u : FVec Ideal S160x512 .f32) (w : FVec Ideal S1x512x1024 .bf16) : FVec Ideal S160x1024 .f32 :=
  matmul dot_S160x512_S512x1024_S160x1024_1_0_0_1_n_n none (truncf .bf16 (mulf (mulf g (logistic g)) u) bitsLt_bf16_f32)
    (shapeCast S512x1024 w shapeCasts_S1x512x1024_S512x1024) (constant S160x1024 .f32 0x00000000#32)

/-- A block's rows brought back to their tokens, weighted and added to the accumulator. -/
def addB (sel y : FVec Ideal S160x1024 .f32) (cc : FVec Ideal S1024x1 .f32) (acc : FVec Ideal S1024x1024 .f32) :
    FVec Ideal S1024x1024 .f32 :=
  addf acc (mulf (broadcastTo S1024x1024 cc broadcasts_S1024x1_S1024x1024)
    (matmul dot_S1024x256_S256x1024_S1024x1024_1_0_0_1_n_n none
      (truncf .bf16 (transpose S1024x256 [1, 0] (concatenate S256x1024 0 [⟨S160x1024, sel⟩, ⟨S96x1024, (k0_pay13 (F := Ideal))⟩]
        concatenates_S160x1024_S96x1024_S256x1024_d0) transposes_S256x1024_p1_0_S1024x256) bitsLt_bf16_f32)
      (concatenate S256x1024 0 [⟨S160x1024, (truncf .bf16 y bitsLt_bf16_f32 : FVec Ideal S160x1024 .bf16)⟩, ⟨S96x1024, (k0_pay14 (F := Ideal))⟩]
        concatenates_S160x1024_S96x1024_S256x1024_d0)
      (constant S1024x1024 .f32 0x00000000#32)))

variable (slot : FVec Ideal S1x1024 .f32) (v30 : BitVec 32) (cc : FVec Ideal S1024x1 .f32)
  (xb : FVec Ideal S1024x1024 .bf16) (wg wu : FVec Ideal S1x1024x512 .bf16) (wd : FVec Ideal S1x512x1024 .bf16)
  (acc : FVec Ideal S1024x1024 .f32)

/-- One block, from the block's number. -/
def blkB (w : BitVec 32) : FVec Ideal S1024x1024 .f32 :=
  addB (selB slot w) (downB (upB (gathB (selB slot w) xb) wg) (upB (gathB (selB slot w) xb) wu) wd) cc acc

theorem pay5_eq (k : Fin (k0_t1_loop v30).trips) :
    k0_pay5 k0_pay12 k0_pay13 k0_pay14 slot v30 cc 0#32 1#32 k xb wg wu wd acc = blkB slot cc xb wg wu wd acc (Scf.iv 0#32 1#32 k) := rfl

theorem pay7_eq (k : Fin (k0_t3_loop v30).trips) :
    k0_pay7 k0_pay12 k0_pay13 k0_pay14 slot v30 cc 0#32 1#32 k xb wg wu wd acc = blkB slot cc xb wg wu wd acc (Scf.iv 0#32 1#32 k) := rfl

theorem toInt160 : ∀ k : Fin 160, (BitVec.ofNat 32 k.val).toInt = k.val := by decide

theorem gathB_at (sel : FVec Ideal S160x1024 .f32) (k : Fin 160) (d : Fin 1024) :
    gathB sel xb (ix2 k d) = ∑ r : Fin 1024, sel (ix2 k r) * xb (ix2 r d) := by
  pointwise [gathB]

theorem upB_at (xs : FVec Ideal S160x1024 .f32) (k : Fin 160) (n : Fin 512) :
    upB xs wg (ix2 k n) = ∑ d : Fin 1024, xs (ix2 k d) * wg (ix3 0 d n) := by
  pointwise [upB]

theorem downB_at (g u : FVec Ideal S160x512 .f32) (k : Fin 160) (j : Fin 1024) :
    downB g u wd (ix2 k j) = ∑ n : Fin 512, (g (ix2 k n) * Ideal.logistic (g (ix2 k n)) * u (ix2 k n)) * wd (ix3 0 n j) := by
  pointwise [downB]

theorem addB_at (sel y : FVec Ideal S160x1024 .f32) (r j : Fin 1024) :
    addB sel y cc acc (ix2 r j) = acc (ix2 r j) + cc (ix2 r 0) * ∑ k : Fin 256, (if h : k.val < 160 then sel (ix2 ⟨k.val, h⟩ r) else 0) *
      (if h : k.val < 160 then y (ix2 ⟨k.val, h⟩ j) else 0) := by
  pointwise [addB, k0_pay13, k0_pay14]

theorem selB_at (w : BitVec 32) (k : Fin 160) (r : Fin 1024) :
    selB slot w (ix2 k r) = if slot (ix2 0 r) = ((k.val : ℝ) : EReal) + (((Scalar.muli w 160#32).toInt : ℝ) : EReal) then 1 else 0 := by
  pointwise [selB, k0_pay12]
  rw [show (FloatOps.sitofp FTy.f32 (BitVec.ofNat 32 k.val) : Ideal .f32) = ((k.val : ℝ) : EReal) from by
    show (((BitVec.ofNat 32 k.val).toInt : ℝ) : EReal) = _
    rw [toInt160]
    rfl]

end Cert.Moe

end
-- ==== Proof.MoeSum.lean ====
/- The blocks of an expert together: every routed token gets the expert's output once. -/
module

public import proofs.«01_k».proof.Proof.MoeBlock

@[expose] public section

set_option maxRecDepth 8192

noncomputable section

namespace Cert.Moe

open Cert.Kernel2Ideal Cert.Kernel2Ideal.Gen
open Idealize.ShloMosaic

/-- One expert on one token. -/
def expert (x : Fin 1024 → EReal) (wg wu : Fin 1024 → Fin 512 → EReal) (wd : Fin 512 → Fin 1024 → EReal) (j : Fin 1024) : EReal :=
  ∑ n : Fin 512, ((∑ d, x d * wg d n) * Ideal.logistic (∑ d, x d * wg d n) * ∑ d, x d * wu d n) * wd n j

section
variable (slot : FVec Ideal S1x1024 .f32) (cc : FVec Ideal S1024x1 .f32)
  (xb : FVec Ideal S1024x1024 .bf16) (wg wu : FVec Ideal S1x1024x512 .bf16) (wd : FVec Ideal S1x512x1024 .bf16)
  (P : Fin 1024 → Prop) [DecidablePred P] (rk : Fin 1024 → ℕ)
  (hs : ∀ r, slot (ix2 0 r) = if P r then ((rk r : ℝ) : EReal) else -1)
  (hinj : ∀ r r', P r → P r' → rk r = rk r' → r = r')

include hs in
theorem sel_at (w : BitVec 32) (b : ℕ) (hw : (Scalar.muli w 160#32).toInt = 160 * b) (k : Fin 160) (r : Fin 1024) :
    selB slot w (ix2 k r) = if P r ∧ rk r = k.val + 160 * b then 1 else 0 := by
  rw [selB_at, hs, hw]
  by_cases hP : P r
  · rw [if_pos hP]
    refine if_congr ?_ rfl rfl
    rw [← EReal.coe_add, EReal.coe_eq_coe_iff]
    constructor
    · intro h
      exact ⟨hP, by exact_mod_cast h⟩
    · intro h
      rw [h.2]
      push_cast
      ring
  · rw [if_neg hP, if_neg (c := P r ∧ _) (fun h => hP h.1)]
    refine if_neg ?_
    rw [← EReal.coe_add, show (-1 : EReal) = ((-1 : ℝ) : EReal) by norm_num, EReal.coe_eq_coe_iff]
    intro h
    have h1 : (0 : ℝ) ≤ (k.val : ℝ) + (((160 * b : ℕ) : ℤ) : ℝ) := by positivity
    push_cast at h h1
    linarith

include hs hinj in
theorem blkB_at (acc : FVec Ideal S1024x1024 .f32) (w : BitVec 32) (b : ℕ) (hw : (Scalar.muli w 160#32).toInt = 160 * b)
    (r j : Fin 1024) :
    blkB slot cc xb wg wu wd acc w (ix2 r j) = acc (ix2 r j) + cc (ix2 r 0) *
      (if P r ∧ 160 * b ≤ rk r ∧ rk r < 160 * b + 160 then
        expert (fun d => xb (ix2 r d)) (fun d n => wg (ix3 0 d n)) (fun d n => wu (ix3 0 d n)) (fun n j => wd (ix3 0 n j)) j else 0) := by
  unfold blkB
  rw [addB_at]
  congr 2
  by_cases h : P r ∧ 160 * b ≤ rk r ∧ rk r < 160 * b + 160
  · rw [if_pos h, Finset.sum_eq_single (⟨rk r - 160 * b, by omega⟩ : Fin 256)]
    · have hlt : rk r - 160 * b < 160 := by omega
      rw [dif_pos hlt, dif_pos hlt, sel_at slot P rk hs w b hw, if_pos ⟨h.1, by dsimp only; omega⟩, one_mul, downB_at]
      have hg : ∀ d, gathB (selB slot w) xb (ix2 ⟨rk r - 160 * b, hlt⟩ d) = xb (ix2 r d) := by
        intro d
        rw [gathB_at, Finset.sum_eq_single r]
        · rw [sel_at slot P rk hs w b hw, if_pos ⟨h.1, by dsimp only; omega⟩, one_mul]
        · intro r' _ hr
          rw [sel_at slot P rk hs w b hw, if_neg, zero_mul]
          rintro ⟨h1, h2⟩
          exact hr (hinj r' r h1 h.1 (by dsimp only at h2; omega))
        · intro hr
          exact absurd (Finset.mem_univ _) hr
      simp only [upB_at, hg]
      rfl
    · intro k _ hk
      by_cases hk1 : k.val < 160
      · rw [dif_pos hk1, sel_at slot P rk hs w b hw, if_neg, zero_mul]
        rintro ⟨h1, h2⟩
        exact hk (Fin.ext (by dsimp only at h2 ⊢; omega))
      · rw [dif_neg hk1, zero_mul]
    · intro hr
      exact absurd (Finset.mem_univ _) hr
  · rw [if_neg h]
    refine Finset.sum_eq_zero fun k _ => ?_
    by_cases hk1 : k.val < 160
    · rw [dif_pos hk1, sel_at slot P rk hs w b hw, if_neg, zero_mul]
      rintro ⟨h1, h2⟩
      exact h ⟨h1, by dsimp only at h2; omega, by dsimp only at h2; omega⟩
    · rw [dif_neg hk1, zero_mul]

/-- The accumulator after `n` blocks. -/
def blocks (acc : FVec Ideal S1024x1024 .f32) : ℕ → FVec Ideal S1024x1024 .f32
  | 0 => acc
  | n + 1 => blkB slot cc xb wg wu wd (blocks acc n) (Scf.iv 0#32 1#32 n)

theorem iv_toInt : ∀ n : Fin 7, (Scalar.muli (Scf.iv 0#32 1#32 n.val) 160#32).toInt = 160 * (n.val : ℤ) := by decide

include hs hinj in
theorem blocks_at (acc : FVec Ideal S1024x1024 .f32) (n : ℕ) (hn : n ≤ 7) (r j : Fin 1024) :
    blocks slot cc xb wg wu wd acc n (ix2 r j) = acc (ix2 r j) + cc (ix2 r 0) *
      (if P r ∧ rk r < 160 * n then
        expert (fun d => xb (ix2 r d)) (fun d n => wg (ix3 0 d n)) (fun d n => wu (ix3 0 d n)) (fun n j => wd (ix3 0 n j)) j else 0) := by
  induction n with
  | zero =>
    rw [if_neg (by omega), mul_zero, add_zero]
    rfl
  | succ n ih =>
    refine (blkB_at slot cc xb wg wu wd P rk hs hinj _ _ n (iv_toInt ⟨n, by omega⟩) r j).trans ?_
    rw [ih (by omega)]
    by_cases hP : P r
    · by_cases h1 : rk r < 160 * n
      · rw [if_pos ⟨hP, h1⟩, if_neg (by omega), if_pos ⟨hP, by omega⟩, mul_zero, add_zero]
      · rw [if_neg (fun h => h1 h.2), mul_zero, add_zero]
        congr 2
        refine if_congr ?_ rfl rfl
        constructor
        · rintro ⟨_, _, h⟩
          exact ⟨hP, by omega⟩
        · rintro ⟨_, h⟩
          exact ⟨hP, by omega, by omega⟩
    · rw [if_neg (fun h => hP h.1), if_neg (fun h => hP h.1), if_neg (fun h => hP h.1), mul_zero, add_zero, add_zero]

end

/-- How many of the tokens before `r` are routed. -/
def rank (P : Fin 1024 → Prop) [DecidablePred P] (r : Fin 1024) : ℕ := (Finset.univ.filter fun r' : Fin 1024 => P r' ∧ r' < r).card

/-- How many tokens are routed. -/
def count (P : Fin 1024 → Prop) [DecidablePred P] : ℕ := (Finset.univ.filter P).card

section
variable (P : Fin 1024 → Prop) [DecidablePred P]

theorem rank_lt {r r' : Fin 1024} (h : P r) (hr : r < r') : rank P r < rank P r' := by
  refine Finset.card_lt_card (Finset.ssubset_iff_of_subset ?_ |>.2 ⟨r, ?_, ?_⟩)
  · intro s hs
    rw [Finset.mem_filter] at hs ⊢
    exact ⟨hs.1, hs.2.1, hs.2.2.trans hr⟩
  · rw [Finset.mem_filter]
    exact ⟨Finset.mem_univ _, h, hr⟩
  · rw [Finset.mem_filter]
    exact fun hs => lt_irrefl _ hs.2.2

theorem rank_inj (r r' : Fin 1024) (h : P r) (h' : P r') (e : rank P r = rank P r') : r = r' := by
  rcases lt_trichotomy r r' with hr | hr | hr
  · exact absurd e (rank_lt P h hr).ne
  · exact hr
  · exact absurd e (rank_lt P h' hr).ne'

theorem rank_lt_count (r : Fin 1024) (h : P r) : rank P r < count P := by
  refine Finset.card_lt_card (Finset.ssubset_iff_of_subset ?_ |>.2 ⟨r, ?_, ?_⟩)
  · intro s hs
    rw [Finset.mem_filter] at hs ⊢
    exact ⟨hs.1, hs.2.1⟩
  · rw [Finset.mem_filter]
    exact ⟨Finset.mem_univ _, h⟩
  · rw [Finset.mem_filter]
    exact fun hs => lt_irrefl _ hs.2.2

theorem count_le : count P ≤ 1024 := (Finset.card_le_univ _).trans (by simp)

theorem sum_count (f : Fin 1024 → EReal) (hf : ∀ r, f r = if P r then 1 else 0) : ∑ r, f r = ((count P : ℝ) : EReal) := by
  simp only [hf]
  rw [Finset.sum_boole]
  rfl

theorem sum_rank (f g : Fin 1024 → EReal) (r : Fin 1024) (hf : ∀ r', f r' = if P r' then 1 else 0) (hg : ∀ r', g r' = if r' < r then 1 else 0) :
    ∑ r', f r' * g r' = ((rank P r : ℝ) : EReal) := by
  have h : ∀ r', f r' * g r' = if P r' ∧ r' < r then 1 else 0 := by
    intro r'
    rw [hf, hg]
    by_cases h1 : P r' <;> by_cases h2 : r' < r <;> simp [h1, h2]
  simp only [h]
  rw [Finset.sum_boole]
  rfl

end

end Cert.Moe

end
-- ==== Proof.MoeRuns.lean ====
/- What the runs of the experts' body leave in the accumulator. -/
module

public import proofs.«01_k».proof.Proof.MoeSum
public import proofs.«01_k».proof.Proof.MoeIdeal.Frame
public import proofs.«01_k».proof.Proof.Runs
public import Idealize.ShloMosaic.Lib.WordArith

@[expose] public section

set_option maxRecDepth 8192

noncomputable section

namespace Cert.Moe

open Cert.Kernel2Ideal Cert.Kernel2Ideal.Gen
open Idealize.ShloMosaic hiding ix2 ix3 ix4
open Idealize.ShloMosaic.TcCoe Idealize.ShloMosaic.Tactic
open Idealize.ShloMosaic.ValueIdx (ix2 ix3 ix4)
open Idealize.SL.Sem

/-- A load of everything a whole buffer holds. -/
theorem readAt_full {s : Shape} {e : EltTy} (v : View sig .tc .vmem s e) (f : v.ty.Contents (Elt Ideal))
    {o : Fin s.rank → ℕ} (hb : ∀ a, o a + s.size a ≤ s.size a) :
    v.readAt (Elt Ideal) (Rect.unit (s := s) o s.size hb).toLoadRect f = v.read (Elt Ideal) f := by
  funext y
  rw [View.readAt_apply]
  refine congrArg (v.read (Elt Ideal) f) (funext fun a => Fin.ext ?_)
  show o a + 1 * (y a).val = (y a).val
  have := hb a
  omega

section
variable (𝒱 : Variants) (c : Dev nD) (bd : Option 𝒱.V) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole)

/-- A trip of the first expert's loop is a block. -/
theorem trip_t1 (arg1 : BitVec 32) (v3 : IVec S1024x16 32) (v18 : FVec Ideal S1x1024 .f32) (v30 : BitVec 32) (hw : k0_chk1 v30) (v35 : FVec Ideal S1024x16 .f32)
    (X6 : BufTy.Contents (Elt Ideal) arg6.view.ty) (X7 : BufTy.Contents (Elt Ideal) arg7.view.ty) (X8 : BufTy.Contents (Elt Ideal) arg8.view.ty) (X13 : BufTy.Contents (Elt Ideal) arg13.view.ty)
    (k : Fin (k0_t1_loop v30).trips) (f12 : BufTy.Contents (Elt Ideal) arg12.view.ty) :
    arg12.view.read (Elt Ideal) (arg12.view.writes (Elt Ideal) f12 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v3 k0_pay12 k0_pay13 k0_pay14 v18 v30 hw v35 X6 X7 X8 X13 k).1 f12))
      = blkB v18 (k0_pay19 v35) (arg13.view.read (Elt Ideal) X13)
        (arg6.view.readAt (Elt Ideal) (Rect.unit (s := S2x1024x512) ![0, 0, 0] S1x1024x512.size inb_S2x1024x512_S1x1024x512_0_0_0).toLoadRect X6)
        (arg7.view.readAt (Elt Ideal) (Rect.unit (s := S2x1024x512) ![0, 0, 0] S1x1024x512.size inb_S2x1024x512_S1x1024x512_0_0_0).toLoadRect X7)
        (arg8.view.readAt (Elt Ideal) (Rect.unit (s := S2x512x1024) ![0, 0, 0] S1x512x1024.size inb_S2x512x1024_S1x512x1024_0_0_0).toLoadRect X8)
        (arg12.view.read (Elt Ideal) f12) (Scf.iv 0#32 1#32 k) := by
  unfold trip_k0_t1
  dsimp only
  sl_unfold_words
  rw [View.read_writes_full]
  rw [← pay5_eq, ← readAt_full arg12.view f12 inb_S1024x1024_S1024x1024_0_0, ← readAt_full arg13.view X13 inb_S1024x1024_S1024x1024_0_0]
  exact shapeCast_self _ _

/-- A trip of the second expert's loop is a block. -/
theorem trip_t3 (v53 : FVec Ideal S1x1024 .f32) (v65 : BitVec 32) (hw : k0_chk2 v65) (v71 : FVec Ideal S1024 .f32)
    (X6 : BufTy.Contents (Elt Ideal) arg6.view.ty) (X7 : BufTy.Contents (Elt Ideal) arg7.view.ty) (X8 : BufTy.Contents (Elt Ideal) arg8.view.ty) (X13 : BufTy.Contents (Elt Ideal) arg13.view.ty)
    (k : Fin (k0_t3_loop v65).trips) (f12 : BufTy.Contents (Elt Ideal) arg12.view.ty) :
    arg12.view.read (Elt Ideal) (arg12.view.writes (Elt Ideal) f12 ((trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_pay12 k0_pay13 k0_pay14 v53 v65 hw v71 X6 X7 X8 X13 k).1 f12))
      = blkB v53 (k0_pay1 v71) (arg13.view.read (Elt Ideal) X13)
        (arg6.view.readAt (Elt Ideal) (Rect.unit (s := S2x1024x512) ![1, 0, 0] S1x1024x512.size inb_S2x1024x512_S1x1024x512_1_0_0).toLoadRect X6)
        (arg7.view.readAt (Elt Ideal) (Rect.unit (s := S2x1024x512) ![1, 0, 0] S1x1024x512.size inb_S2x1024x512_S1x1024x512_1_0_0).toLoadRect X7)
        (arg8.view.readAt (Elt Ideal) (Rect.unit (s := S2x512x1024) ![1, 0, 0] S1x512x1024.size inb_S2x512x1024_S1x512x1024_1_0_0).toLoadRect X8)
        (arg12.view.read (Elt Ideal) f12) (Scf.iv 0#32 1#32 k) := by
  unfold trip_k0_t3
  dsimp only
  sl_unfold_words
  rw [View.read_writes_full]
  rw [← pay7_eq, ← readAt_full arg12.view f12 inb_S1024x1024_S1024x1024_0_0, ← readAt_full arg13.view X13 inb_S1024x1024_S1024x1024_0_0]
  exact shapeCast_self _ _

/-- The first expert's loop is its blocks. -/
theorem loop_t1 (arg1 : BitVec 32) (v3 : IVec S1024x16 32) (v18 : FVec Ideal S1x1024 .f32) (v30 : BitVec 32) (hw : k0_chk1 v30) (v35 : FVec Ideal S1024x16 .f32)
    (X6 : BufTy.Contents (Elt Ideal) arg6.view.ty) (X7 : BufTy.Contents (Elt Ideal) arg7.view.ty) (X8 : BufTy.Contents (Elt Ideal) arg8.view.ty) (X13 : BufTy.Contents (Elt Ideal) arg13.view.ty)
    (G : BufTy.Contents (Elt Ideal) arg12.view.ty) (n : ℕ) (hn : n ≤ (k0_t1_loop v30).trips) :
    arg12.view.read (Elt Ideal) (arg12.view.writes (Elt Ideal) G (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v3 k0_pay12 k0_pay13 k0_pay14 v18 v30 hw v35 X6 X7 X8 X13 G n))
      = blocks v18 (k0_pay19 v35) (arg13.view.read (Elt Ideal) X13)
        (arg6.view.readAt (Elt Ideal) (Rect.unit (s := S2x1024x512) ![0, 0, 0] S1x1024x512.size inb_S2x1024x512_S1x1024x512_0_0_0).toLoadRect X6)
        (arg7.view.readAt (Elt Ideal) (Rect.unit (s := S2x1024x512) ![0, 0, 0] S1x1024x512.size inb_S2x1024x512_S1x1024x512_0_0_0).toLoadRect X7)
        (arg8.view.readAt (Elt Ideal) (Rect.unit (s := S2x512x1024) ![0, 0, 0] S1x512x1024.size inb_S2x512x1024_S1x512x1024_0_0_0).toLoadRect X8)
        (arg12.view.read (Elt Ideal) G) n := by
  induction n with
  | zero => rfl
  | succ n ih =>
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v3 k0_pay12 k0_pay13 k0_pay14 v18 v30 hw v35 X6 X7 X8 X13 G ⟨n, hn⟩
    dsimp only at hs
    rw [hs, View.writes_append]
    refine (trip_t1 𝒱 c bd i arg2 harg2 arg3 harg3 arg4 harg4 arg5 harg5 arg6 harg6 arg7 harg7 arg8 harg8 arg9 harg9 arg10 harg10 arg11 harg11 arg12 harg12 arg13 harg13 arg14 harg14 arg1 v3 v18 v30 hw v35 X6 X7 X8 X13 ⟨n, hn⟩ _).trans ?_
    rw [ih (Nat.le_of_succ_le hn)]
    rfl

/-- The second expert's loop is its blocks. -/
theorem loop_t3 (v53 : FVec Ideal S1x1024 .f32) (v65 : BitVec 32) (hw : k0_chk2 v65) (v71 : FVec Ideal S1024 .f32)
    (X6 : BufTy.Contents (Elt Ideal) arg6.view.ty) (X7 : BufTy.Contents (Elt Ideal) arg7.view.ty) (X8 : BufTy.Contents (Elt Ideal) arg8.view.ty) (X13 : BufTy.Contents (Elt Ideal) arg13.view.ty)
    (G : BufTy.Contents (Elt Ideal) arg12.view.ty) (n : ℕ) (hn : n ≤ (k0_t3_loop v65).trips) :
    arg12.view.read (Elt Ideal) (arg12.view.writes (Elt Ideal) G (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_pay12 k0_pay13 k0_pay14 v53 v65 hw v71 X6 X7 X8 X13 G n))
      = blocks v53 (k0_pay1 v71) (arg13.view.read (Elt Ideal) X13)
        (arg6.view.readAt (Elt Ideal) (Rect.unit (s := S2x1024x512) ![1, 0, 0] S1x1024x512.size inb_S2x1024x512_S1x1024x512_1_0_0).toLoadRect X6)
        (arg7.view.readAt (Elt Ideal) (Rect.unit (s := S2x1024x512) ![1, 0, 0] S1x1024x512.size inb_S2x1024x512_S1x1024x512_1_0_0).toLoadRect X7)
        (arg8.view.readAt (Elt Ideal) (Rect.unit (s := S2x512x1024) ![1, 0, 0] S1x512x1024.size inb_S2x512x1024_S1x512x1024_1_0_0).toLoadRect X8)
        (arg12.view.read (Elt Ideal) G) n := by
  induction n with
  | zero => rfl
  | succ n ih =>
    have hs := pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_pay12 k0_pay13 k0_pay14 v53 v65 hw v71 X6 X7 X8 X13 G ⟨n, hn⟩
    dsimp only at hs
    rw [hs, View.writes_append]
    refine (trip_t3 𝒱 c bd i arg2 harg2 arg3 harg3 arg4 harg4 arg5 harg5 arg6 harg6 arg7 harg7 arg8 harg8 arg9 harg9 arg10 harg10 arg11 harg11 arg12 harg12 arg13 harg13 arg14 harg14 v53 v65 hw v71 X6 X7 X8 X13 ⟨n, hn⟩ _).trans ?_
    rw [ih (Nat.le_of_succ_le hn)]
    rfl

end

/-- The rest of the first expert's loop makes no trip. -/
theorem trips_t2 (w : BitVec 32) : (k0_t2_loop w).trips = 0 := by
  show Scf.trips (Scalar.addi 0#32 (Scalar.muli (Scalar.divsi (Scalar.subi w 0#32) 1#32) 1#32)) (Scalar.addi 0#32 (Scalar.subi w 0#32)) 1#32 = 0
  simp only [Scalar.muli, Scalar.divsi, IntOp.muli, WordArith.divsi_one, BitVec.mul_one]
  unfold Scf.trips
  simp

/-- The rest of the second expert's loop makes no trip. -/
theorem trips_t4 (w : BitVec 32) : (k0_t4_loop w).trips = 0 := trips_t2 w

end Cert.Moe

end
-- ==== Proof.MoeOut.lean ====
/- What each case of the experts' body leaves, as a function of what it reads. -/
module

public import proofs.«01_k».proof.Proof.MoeRuns

@[expose] public section

set_option maxRecDepth 8192

noncomputable section

namespace Cert.Moe

open Cert.Kernel2Ideal Cert.Kernel2Ideal.Gen Cert.Kernel2Ideal.Moe
open Idealize.ShloMosaic hiding ix2 ix3 ix4
open Idealize.ShloMosaic.TcCoe Idealize.ShloMosaic.Tactic
open Idealize.ShloMosaic.ValueIdx (ix2 ix3 ix4)
open Idealize.SL.Sem

/-- The row of a 16 by 1024 array that step `i` takes for its first expert. -/
def row1 (i : grid0.Coords) (x : FVec Ideal S16x1024 .f32) : FVec Ideal S1x1024 .f32 :=
  fun y => x ((Rect.unit (s := S16x1024) (k0_off1 i) S1x1024.size (k0_off1_inb i)).toLoadRect.idx y)

/-- The row that step `i` takes for its second expert. -/
def row2 (i : grid0.Coords) (x : FVec Ideal S16x1024 .f32) : FVec Ideal S1x1024 .f32 :=
  fun y => x ((Rect.unit (s := S16x1024) (k0_off2 i) S1x1024.size (k0_off2_inb i)).toLoadRect.idx y)

/-- The first of two stacked weights. -/
def in1 (x : FVec Ideal S2x1024x512 .bf16) : FVec Ideal S1x1024x512 .bf16 :=
  fun y => x ((Rect.unit (s := S2x1024x512) ![0, 0, 0] S1x1024x512.size inb_S2x1024x512_S1x1024x512_0_0_0).toLoadRect.idx y)

/-- The second of two stacked weights. -/
def in2 (x : FVec Ideal S2x1024x512 .bf16) : FVec Ideal S1x1024x512 .bf16 :=
  fun y => x ((Rect.unit (s := S2x1024x512) ![1, 0, 0] S1x1024x512.size inb_S2x1024x512_S1x1024x512_1_0_0).toLoadRect.idx y)

/-- The first of two stacked output weights. -/
def dn1 (x : FVec Ideal S2x512x1024 .bf16) : FVec Ideal S1x512x1024 .bf16 :=
  fun y => x ((Rect.unit (s := S2x512x1024) ![0, 0, 0] S1x512x1024.size inb_S2x512x1024_S1x512x1024_0_0_0).toLoadRect.idx y)

/-- The second of two stacked output weights. -/
def dn2 (x : FVec Ideal S2x512x1024 .bf16) : FVec Ideal S1x512x1024 .bf16 :=
  fun y => x ((Rect.unit (s := S2x512x1024) ![1, 0, 0] S1x512x1024.size inb_S2x512x1024_S1x512x1024_1_0_0).toLoadRect.idx y)

/-- What the first expert of step `i` makes of the accumulator. -/
def half1 (i : grid0.Coords) (x1 : FVec Ideal S16x1024 .f32) (x2 : FVec Ideal S1024x16 .f32) (x4 x5 : FVec Ideal S2x1024x512 .bf16)
    (x6 : FVec Ideal S2x512x1024 .bf16) (acc : FVec Ideal S1024x1024 .f32) (xb : FVec Ideal S1024x1024 .bf16) (rk : FVec Ideal S16x1024 .f32) :
    FVec Ideal S1024x1024 .f32 :=
  blocks (k0_pay16 (F := Ideal) (row1 i x1) (row1 i rk)) (k0_pay19 (F := Ideal) (k0_pay18 (F := Ideal) i x2)) xb (in1 x4) (in1 x5) (dn1 x6) acc
    (k0_t1_loop (Scalar.fptosi 32 (k0_pay17 (F := Ideal) (row1 i x1)))).trips

/-- What the second expert of step `i` makes of the accumulator. -/
def half2 (i : grid0.Coords) (x1 : FVec Ideal S16x1024 .f32) (x2 : FVec Ideal S1024x16 .f32) (x4 x5 : FVec Ideal S2x1024x512 .bf16)
    (x6 : FVec Ideal S2x512x1024 .bf16) (acc : FVec Ideal S1024x1024 .f32) (xb : FVec Ideal S1024x1024 .bf16) (rk : FVec Ideal S16x1024 .f32) :
    FVec Ideal S1024x1024 .f32 :=
  blocks (k0_pay23 (F := Ideal) (row2 i x1) (row2 i rk)) (k0_pay1 (F := Ideal) (k0_pay25 (F := Ideal) (BitVec.ofNat 32 (i 1).val) (iota .tc S1024x16 32 [1] iota_S1024x16_d1_w32) x2)) xb
    (in2 x4) (in2 x5) (dn2 x6) acc (k0_t3_loop (Scalar.fptosi 32 (k0_pay24 (F := Ideal) (row2 i x1)))).trips

/-- What step `i` makes of the accumulator. -/
def stepE (i : grid0.Coords) (x1 : FVec Ideal S16x1024 .f32) (x2 : FVec Ideal S1024x16 .f32) (x4 x5 : FVec Ideal S2x1024x512 .bf16)
    (x6 : FVec Ideal S2x512x1024 .bf16) (acc : FVec Ideal S1024x1024 .f32) (xb : FVec Ideal S1024x1024 .bf16) (rk : FVec Ideal S16x1024 .f32) :
    FVec Ideal S1024x1024 .f32 :=
  half2 i x1 x2 x4 x5 x6 (half1 i x1 x2 x4 x5 x6 acc xb rk) xb rk

/-- A read of a whole buffer in the contents it holds. -/
theorem readAt_whole_unread {s : Shape} {e : EltTy} (v : Memref sig .tc .vmem s e) (h : v.IsWhole) (x : Vec Ideal s e)
    {o : Fin s.rank → ℕ} (hb : ∀ a, o a + s.size a ≤ s.size a) :
    v.view.readAt (Elt Ideal) (Rect.unit (s := s) o s.size hb).toLoadRect (h.unread x) = x :=
  (readAt_full v.view _ hb).trans (h.read_unread x)

/-- A whole write is what is read back. -/
theorem read_one {s : Shape} {e : EltTy} (v : View sig .tc .vmem s e) (f : v.ty.Contents (Elt Ideal))
    {o : Fin s.rank → ℕ} (hb : ∀ a, o a + s.size a ≤ s.size a) (w : Vec Ideal s e) :
    v.read (Elt Ideal) (v.writes (Elt Ideal) f [⟨Rect.unit (s := s) o s.size hb, w⟩]) = w := by
  rw [← readAt_full v _ hb, Cert.Stick.readAt_whole]
  funext y
  refine congrArg w (funext fun a => Fin.ext ?_)
  show o a + 1 * (y a).val = (y a).val
  have := hb a
  omega

section
variable (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x1024 .bf16) (harg5 : arg5.IsWhole) (arg6 : Memref sig .tc .vmem S2x1024x512 .bf16) (harg6 : arg6.IsWhole) (arg7 : Memref sig .tc .vmem S2x1024x512 .bf16) (harg7 : arg7.IsWhole) (arg8 : Memref sig .tc .vmem S2x512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S16x1024 .f32) (harg14 : arg14.IsWhole)

/-- The four loops of a step, whatever they read. -/
theorem loops_all (𝒱 : Variants) (bd : Option 𝒱.V) (arg1 : BitVec 32) (v3 : IVec S1024x16 32) (v18 : FVec Ideal S1x1024 .f32) (v30 : BitVec 32) (hw : k0_chk1 v30) (v35 : FVec Ideal S1024x16 .f32)
    (v42 v77 : BitVec 32) (v53 : FVec Ideal S1x1024 .f32) (v65 : BitVec 32) (hw' : k0_chk2 v65) (v71 : FVec Ideal S1024 .f32)
    (X6 : BufTy.Contents (Elt Ideal) arg6.view.ty) (X7 : BufTy.Contents (Elt Ideal) arg7.view.ty) (X8 : BufTy.Contents (Elt Ideal) arg8.view.ty) (X13 : BufTy.Contents (Elt Ideal) arg13.view.ty)
    (G G2 G4 : BufTy.Contents (Elt Ideal) arg12.view.ty) :
    arg12.view.read (Elt Ideal) (arg12.view.writes (Elt Ideal) (arg12.view.writes (Elt Ideal) (arg12.view.writes (Elt Ideal) (arg12.view.writes (Elt Ideal) G
          (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v3 k0_pay12 k0_pay13 k0_pay14 v18 v30 hw v35 X6 X7 X8 X13 G (k0_t1_loop v30).trips))
          (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v3 k0_pay12 k0_pay13 k0_pay14 v18 v30 hw v35 v42 X6 X7 X8 X13 G2 (k0_t2_loop v30).trips))
          (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_pay12 k0_pay13 k0_pay14 v53 v65 hw' v71 X6 X7 X8 X13
            (arg12.view.writes (Elt Ideal) (arg12.view.writes (Elt Ideal) G
              (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v3 k0_pay12 k0_pay13 k0_pay14 v18 v30 hw v35 X6 X7 X8 X13 G (k0_t1_loop v30).trips))
              (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v3 k0_pay12 k0_pay13 k0_pay14 v18 v30 hw v35 v42 X6 X7 X8 X13 G2 (k0_t2_loop v30).trips))
            (k0_t3_loop v65).trips))
          (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_pay12 k0_pay13 k0_pay14 v53 v65 hw' v71 v77 X6 X7 X8 X13 G4 (k0_t4_loop v65).trips))
      = blocks v53 (k0_pay1 v71) (arg13.view.read (Elt Ideal) X13)
          (arg6.view.readAt (Elt Ideal) (Rect.unit (s := S2x1024x512) ![1, 0, 0] S1x1024x512.size inb_S2x1024x512_S1x1024x512_1_0_0).toLoadRect X6)
          (arg7.view.readAt (Elt Ideal) (Rect.unit (s := S2x1024x512) ![1, 0, 0] S1x1024x512.size inb_S2x1024x512_S1x1024x512_1_0_0).toLoadRect X7)
          (arg8.view.readAt (Elt Ideal) (Rect.unit (s := S2x512x1024) ![1, 0, 0] S1x512x1024.size inb_S2x512x1024_S1x512x1024_1_0_0).toLoadRect X8)
          (blocks v18 (k0_pay19 v35) (arg13.view.read (Elt Ideal) X13)
            (arg6.view.readAt (Elt Ideal) (Rect.unit (s := S2x1024x512) ![0, 0, 0] S1x1024x512.size inb_S2x1024x512_S1x1024x512_0_0_0).toLoadRect X6)
            (arg7.view.readAt (Elt Ideal) (Rect.unit (s := S2x1024x512) ![0, 0, 0] S1x1024x512.size inb_S2x1024x512_S1x1024x512_0_0_0).toLoadRect X7)
            (arg8.view.readAt (Elt Ideal) (Rect.unit (s := S2x512x1024) ![0, 0, 0] S1x512x1024.size inb_S2x512x1024_S1x512x1024_0_0_0).toLoadRect X8)
            (arg12.view.read (Elt Ideal) G) (k0_t1_loop v30).trips)
          (k0_t3_loop v65).trips := by
  rw [trips_t2, trips_t4]
  refine (loop_t3 𝒱 c bd i arg2 harg2 arg3 harg3 arg4 harg4 arg5 harg5 arg6 harg6 arg7 harg7 arg8 harg8 arg9 harg9 arg10 harg10 arg11 harg11 arg12 harg12 arg13 harg13 arg14 harg14 v53 v65 hw' v71 X6 X7 X8 X13 _ _ le_rfl).trans ?_
  exact congrArg (fun a => blocks v53 (k0_pay1 v71) _ _ _ _ a _)
    (loop_t1 𝒱 c bd i arg2 harg2 arg3 harg3 arg4 harg4 arg5 harg5 arg6 harg6 arg7 harg7 arg8 harg8 arg9 harg9 arg10 harg10 arg11 harg11 arg12 harg12 arg13 harg13 arg14 harg14 arg1 v3 v18 v30 hw v35 X6 X7 X8 X13 G _ le_rfl)

/-- The loops of a step read the arguments' contents. -/
theorem step_reads (X3 : BufTy.Contents (Elt Ideal) arg3.view.ty) (X4 : BufTy.Contents (Elt Ideal) arg4.view.ty) (X6 : BufTy.Contents (Elt Ideal) arg6.view.ty) (X7 : BufTy.Contents (Elt Ideal) arg7.view.ty) (X8 : BufTy.Contents (Elt Ideal) arg8.view.ty) (X13 : BufTy.Contents (Elt Ideal) arg13.view.ty) (X14 : BufTy.Contents (Elt Ideal) arg14.view.ty)
    (G : BufTy.Contents (Elt Ideal) arg12.view.ty) :
    blocks (k0_pay23 (arg3.view.readAt (Elt Ideal) (Rect.unit (s := S16x1024) (k0_off2 i) S1x1024.size (k0_off2_inb i)).toLoadRect X3) (arg14.view.readAt (Elt Ideal) (Rect.unit (s := S16x1024) (k0_off2 i) S1x1024.size (k0_off2_inb i)).toLoadRect X14))
        (k0_pay1 (k0_pay25 (BitVec.ofNat 32 (i 1).val) (iota .tc S1024x16 32 [1] iota_S1024x16_d1_w32) (arg4.view.readAt (Elt Ideal) (Rect.unit (s := S1024x16) ![0, 0] S1024x16.size inb_S1024x16_S1024x16_0_0).toLoadRect X4))) (arg13.view.read (Elt Ideal) X13)
        (arg6.view.readAt (Elt Ideal) (Rect.unit (s := S2x1024x512) ![1, 0, 0] S1x1024x512.size inb_S2x1024x512_S1x1024x512_1_0_0).toLoadRect X6) (arg7.view.readAt (Elt Ideal) (Rect.unit (s := S2x1024x512) ![1, 0, 0] S1x1024x512.size inb_S2x1024x512_S1x1024x512_1_0_0).toLoadRect X7) (arg8.view.readAt (Elt Ideal) (Rect.unit (s := S2x512x1024) ![1, 0, 0] S1x512x1024.size inb_S2x512x1024_S1x512x1024_1_0_0).toLoadRect X8)
        (blocks (k0_pay16 (arg3.view.readAt (Elt Ideal) (Rect.unit (s := S16x1024) (k0_off1 i) S1x1024.size (k0_off1_inb i)).toLoadRect X3) (arg14.view.readAt (Elt Ideal) (Rect.unit (s := S16x1024) (k0_off1 i) S1x1024.size (k0_off1_inb i)).toLoadRect X14)) (k0_pay19 (k0_pay18 i (arg4.view.readAt (Elt Ideal) (Rect.unit (s := S1024x16) ![0, 0] S1024x16.size inb_S1024x16_S1024x16_0_0).toLoadRect X4))) (arg13.view.read (Elt Ideal) X13)
          (arg6.view.readAt (Elt Ideal) (Rect.unit (s := S2x1024x512) ![0, 0, 0] S1x1024x512.size inb_S2x1024x512_S1x1024x512_0_0_0).toLoadRect X6) (arg7.view.readAt (Elt Ideal) (Rect.unit (s := S2x1024x512) ![0, 0, 0] S1x1024x512.size inb_S2x1024x512_S1x1024x512_0_0_0).toLoadRect X7) (arg8.view.readAt (Elt Ideal) (Rect.unit (s := S2x512x1024) ![0, 0, 0] S1x512x1024.size inb_S2x512x1024_S1x512x1024_0_0_0).toLoadRect X8) (arg12.view.read (Elt Ideal) G)
          (k0_t1_loop (Scalar.fptosi 32 (k0_pay17 (F := Ideal) (arg3.view.readAt (Elt Ideal) (Rect.unit (s := S16x1024) (k0_off1 i) S1x1024.size (k0_off1_inb i)).toLoadRect X3)))).trips)
        (k0_t3_loop (Scalar.fptosi 32 (k0_pay24 (F := Ideal) (arg3.view.readAt (Elt Ideal) (Rect.unit (s := S16x1024) (k0_off2 i) S1x1024.size (k0_off2_inb i)).toLoadRect X3)))).trips
      = stepE i (arg3.view.read (Elt Ideal) X3) (arg4.view.read (Elt Ideal) X4) (arg6.view.read (Elt Ideal) X6) (arg7.view.read (Elt Ideal) X7) (arg8.view.read (Elt Ideal) X8) (arg12.view.read (Elt Ideal) G) (arg13.view.read (Elt Ideal) X13) (arg14.view.read (Elt Ideal) X14) := by
  rw [show (arg4.view.readAt (Elt Ideal) (Rect.unit (s := S1024x16) ![0, 0] S1024x16.size inb_S1024x16_S1024x16_0_0).toLoadRect X4) = (arg4.view.read (Elt Ideal) X4) from readAt_full _ _ _]
  rfl

/-- What a middle step leaves in the accumulator. -/
theorem outB (hc0 : ¬cond0_0 i) (hc1 : ¬cond0_1 i)
    (x0 : FVec Ideal S1024x1024 .f32) (x1 : FVec Ideal S16x1024 .f32) (x2 : FVec Ideal S1024x16 .f32) (x3 : FVec Ideal S1024x1024 .bf16) (x4 : FVec Ideal S2x1024x512 .bf16) (x5 : FVec Ideal S2x1024x512 .bf16) (x6 : FVec Ideal S2x512x1024 .bf16) (x7 : FVec Ideal S1x1024 .f32) (x8 : FVec Ideal S1x1024 .f32) (xs0 : FVec Ideal S1024x1024 .f32) (xs1 : FVec Ideal S1024x1024 .bf16) (xs2 : FVec Ideal S16x1024 .f32) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = stepE i x1 x2 x4 x5 x6 xs0 xs1 xs2 := by
  unfold sout0_B_0 kernelRun0_B
  dsimp only
  sl_unfold_words
  simp only [View.writes_append]
  refine (loops_all c i arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ _ _ _ _ _ _ _ _ _).trans ?_
  refine (step_reads i arg3 arg4 arg6 arg7 arg8 arg12 arg13 arg14 (harg3.unread x1) (harg4.unread x2) (harg6.unread x4) (harg7.unread x5) (harg8.unread x6)
    (harg13.unread xs1) (harg14.unread xs2) (harg12.unread xs0)).trans ?_
  simp only [Memref.IsWhole.read_unread]

/-- What the first step leaves in the accumulator. -/
theorem outA (hc0 : cond0_0 i) (hc1 : ¬cond0_1 i)
    (x0 : FVec Ideal S1024x1024 .f32) (x1 : FVec Ideal S16x1024 .f32) (x2 : FVec Ideal S1024x16 .f32) (x3 : FVec Ideal S1024x1024 .bf16) (x4 : FVec Ideal S2x1024x512 .bf16) (x5 : FVec Ideal S2x1024x512 .bf16) (x6 : FVec Ideal S2x512x1024 .bf16) (x7 : FVec Ideal S1x1024 .f32) (x8 : FVec Ideal S1x1024 .f32) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = stepE i x1 x2 x4 x5 x6 k0_pay9 (k0_pay10 x0) (k0_pay11 x1 x3) := by
  unfold sout0_A_0
  refine (View.read_writes_of_cover _ _ arg12.view arg12.view.junk _ (scover0_A_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)).trans ?_
  unfold kernelRun0_A
  dsimp only
  sl_unfold_words
  simp only [View.writes_append]
  refine (loops_all c i arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ _ _ _ _ _ _ _ _ _).trans ?_
  refine (step_reads i arg3 arg4 arg6 arg7 arg8 arg12 arg13 arg14 (harg3.unread x1) (harg4.unread x2) (harg6.unread x4) (harg7.unread x5) (harg8.unread x6)
    _ _ _).trans ?_
  simp only [Memref.IsWhole.read_unread]
  exact congr (congr (congrArg (stepE i x1 x2 x4 x5 x6) (read_one arg12.view _ inb_S1024x1024_S1024x1024_0_0 _))
      ((read_one arg13.view _ inb_S1024x1024_S1024x1024_0_0 _).trans
        (congrArg k0_pay10 (readAt_whole_unread arg2 harg2 x0 inb_S1024x1024_S1024x1024_0_0))))
    ((read_one arg14.view _ inb_S16x1024_S16x1024_0_0 _).trans
      (congr (congrArg k0_pay11 (readAt_whole_unread arg3 harg3 x1 inb_S16x1024_S16x1024_0_0))
        (readAt_whole_unread arg5 harg5 x3 inb_S1024x1024_S1024x1024_0_0)))

/-- The first step stores the rounded block. -/
theorem outA1 (hc0 : cond0_0 i) (hc1 : ¬cond0_1 i)
    (x0 : FVec Ideal S1024x1024 .f32) (x1 : FVec Ideal S16x1024 .f32) (x2 : FVec Ideal S1024x16 .f32) (x3 : FVec Ideal S1024x1024 .bf16) (x4 : FVec Ideal S2x1024x512 .bf16) (x5 : FVec Ideal S2x1024x512 .bf16) (x6 : FVec Ideal S2x512x1024 .bf16) (x7 : FVec Ideal S1x1024 .f32) (x8 : FVec Ideal S1x1024 .f32) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay10 (F := Ideal) x0 := by
  unfold sout0_A_1
  refine (View.read_writes_of_cover _ _ arg13.view arg13.view.junk _ (scover0_A_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)).trans ?_
  unfold kernelRun0_A
  dsimp only
  sl_unfold_words
  exact (read_one arg13.view _ inb_S1024x1024_S1024x1024_0_0 _).trans
    (congrArg k0_pay10 (readAt_whole_unread arg2 harg2 x0 inb_S1024x1024_S1024x1024_0_0))

/-- The first step stores the ranks. -/
theorem outA2 (hc0 : cond0_0 i) (hc1 : ¬cond0_1 i)
    (x0 : FVec Ideal S1024x1024 .f32) (x1 : FVec Ideal S16x1024 .f32) (x2 : FVec Ideal S1024x16 .f32) (x3 : FVec Ideal S1024x1024 .bf16) (x4 : FVec Ideal S2x1024x512 .bf16) (x5 : FVec Ideal S2x1024x512 .bf16) (x6 : FVec Ideal S2x512x1024 .bf16) (x7 : FVec Ideal S1x1024 .f32) (x8 : FVec Ideal S1x1024 .f32) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay11 (F := Ideal) x1 x3 := by
  unfold sout0_A_2
  refine (View.read_writes_of_cover _ _ arg14.view arg14.view.junk _ (scover0_A_2 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)).trans ?_
  unfold kernelRun0_A
  dsimp only
  sl_unfold_words
  exact (read_one arg14.view _ inb_S16x1024_S16x1024_0_0 _).trans
      (congr (congrArg k0_pay11 (readAt_whole_unread arg3 harg3 x1 inb_S16x1024_S16x1024_0_0))
        (readAt_whole_unread arg5 harg5 x3 inb_S1024x1024_S1024x1024_0_0))

/-- The last step stores the norm of what it adds up. -/
theorem outC (hc0 : ¬cond0_0 i) (hc1 : cond0_1 i)
    (x0 : FVec Ideal S1024x1024 .f32) (x1 : FVec Ideal S16x1024 .f32) (x2 : FVec Ideal S1024x16 .f32) (x3 : FVec Ideal S1024x1024 .bf16) (x4 : FVec Ideal S2x1024x512 .bf16) (x5 : FVec Ideal S2x1024x512 .bf16) (x6 : FVec Ideal S2x512x1024 .bf16) (x7 : FVec Ideal S1x1024 .f32) (x8 : FVec Ideal S1x1024 .f32) (xs0 : FVec Ideal S1024x1024 .f32) (xs1 : FVec Ideal S1024x1024 .bf16) (xs2 : FVec Ideal S16x1024 .f32) :
    out0_C_9 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay4 (F := Ideal) x0 (stepE i x1 x2 x4 x5 x6 xs0 xs1 xs2) x7 x8 := by
  unfold out0_C_9
  refine (View.read_writes_of_cover _ _ arg11.view arg11.view.junk _ (cover0_C_9 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)).trans ?_
  unfold kernelRun0_C
  dsimp only
  sl_unfold_words
  simp only [View.writes_append]
  refine (read_one arg11.view _ inb_S1024x1024_S1024x1024_0_0 _).trans ?_
  refine congr (congr (congr (congrArg k0_pay4 (readAt_whole_unread arg2 harg2 x0 inb_S1024x1024_S1024x1024_0_0)) ?_)
    (readAt_whole_unread arg9 harg9 x7 inb_S1x1024_S1x1024_0_0)) (readAt_whole_unread arg10 harg10 x8 inb_S1x1024_S1x1024_0_0)
  refine (readAt_full arg12.view _ inb_S1024x1024_S1024x1024_0_0).trans ?_
  refine (loops_all c i arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ _ _ _ _ _ _ _ _ _).trans ?_
  refine (step_reads i arg3 arg4 arg6 arg7 arg8 arg12 arg13 arg14 (harg3.unread x1) (harg4.unread x2) (harg6.unread x4) (harg7.unread x5) (harg8.unread x6)
    (harg13.unread xs1) (harg14.unread xs2) (harg12.unread xs0)).trans ?_
  simp only [Memref.IsWhole.read_unread]

end

end Cert.Moe

end
-- ==== Proof.MoeStep.lean ====
/- A step of the experts' kernel adds its two experts' weighted outputs. -/
module

public import proofs.«01_k».proof.Proof.MoeOut
public import Idealize.ShloMosaic.Lib.Pointwise
public import Idealize.ShloMosaic.Lib.WordCmp

@[expose] public section

set_option maxRecDepth 8192

noncomputable section

namespace Cert.Moe

open Cert.Kernel2Ideal Cert.Kernel2Ideal.Gen
open Idealize.ShloMosaic

theorem neg_one_f32 : Ideal.ofBits .f32 0xBF800000#32 = -1 := by
  simp [Ideal.ofBits, Ideal.ieee, -EReal.coe_mul]
  norm_num

theorem f32_159 : Ideal.ofBits .f32 0x431F0000#32 = ((159 : ℝ) : EReal) := by
  simp [Ideal.ofBits, Ideal.ieee, -EReal.coe_mul]
  norm_num

theorem pay16_at (v w : FVec Ideal S1x1024 .f32) (r : Fin 1024) :
    k0_pay16 (F := Ideal) v w (ix2 0 r) = if 0 < v (ix2 0 r) then w (ix2 0 r) else -1 := by
  pointwise [k0_pay16, k0_pay15]
  rw [neg_one_f32]

theorem pay23_at (v w : FVec Ideal S1x1024 .f32) (r : Fin 1024) :
    k0_pay23 (F := Ideal) v w (ix2 0 r) = if 0 < v (ix2 0 r) then w (ix2 0 r) else -1 := pay16_at v w r

theorem pay17_eq (v : FVec Ideal S1x1024 .f32) :
    k0_pay17 (F := Ideal) v = ((∑ r : Fin 1024, if 0 < v (ix2 0 r) then 1 else 0) + ((159 : ℝ) : EReal)) * ((160⁻¹ : ℝ) : EReal) := by
  pointwise [k0_pay17, k0_pay15]
  rw [f32_159, named_slot, Fin.sum_univ_one]

theorem pay24_eq (v : FVec Ideal S1x1024 .f32) :
    k0_pay24 (F := Ideal) v = ((∑ r : Fin 1024, if 0 < v (ix2 0 r) then 1 else 0) + ((159 : ℝ) : EReal)) * ((160⁻¹ : ℝ) : EReal) := pay17_eq v

theorem lane1 : ∀ (e : Fin 8) (x : Fin 16), IntOp.cmpi .eq (BitVec.ofNat 32 x.val) (Scalar.addi (Scalar.muli (BitVec.ofNat 32 e.val) 2#32) 0#32)
    = if x.val = 2 * e.val then 1#1 else 0#1 := by decide +kernel

theorem lane2 : ∀ (e : Fin 8) (x : Fin 16), IntOp.cmpi .eq (BitVec.ofNat 32 x.val) (Scalar.addi (Scalar.muli (BitVec.ofNat 32 e.val) 2#32) 1#32)
    = if x.val = 2 * e.val + 1 then 1#1 else 0#1 := by decide +kernel

theorem pay19_at (i : grid0.Coords) (v : FVec Ideal S1024x16 .f32) (r : Fin 1024) (e : Fin 16) (he : e.val = 2 * (i 1).val) :
    k0_pay19 (F := Ideal) (k0_pay18 i v) (ix2 r 0) = v (ix2 r e) := by
  pointwise [k0_pay19, k0_pay18]
  refine (Finset.sum_eq_single e ?_ ?_).trans ?_
  · intro x _ hx
    rw [lane1 (i 1) x, if_neg (fun h => hx (Fin.ext (h.trans he.symm)))]
    rfl
  · intro h
    exact absurd (Finset.mem_univ _) h
  · rw [lane1 (i 1) e, if_pos he]
    rfl

theorem pay25_at (i : grid0.Coords) (v : FVec Ideal S1024x16 .f32) (r : Fin 1024) (e : Fin 16) (he : e.val = 2 * (i 1).val + 1) :
    k0_pay1 (F := Ideal) (k0_pay25 (BitVec.ofNat 32 (i 1).val) (iota .tc S1024x16 32 [1] iota_S1024x16_d1_w32) v) (ix2 r 0) = v (ix2 r e) := by
  pointwise [k0_pay1, k0_pay25]
  refine (Finset.sum_eq_single e ?_ ?_).trans ?_
  · intro x _ hx
    rw [lane2 (i 1) x, if_neg (fun h => hx (Fin.ext (h.trans he.symm)))]
    rfl
  · intro h
    exact absurd (Finset.mem_univ _) h
  · rw [lane2 (i 1) e, if_pos he]
    rfl

/-- The ranks the first step stores. -/
theorem pay11_at (v : FVec Ideal S16x1024 .f32) (w : FVec Ideal S1024x1024 .bf16)
    (hw : ∀ r' r : Fin 1024, w (ix2 r' r) = if r' < r then 1 else 0) (e : Fin 16) (r : Fin 1024) :
    k0_pay11 (F := Ideal) v w (ix2 e r) = ((rank (fun r => 0 < v (ix2 e r)) r : ℝ) : EReal) := by
  pointwise [k0_pay11]
  exact sum_rank (fun r => 0 < v (ix2 e r)) _ _ r (fun _ => rfl) (fun r' => hw r' r)

theorem off1 : ∀ i : Fin 8, (Scalar.indexCast (Scalar.addi (Scalar.muli (BitVec.ofNat 32 i.val) 2#32) 0#32)).toNat = 2 * i.val := by decide +kernel

theorem off2 : ∀ i : Fin 8, (Scalar.indexCast (Scalar.addi (Scalar.muli (BitVec.ofNat 32 i.val) 2#32) 1#32)).toNat = 2 * i.val + 1 := by decide +kernel

theorem row1_at (i : grid0.Coords) (x : FVec Ideal S16x1024 .f32) (r : Fin 1024) (e : Fin 16) (he : e.val = 2 * (i 1).val) :
    row1 i x (ix2 0 r) = x (ix2 e r) := by
  unfold row1
  refine congrArg x (funext fun a => Fin.ext ?_)
  match a with
  | ⟨0, _⟩ =>
    show (Scalar.indexCast (Scalar.addi (Scalar.muli (BitVec.ofNat 32 (i 1).val) 2#32) 0#32)).toNat + 1 * 0 = e.val
    rw [off1 (i 1), he]
    omega
  | ⟨1, _⟩ =>
    show 0 + 1 * r.val = r.val
    omega

theorem row2_at (i : grid0.Coords) (x : FVec Ideal S16x1024 .f32) (r : Fin 1024) (e : Fin 16) (he : e.val = 2 * (i 1).val + 1) :
    row2 i x (ix2 0 r) = x (ix2 e r) := by
  unfold row2
  refine congrArg x (funext fun a => Fin.ext ?_)
  match a with
  | ⟨0, _⟩ =>
    show (Scalar.indexCast (Scalar.addi (Scalar.muli (BitVec.ofNat 32 (i 1).val) 2#32) 1#32)).toNat + 1 * 0 = e.val
    rw [off2 (i 1), he]
  | ⟨1, _⟩ =>
    show 0 + 1 * r.val = r.val
    omega

theorem trips_small : ∀ n : Fin 8, (k0_t1_loop (BitVec.ofNat 32 n.val)).trips = n.val := by decide +kernel

/-- How many blocks the loop makes. -/
theorem blocks_count (P : Fin 1024 → Prop) [DecidablePred P] :
    Ideal.fptosi 32 ((((∑ r : Fin 1024, if P r then 1 else 0) + ((159 : ℝ) : EReal)) * ((160⁻¹ : ℝ) : EReal) : EReal))
      = BitVec.ofNat 32 ((count P + 159) / 160) := by
  rw [sum_count P _ (fun _ => rfl)]
  rw [← EReal.coe_add, ← EReal.coe_mul]
  show BitVec.ofInt 32 (Ideal.toIntClamped _ _ (((count P : ℝ) + 159) * 160⁻¹ : ℝ)) = _
  rw [Ideal.toIntClamped_coe, if_pos (by positivity)]
  have hf : ⌊(((count P : ℝ) + 159) * 160⁻¹ : ℝ)⌋ = (((count P + 159) / 160 : ℕ) : ℤ) := by
    rw [← div_eq_mul_inv]
    rw [Int.floor_eq_iff]
    have hd := Nat.div_add_mod (count P + 159) 160
    have hm := Nat.mod_lt (count P + 159) (show 0 < 160 by norm_num)
    have hd' : (160 : ℝ) * (((count P + 159) / 160 : ℕ) : ℝ) + (((count P + 159) % 160 : ℕ) : ℝ) = (count P : ℝ) + 159 := by exact_mod_cast hd
    have hm' : (((count P + 159) % 160 : ℕ) : ℝ) < 160 := by exact_mod_cast hm
    have h0 : (0 : ℝ) ≤ (((count P + 159) % 160 : ℕ) : ℝ) := by positivity
    constructor
    · rw [le_div_iff₀ (by norm_num)]
      rw [Int.cast_natCast]
      linarith
    · rw [div_lt_iff₀ (by norm_num)]
      rw [Int.cast_natCast]
      linarith
  rw [hf]
  have hc := count_le P
  have h7 : (count P + 159) / 160 ≤ 7 := by omega
  rw [min_eq_right (by norm_num; omega), max_eq_right (by norm_num; omega)]
  rfl

theorem loop_count (P : Fin 1024 → Prop) [DecidablePred P] :
    (k0_t1_loop (Ideal.fptosi 32 ((((∑ r : Fin 1024, if P r then 1 else 0) + ((159 : ℝ) : EReal)) * ((160⁻¹ : ℝ) : EReal) : EReal)))).trips
      = (count P + 159) / 160 := by
  rw [blocks_count]
  have hc := count_le P
  exact trips_small ⟨(count P + 159) / 160, by omega⟩

/-- The blocks of a loop add the weighted expert, whatever the weight. -/
theorem loop_at (slot : FVec Ideal S1x1024 .f32) (cc : FVec Ideal S1024x1 .f32)
    (xb : FVec Ideal S1024x1024 .bf16) (wg wu : FVec Ideal S1x1024x512 .bf16) (wd : FVec Ideal S1x512x1024 .bf16)
    (w : Fin 1024 → EReal) (h0 : ∀ r, 0 ≤ w r)
    (hs : ∀ r, slot (ix2 0 r) = if 0 < w r then ((rank (fun r => 0 < w r) r : ℝ) : EReal) else -1)
    (hcc : ∀ r, cc (ix2 r 0) = w r) (acc : FVec Ideal S1024x1024 .f32) (n : ℕ) (hn : n = (count (fun r => 0 < w r) + 159) / 160) (r j : Fin 1024) :
    blocks slot cc xb wg wu wd acc n (ix2 r j) = acc (ix2 r j) + w r *
      expert (fun d => xb (ix2 r d)) (fun d n => wg (ix3 0 d n)) (fun d n => wu (ix3 0 d n)) (fun n j => wd (ix3 0 n j)) j := by
  have hc := count_le (fun r => 0 < w r)
  rw [blocks_at slot cc xb wg wu wd (fun r => 0 < w r) (rank fun r => 0 < w r) hs (fun r r' => rank_inj (fun r => 0 < w r) r r') acc n (by omega) r j, hcc]
  by_cases h : 0 < w r
  · rw [if_pos ⟨h, by have := rank_lt_count (fun r => 0 < w r) r h; omega⟩]
  · rw [if_neg (fun h' => h h'.1), le_antisymm (not_lt.mp h) (h0 r), zero_mul, zero_mul]

section
variable (i : grid0.Coords) (x1 : FVec Ideal S16x1024 .f32) (x2 : FVec Ideal S1024x16 .f32) (x4 x5 : FVec Ideal S2x1024x512 .bf16)
  (x6 : FVec Ideal S2x512x1024 .bf16) (acc : FVec Ideal S1024x1024 .f32) (xb : FVec Ideal S1024x1024 .bf16) (rk : FVec Ideal S16x1024 .f32)
  (h0 : ∀ e r, 0 ≤ x1 (ix2 e r)) (h2 : ∀ (e : Fin 16) (r : Fin 1024), x2 (ix2 r e) = x1 (ix2 e r))
  (hrk : ∀ (e : Fin 16) (r : Fin 1024), rk (ix2 e r) = ((rank (fun r => 0 < x1 (ix2 e r)) r : ℝ) : EReal))

include h0 h2 hrk in
theorem half1_at (e : Fin 16) (he : e.val = 2 * (i 1).val) (r j : Fin 1024) :
    half1 i x1 x2 x4 x5 x6 acc xb rk (ix2 r j) = acc (ix2 r j) + x1 (ix2 e r) *
      expert (fun d => xb (ix2 r d)) (fun d n => x4 (ix3 0 d n)) (fun d n => x5 (ix3 0 d n)) (fun n j => x6 (ix3 0 n j)) j := by
  unfold half1
  refine (loop_at _ _ xb _ _ _ (fun r => x1 (ix2 e r)) (h0 e) ?_ ?_ acc _ ?_ r j).trans ?_
  · intro r
    rw [pay16_at, row1_at i x1 r e he, row1_at i rk r e he, hrk]
  · intro r
    exact (pay19_at i x2 r e he).trans (h2 e r)
  · rw [pay17_eq]
    simp only [row1_at i x1 _ e he]
    exact loop_count (fun r => 0 < x1 (ix2 e r))
  · have e4 : ∀ (x : FVec Ideal S2x1024x512 .bf16) d n, in1 x (ix3 0 d n) = x (ix3 0 d n) := by
      intro x d n
      unfold in1
      pointwise []
    have e6 : ∀ n j, dn1 x6 (ix3 0 n j) = x6 (ix3 0 n j) := by
      intro n j
      unfold dn1
      pointwise []
    simp only [e4, e6]

include h0 h2 hrk in
theorem half2_at (e : Fin 16) (he : e.val = 2 * (i 1).val + 1) (r j : Fin 1024) :
    half2 i x1 x2 x4 x5 x6 acc xb rk (ix2 r j) = acc (ix2 r j) + x1 (ix2 e r) *
      expert (fun d => xb (ix2 r d)) (fun d n => x4 (ix3 1 d n)) (fun d n => x5 (ix3 1 d n)) (fun n j => x6 (ix3 1 n j)) j := by
  unfold half2
  refine (loop_at _ _ xb _ _ _ (fun r => x1 (ix2 e r)) (h0 e) ?_ ?_ acc _ ?_ r j).trans ?_
  · intro r
    rw [pay23_at, row2_at i x1 r e he, row2_at i rk r e he, hrk]
  · intro r
    exact (pay25_at i x2 r e he).trans (h2 e r)
  · rw [pay24_eq]
    simp only [row2_at i x1 _ e he]
    exact loop_count (fun r => 0 < x1 (ix2 e r))
  · have e4 : ∀ (x : FVec Ideal S2x1024x512 .bf16) d n, in2 x (ix3 0 d n) = x (ix3 1 d n) := by
      intro x d n
      unfold in2
      pointwise []
    have e6 : ∀ n j, dn2 x6 (ix3 0 n j) = x6 (ix3 1 n j) := by
      intro n j
      unfold dn2
      pointwise []
    simp only [e4, e6]

include h0 h2 hrk in
/-- A step adds its two experts' weighted outputs. -/
theorem stepE_at (e e' : Fin 16) (he : e.val = 2 * (i 1).val) (he' : e'.val = 2 * (i 1).val + 1) (r j : Fin 1024) :
    stepE i x1 x2 x4 x5 x6 acc xb rk (ix2 r j) = acc (ix2 r j)
      + x1 (ix2 e r) * expert (fun d => xb (ix2 r d)) (fun d n => x4 (ix3 0 d n)) (fun d n => x5 (ix3 0 d n)) (fun n j => x6 (ix3 0 n j)) j
      + x1 (ix2 e' r) * expert (fun d => xb (ix2 r d)) (fun d n => x4 (ix3 1 d n)) (fun d n => x5 (ix3 1 d n)) (fun n j => x6 (ix3 1 n j)) j := by
  unfold stepE
  rw [half2_at i x1 x2 x4 x5 x6 _ xb rk h0 h2 hrk e' he' r j, half1_at i x1 x2 x4 x5 x6 acc xb rk h0 h2 hrk e he r j]

end

end Cert.Moe

end
-- ==== Proof.MoeBlocks.lean ====
/- What the blocks of the experts' operands hold, entry by entry, of the arguments. -/
module

public import proofs.«01_k».proof.Proof.MoeStep
public import proofs.«01_k».proof.Proof.MoeIdeal.Value
public import Idealize.ShloMosaic.Lib.Pipeline.ValueKit
public import Idealize.ShloMosaic.Lib.Claim
public import Idealize.ShloMosaic.Lib.Pointwise

@[expose] public section

set_option maxRecDepth 8192

noncomputable section

namespace Cert.Moe

open Cert.Kernel2Ideal Cert.Kernel2Ideal.Gen Cert.Kernel2Ideal.Moe
open Idealize.ShloMosaic Idealize.ShloMosaic.TcCoe
open Idealize.SL.Sem

theorem idx0 : ∀ t : Fin cfg0.N, win0_0.index t = ![(grid0.coords t 0).val, 0] :=
  (by decide +kernel : ∀ t : Fin grid0.N, _)
theorem idx1 : ∀ t : Fin cfg0.N, win0_1.index t = ![0, (grid0.coords t 0).val] :=
  (by decide +kernel : ∀ t : Fin grid0.N, _)
theorem idx2 : ∀ t : Fin cfg0.N, win0_2.index t = ![(grid0.coords t 0).val, 0] :=
  (by decide +kernel : ∀ t : Fin grid0.N, _)
theorem idx3 : ∀ t : Fin cfg0.N, win0_3.index t = ![0, 0] :=
  (by decide +kernel : ∀ t : Fin grid0.N, _)
theorem idx4 : ∀ t : Fin cfg0.N, win0_4.index t = ![(grid0.coords t 1).val, 0, 0] :=
  (by decide +kernel : ∀ t : Fin grid0.N, _)
theorem idx5 : ∀ t : Fin cfg0.N, win0_5.index t = ![(grid0.coords t 1).val, 0, 0] :=
  (by decide +kernel : ∀ t : Fin grid0.N, _)
theorem idx6 : ∀ t : Fin cfg0.N, win0_6.index t = ![(grid0.coords t 1).val, 0, 0] :=
  (by decide +kernel : ∀ t : Fin grid0.N, _)
theorem idx7 : ∀ t : Fin cfg0.N, win0_7.index t = ![0, 0] :=
  (by decide +kernel : ∀ t : Fin grid0.N, _)
theorem idx8 : ∀ t : Fin cfg0.N, win0_8.index t = ![0, 0] :=
  (by decide +kernel : ∀ t : Fin grid0.N, _)
theorem coord0 : ∀ t : Fin cfg0.N, (grid0.coords t 0).val = t.val / 8 :=
  (by decide +kernel : ∀ t : Fin grid0.N, _)
theorem coord1 : ∀ t : Fin cfg0.N, (grid0.coords t 1).val = t.val % 8 :=
  (by decide +kernel : ∀ t : Fin grid0.N, _)

variable (m : (ℓ : Loc nD τ sig) → Buf (Elt Ideal) ℓ) (c : Dev nD) (t : Fin cfg0.N)

/-- The row of the arguments that a block's row is. -/
def rowOf (t : Fin cfg0.N) (r : Fin 1024) : Fin 16384 :=
  ⟨(grid0.coords t 0).val * 1024 + r.val, by have : (grid0.coords t 0).val < 16 := (grid0.coords t 0).isLt; omega⟩

/-- The expert that a step's expert is. -/
def exOf (t : Fin cfg0.N) (l : Fin 2) : Fin 16 :=
  ⟨(grid0.coords t 1).val * 2 + l.val, by have : (grid0.coords t 1).val < 8 := (grid0.coords t 1).isLt; omega⟩

theorem blk0_at (r d : Fin 1024) :
    iblk m c 0 t (ix2 r d) = m ((c : Thread nD τ).loc main_arg0) (ix2 (rowOf t r) d) := by
  blk_simp [iblk, idx0 t]
  entry_read
  pointwise []
  blk_ext [idx0 t]
  rfl

theorem blk1_at (e : Fin 16) (r : Fin 1024) :
    iblk m c 1 t (ix2 e r) = m ((c : Thread nD τ).loc main_arg1) (ix2 (rowOf t r) e) := by
  blk_simp [iblk, idx1 t]
  entry_read
  pointwise []
  blk_ext [idx1 t]
  rfl

theorem blk2_at (r : Fin 1024) (e : Fin 16) :
    iblk m c 2 t (ix2 r e) = m ((c : Thread nD τ).loc main_arg1) (ix2 (rowOf t r) e) := by
  blk_simp [iblk, idx2 t]
  entry_read
  pointwise []
  blk_ext [idx2 t]
  rfl

theorem blk4_at (l : Fin 2) (d : Fin 1024) (n : Fin 512) :
    iblk m c 4 t (ix3 l d n) = m ((c : Thread nD τ).loc main_arg2) (ix3 (exOf t l) d n) := by
  blk_simp [iblk, idx4 t]
  entry_read
  pointwise []
  blk_ext [idx4 t]
  rfl

theorem blk5_at (l : Fin 2) (d : Fin 1024) (n : Fin 512) :
    iblk m c 5 t (ix3 l d n) = m ((c : Thread nD τ).loc main_arg3) (ix3 (exOf t l) d n) := by
  blk_simp [iblk, idx5 t]
  entry_read
  pointwise []
  blk_ext [idx5 t]
  rfl

theorem blk6_at (l : Fin 2) (n : Fin 512) (d : Fin 1024) :
    iblk m c 6 t (ix3 l n d) = m ((c : Thread nD τ).loc main_arg4) (ix3 (exOf t l) n d) := by
  blk_simp [iblk, idx6 t]
  entry_read
  pointwise []
  blk_ext [idx6 t]
  rfl

theorem blk7_at (j : Fin 1024) :
    iblk m c 7 t (ix2 0 j) = m ((c : Thread nD τ).loc main_arg5) (ix1 j) := by
  blk_simp [iblk, idx7 t]
  entry_read
  pointwise []
  blk_ext [idx7 t]

theorem blk8_at (j : Fin 1024) :
    iblk m c 8 t (ix2 0 j) = m ((c : Thread nD τ).loc main_arg6) (ix1 j) := by
  blk_simp [iblk, idx8 t]
  entry_read
  pointwise []
  blk_ext [idx8 t]

theorem emb3 (r' r : Fin 1024) : ((win0_3.blk t).view.emb (ix2 r' r) 0).val = r'.val ∧ ((win0_3.blk t).view.emb (ix2 r' r) 1).val = r.val := by
  constructor
  · blk_simp [idx3 t]
  · blk_simp [idx3 t]

theorem blk3_at (r' r : Fin 1024) : iblk m c 3 t (ix2 r' r) = ((if r' < r then 1 else 0 : EReal) : Ideal .bf16) := by
  blk_simp [iblk, idx3 t]
  entry_read
  pointwise []
  have h := emb3 t r' r
  erw [h.1, h.2]
  rw [WordCmp.cmpi_slt_ofNat (by have := r'.isLt; omega) (by have := r.isLt; omega)]
  by_cases hrs : r' < r
  · simp [hrs, FloatOps.uitofp]
  · simp [hrs, FloatOps.uitofp]

/-- A row after the residual, centred, scaled and shifted. -/
def norm (z : Fin 1024 → EReal) (g b : EReal) (j : Fin 1024) : EReal :=
  (z j - Ideal.div (∑ x, z x) (Ideal.ofBits .f32 0x44800000#32)) *
    Ideal.rsqrt (Ideal.div (∑ x, (z x - Ideal.div (∑ x, z x) (Ideal.ofBits .f32 0x44800000#32)) *
      (z x - Ideal.div (∑ x, z x) (Ideal.ofBits .f32 0x44800000#32))) (Ideal.ofBits .f32 0x44800000#32) + Ideal.ofBits .f32 0x3727C5AC#32) * g + b

theorem pay4_at (x0 y : FVec Ideal S1024x1024 .f32) (g b : FVec Ideal S1x1024 .f32) (r j : Fin 1024) :
    k0_pay4 (F := Ideal) x0 y g b (ix2 r j)
      = norm (fun d => Ideal.ofBits .f32 0x3FB504F3#32 * x0 (ix2 r d) + y (ix2 r d)) (g (ix2 0 j)) (b (ix2 0 j)) j := by
  pointwise [k0_pay4]
  rfl

end Cert.Moe

end
-- ==== Proof.MoeFold.lean ====
/- The experts' kernel result, entry by entry. -/
module

public import proofs.«01_k».proof.Proof.MoeBlocks

@[expose] public section

set_option maxRecDepth 8192

noncomputable section

namespace Cert.Moe

open Cert.Kernel2Ideal Cert.Kernel2Ideal.Gen Cert.Kernel2Ideal.Moe
open Idealize.ShloMosaic Idealize.ShloMosaic.TcCoe
open Idealize.SL.Sem

section
variable (X : FVec Ideal S16384x1024 .f32) (W : FVec Ideal S16384x16 .f32) (wg wu : FVec Ideal S16x1024x512 .f32)
  (wd : FVec Ideal S16x512x1024 .f32)

/-- Expert `e`'s weighted output on a token. -/
def term (R : Fin 16384) (j : Fin 1024) (e : Fin 16) : EReal :=
  W (ix2 R e) * expert (fun d => X (ix2 R d)) (fun d n => wg (ix3 e d n)) (fun d n => wu (ix3 e d n)) (fun n j => wd (ix3 e n j)) j

/-- The first `n` experts' weighted outputs, in order. -/
def mix (R : Fin 16384) (j : Fin 1024) : ℕ → EReal
  | 0 => 0
  | n + 1 => mix R j n + (if h : n < 16 then term X W wg wu wd R j ⟨n, h⟩ else 0)

theorem mix_succ (R : Fin 16384) (j : Fin 1024) (e : Fin 16) (n : ℕ) (h : n = e.val) :
    mix X W wg wu wd R j (n + 1) = mix X W wg wu wd R j n + term X W wg wu wd R j e := by
  subst h
  show _ + (if h : e.val < 16 then _ else _) = _
  rw [dif_pos e.isLt]

/-- The experts' layer: the residual and the weighted outputs under the norm. -/
def layer (g b : FVec Ideal S1024 .f32) : FVec Ideal S16384x1024 .f32 := fun i =>
  norm (fun d => Ideal.ofBits .f32 0x3FB504F3#32 * X (ix2 (i 0) d) + mix X W wg wu wd (i 0) d 16) (g (ix1 (i 1))) (b (ix1 (i 1))) (i 1)

end

theorem pay9_at (i : S1024x1024.Idx) : (k0_pay9 (F := Ideal) : FVec Ideal S1024x1024 .f32) i = 0 := by
  show Ideal.ofBits .f32 0x00000000#32 = 0
  exact Ideal.ofBits_zero_f32

theorem pay10_at (x : FVec Ideal S1024x1024 .f32) (r d : Fin 1024) : (k0_pay10 (F := Ideal) x : FVec Ideal S1024x1024 .bf16) (ix2 r d) = x (ix2 r d) := by
  pointwise [k0_pay10]

variable (m : (ℓ : Loc nD τ sig) → Buf (Elt Ideal) ℓ) (c : Dev nD)

abbrev aX : FVec Ideal S16384x1024 .f32 := m ((c : Thread nD τ).loc main_arg0)
abbrev aW : FVec Ideal S16384x16 .f32 := m ((c : Thread nD τ).loc main_arg1)
abbrev aG : FVec Ideal S16x1024x512 .f32 := m ((c : Thread nD τ).loc main_arg2)
abbrev aU : FVec Ideal S16x1024x512 .f32 := m ((c : Thread nD τ).loc main_arg3)
abbrev aD : FVec Ideal S16x512x1024 .f32 := m ((c : Thread nD τ).loc main_arg4)

/-- The kernel's result. -/
def result : FVec Ideal S16384x1024 .f32 :=
  layer (aX m c) (aW m c) (aG m c) (aU m c) (aD m c) (m ((c : Thread nD τ).loc main_arg5)) (m ((c : Thread nD τ).loc main_arg6))

/-- What the scratch buffers hold after a step. -/
structure Held (t : Fin cfg0.N) (acc : FVec Ideal S1024x1024 .f32) (xb : FVec Ideal S1024x1024 .bf16) (rk : FVec Ideal S16x1024 .f32) (n : ℕ) : Prop where
  acc r j : acc (ix2 r j) = mix (aX m c) (aW m c) (aG m c) (aU m c) (aD m c) (rowOf t r) j n
  xb r d : xb (ix2 r d) = aX m c (ix2 (rowOf t r) d)
  rk e r : rk (ix2 e r) = ((rank (fun r => 0 < aW m c (ix2 (rowOf t r) e)) r : ℝ) : EReal)

section
variable (h0 : ∀ R e, 0 ≤ aW m c (ix2 R e))

include h0 in
/-- A step adds two experts. -/
theorem stepE_mix (t : Fin cfg0.N) (acc : FVec Ideal S1024x1024 .f32) (xb : FVec Ideal S1024x1024 .bf16) (rk : FVec Ideal S16x1024 .f32)
    (H : Held m c t acc xb rk (2 * (t.val % 8))) (r j : Fin 1024) :
    stepE (grid0.coords t) (iblk m c 1 t) (iblk m c 2 t) (iblk m c 4 t) (iblk m c 5 t) (iblk m c 6 t) acc xb rk (ix2 r j)
      = mix (aX m c) (aW m c) (aG m c) (aU m c) (aD m c) (rowOf t r) j (2 * (t.val % 8) + 2) := by
  have h8 : (grid0.coords t 1).val < 8 := (grid0.coords t 1).isLt
  have hc := coord1 t
  refine (stepE_at (grid0.coords t) (iblk m c 1 t) (iblk m c 2 t) (iblk m c 4 t) (iblk m c 5 t) (iblk m c 6 t) acc xb rk
    (fun e r => le_of_le_of_eq (h0 (rowOf t r) e) (blk1_at m c t e r).symm)
    (fun e r => (blk2_at m c t r e).trans (blk1_at m c t e r).symm)
    (fun e r => (H.rk e r).trans (by simp only [blk1_at m c t])) (exOf t 0) (exOf t 1)
    (by show (grid0.coords t 1).val * 2 + 0 = _; omega) (by show (grid0.coords t 1).val * 2 + 1 = _; omega) r j).trans ?_
  rw [mix_succ _ _ _ _ _ _ _ (exOf t 1) _ (by show _ = (grid0.coords t 1).val * 2 + 1; omega),
    mix_succ _ _ _ _ _ _ _ (exOf t 0) _ (by show _ = (grid0.coords t 1).val * 2 + 0; omega), H.acc]
  unfold term
  simp only [blk1_at m c t, blk4_at m c t, blk5_at m c t, blk6_at m c t, H.xb]

/-- Steps of one tile have its rows. -/
theorem rowOf_pred (t u : Fin cfg0.N) (h : u.val = t.val - 1) (h0 : ¬t.val % 8 = 0) : rowOf u = rowOf t := by
  funext r
  apply Fin.ext
  show (grid0.coords u 0).val * 1024 + r.val = (grid0.coords t 0).val * 1024 + r.val
  rw [coord0, coord0, show u.val / 8 = t.val / 8 by omega]

include h0 in
/-- The scratch buffers after the first step of a tile. -/
theorem held_first (t : Fin cfg0.N) (g0 : t.val % 8 = 0) (g1 : ¬t.val % 8 = 7) :
    Held m c t (outsAt0 m c t.val t.isLt).2.1 (outsAt0 m c t.val t.isLt).2.2.1 (outsAt0 m c t.val t.isLt).2.2.2 (2 * (t.val % 8) + 2) := by
  rw [outsAt0_A m c t g0 g1]
  dsimp only
  have H : Held m c t (k0_pay9 (F := Ideal)) (k0_pay10 (F := Ideal) (iblk m c 0 t)) (k0_pay11 (F := Ideal) (iblk m c 1 t) (iblk m c 3 t)) (2 * (t.val % 8)) := by
    refine ⟨fun r j => ?_, fun r d => ?_, fun e r => ?_⟩
    · rw [g0]
      exact pay9_at _
    · exact (pay10_at _ r d).trans (blk0_at m c t r d)
    · refine (pay11_at _ _ (fun r' r => blk3_at m c t r' r) e r).trans ?_
      simp only [blk1_at m c t]
  refine ⟨fun r j => ?_, fun r d => ?_, fun e r => ?_⟩
  · exact (congrFun (outA _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)) _).trans (stepE_mix m c h0 t _ _ _ H r j)
  · exact (congrFun (outA1 _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)) _).trans (H.xb r d)
  · exact (congrFun (outA2 _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)) _).trans (H.rk e r)

/-- What a step leaves the next step of its tile finds. -/
theorem held_next (t u : Fin cfg0.N) (h : u.val = t.val - 1) (g0 : ¬t.val % 8 = 0) (acc : FVec Ideal S1024x1024 .f32) (xb : FVec Ideal S1024x1024 .bf16)
    (rk : FVec Ideal S16x1024 .f32) (H : Held m c u acc xb rk (2 * (u.val % 8) + 2)) : Held m c t acc xb rk (2 * (t.val % 8)) := by
  have hr := rowOf_pred t u h g0
  rw [show 2 * (u.val % 8) + 2 = 2 * (t.val % 8) by omega] at H
  exact ⟨fun r j => hr ▸ H.acc r j, fun r d => hr ▸ H.xb r d, fun e r => hr ▸ H.rk e r⟩

include h0 in
/-- The scratch buffers after each step but the last of a tile. -/
theorem held (n : ℕ) : ∀ (t : Fin cfg0.N), t.val = n → ¬t.val % 8 = 7 →
    Held m c t (outsAt0 m c t.val t.isLt).2.1 (outsAt0 m c t.val t.isLt).2.2.1 (outsAt0 m c t.val t.isLt).2.2.2 (2 * (t.val % 8) + 2) := by
  induction n with
  | zero =>
    intro t ht g1
    exact held_first m c h0 t (by omega) g1
  | succ n ih =>
    intro t ht g1
    by_cases g0 : t.val % 8 = 0
    · exact held_first m c h0 t g0 g1
    · have ht' : t.val - 1 < cfg0.N := Nat.lt_of_le_of_lt (Nat.sub_le _ _) t.isLt
      have H := held_next m c t ⟨t.val - 1, ht'⟩ rfl g0 _ _ _ (ih ⟨t.val - 1, ht'⟩ (by show t.val - 1 = n; omega) (by show ¬(t.val - 1) % 8 = 7; omega))
      rw [outsAt0_B m c t g0 g1]
      dsimp only
      refine ⟨fun r j => ?_, fun r d => ?_, fun e r => ?_⟩
      · exact (congrFun (outB _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ _) _).trans (stepE_mix m c h0 t _ _ _ H r j)
      · exact H.xb r d
      · exact H.rk e r

include h0 in
/-- The output block of a tile's last step. -/
theorem outs2_at (t : Fin cfg0.N) (g1 : t.val % 8 = 7) (r j : Fin 1024) :
    ((outsAt0 m c t.val t.isLt).1 : FVec Ideal S1024x1024 .f32) (ix2 r j) = result m c (ix2 (rowOf t r) j) := by
  have g0 : ¬t.val % 8 = 0 := by omega
  have ht' : t.val - 1 < cfg0.N := Nat.lt_of_le_of_lt (Nat.sub_le _ _) t.isLt
  have H := held_next m c t ⟨t.val - 1, ht'⟩ rfl g0 _ _ _ (held m c h0 _ ⟨t.val - 1, ht'⟩ rfl (by show ¬(t.val - 1) % 8 = 7; omega))
  rw [outsAt0_C m c t g0 g1]
  dsimp only
  refine (congrFun (outC _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ _) _).trans ?_
  refine (pay4_at (iblk m c 0 t) _ (iblk m c 7 t) (iblk m c 8 t) r j).trans ?_
  have hs : ∀ d, _ := fun d => stepE_mix m c h0 t _ _ _ H r d
  simp only [hs, blk0_at m c t, blk7_at m c t, blk8_at m c t, g1]
  rfl

end

theorem idx9 : ∀ t : Fin cfg0.N, win0_9.index t = ![(grid0.coords t 0).val, 0] :=
  (by decide +kernel : ∀ t : Fin grid0.N, _)

theorem emb9 (t : Fin cfg0.N) (r j : Fin 1024) : (win0_9.blk t).view.emb (ix2 r j) = (ix2 (rowOf t r) j : S16384x1024.Idx) := by
  blk_ext [idx9 t]
  rfl

/-- The kernel's result array after the run. -/
theorem final (h0 : ∀ R e, 0 ≤ aW m c (ix2 R e)) : (dats m 0 c).arrAt 9 cfg0.N = result m c := by
  refine (dats m 0 c).arrAt_eq_of_covers 9 _ (by decide +kernel) fun t hf y => ?_
  blk_simp
  rw [after0_9]
  have hy : y = ix2 (y 0) (y 1) := funext fun a => by
    match a with
    | ⟨0, _⟩ => rfl
    | ⟨1, _⟩ => rfl
  rw [hy]
  exact (outs2_at m c h0 t ((flush0_9 t).mp hf) (y 0) (y 1)).trans (congrArg (result m c) (emb9 t (y 0) (y 1))).symm

end Cert.Moe

end
-- ==== Proof.MoeRef.lean ====
/- The experts' reference, entry by entry. -/
module

public import proofs.«01_k».proof.Proof.MoeFold
public import proofs.«01_k».proof.Proof.Gen.Reference2Ideal.Run
public import Idealize.ShloMosaic.Lib.Pointwise

@[expose] public section

set_option maxRecDepth 8192

noncomputable section

namespace Cert.Moe

open Cert.Reference2Ideal Cert.Reference2Ideal.Gen Idealize.ShloMosaic Idealize.ShloMosaic.TcCoe

/-- One expert's weighted output, as the reference computes it from the expert's slices. -/
def refTerm (x : FVec Ideal S16384x1024 .f32) (cs : FVec Ideal S16384x1 .f32) (gs us : FVec Ideal S1x1024x512 .f32) (ds : FVec Ideal S1x512x1024 .f32) :
    FVec Ideal S16384x1024 .f32 :=
  mulf (broadcastInDim S16384x1024 ![0, 1] bcast_S16384x1_S16384x1024_0_1 cs)
    (Host.dotGeneral dot_S16384x512_S512x1024_S16384x1024_1_0_0_1_n_n none
      (mulf (mulf (Host.dotGeneral dot_S16384x1024_S1024x512_S16384x512_1_0_0_1_n_n none x (shapeCast _ gs shapeCasts_S1x1024x512_S1024x512))
          (Host.divf (broadcastInDim S16384x512 ![] bcast_S_S16384x512 (constant S_ .f32 0x3F800000#32))
            (addf (broadcastInDim S16384x512 ![] bcast_S_S16384x512 (constant S_ .f32 0x3F800000#32))
              (Host.exp (Host.negf (Host.dotGeneral dot_S16384x1024_S1024x512_S16384x512_1_0_0_1_n_n none x (shapeCast _ gs shapeCasts_S1x1024x512_S1024x512)))))))
        (Host.dotGeneral dot_S16384x1024_S1024x512_S16384x512_1_0_0_1_n_n none x (shapeCast _ us shapeCasts_S1x1024x512_S1024x512)))
      (shapeCast _ ds shapeCasts_S1x512x1024_S512x1024))

theorem refTerm_at (x : FVec Ideal S16384x1024 .f32) (cs : FVec Ideal S16384x1 .f32) (gs us : FVec Ideal S1x1024x512 .f32) (ds : FVec Ideal S1x512x1024 .f32)
    (R : Fin 16384) (j : Fin 1024) :
    refTerm x cs gs us ds (ix2 R j)
      = cs (ix2 R 0) * expert (fun d => x (ix2 R d)) (fun d n => gs (ix3 0 d n)) (fun d n => us (ix3 0 d n)) (fun n j => ds (ix3 0 n j)) j := by
  pointwise [refTerm]
  unfold expert
  rfl

theorem sliceC_at (e : Fin 16) (off : Fin 2 → ℕ) (ho : off = ![0, e.val]) (h) (w : FVec Ideal S16384x16 .f32) (R : Fin 16384) :
    extractStridedSlice S16384x1 off w h (ix2 R 0) = w (ix2 R e) := by
  subst ho
  refine congrArg w (funext fun a => Fin.ext ?_)
  match a with
  | ⟨0, _⟩ => exact Nat.zero_add _
  | ⟨1, _⟩ => exact Nat.add_zero _

theorem sliceG_at (e : Fin 16) (off : Fin 3 → ℕ) (ho : off = ![e.val, 0, 0]) (h) (w : FVec Ideal S16x1024x512 .f32) (d : Fin 1024) (n : Fin 512) :
    extractStridedSlice S1x1024x512 off w h (ix3 0 d n) = w (ix3 e d n) := by
  subst ho
  refine congrArg w (funext fun a => Fin.ext ?_)
  match a with
  | ⟨0, _⟩ => exact Nat.add_zero _
  | ⟨1, _⟩ => exact Nat.zero_add _
  | ⟨2, _⟩ => exact Nat.zero_add _

theorem sliceD_at (e : Fin 16) (off : Fin 3 → ℕ) (ho : off = ![e.val, 0, 0]) (h) (w : FVec Ideal S16x512x1024 .f32) (n : Fin 512) (d : Fin 1024) :
    extractStridedSlice S1x512x1024 off w h (ix3 0 n d) = w (ix3 e n d) := by
  subst ho
  refine congrArg w (funext fun a => Fin.ext ?_)
  match a with
  | ⟨0, _⟩ => exact Nat.add_zero _
  | ⟨1, _⟩ => exact Nat.zero_add _
  | ⟨2, _⟩ => exact Nat.zero_add _

/-- The reference's slices of one expert. -/
theorem refTerm_slices (e : Fin 16) (oc : Fin 2 → ℕ) (og : Fin 3 → ℕ) (hoc : oc = ![0, e.val]) (hog : og = ![e.val, 0, 0]) (h1 h2 h3)
    (x : FVec Ideal S16384x1024 .f32) (w : FVec Ideal S16384x16 .f32) (g u : FVec Ideal S16x1024x512 .f32) (d : FVec Ideal S16x512x1024 .f32)
    (R : Fin 16384) (j : Fin 1024) :
    refTerm x (extractStridedSlice S16384x1 oc w h1) (extractStridedSlice S1x1024x512 og g h2) (extractStridedSlice S1x1024x512 og u h2)
      (extractStridedSlice S1x512x1024 og d h3) (ix2 R j) = term x w g u d R j e := by
  rw [refTerm_at]
  unfold term
  simp only [sliceC_at e oc hoc h1, sliceG_at e og hog h2, sliceD_at e og hog h3]

section
variable (V : Valuation τ sig (Elt Ideal))

abbrev X : FVec Ideal S16384x1024 .f32 := V (Proc.devRef .tc main_arg0)
abbrev W : FVec Ideal S16384x16 .f32 := V (Proc.devRef .tc main_arg1)
abbrev G : FVec Ideal S16x1024x512 .f32 := V (Proc.devRef .tc main_arg2)
abbrev U : FVec Ideal S16x1024x512 .f32 := V (Proc.devRef .tc main_arg3)
abbrev D : FVec Ideal S16x512x1024 .f32 := V (Proc.devRef .tc main_arg4)

theorem v75_eq : (Value.res_main_v75 V : FVec Ideal S16384x1024 .f32) = addf (addf (addf (addf (addf (broadcastInDim S16384x1024 ![] bcast_S_S16384x1024 (constant S_ .f32 0x00000000#32))
    (refTerm (X V) (extractStridedSlice S16384x1 ![0, 0] (W V) slices_S16384x16_S16384x1_0_0) (extractStridedSlice S1x1024x512 ![0, 0, 0] (G V) slices_S16x1024x512_S1x1024x512_0_0_0) (extractStridedSlice S1x1024x512 ![0, 0, 0] (U V) slices_S16x1024x512_S1x1024x512_0_0_0) (extractStridedSlice S1x512x1024 ![0, 0, 0] (D V) slices_S16x512x1024_S1x512x1024_0_0_0)))
    (refTerm (X V) (extractStridedSlice S16384x1 ![0, 1] (W V) slices_S16384x16_S16384x1_0_1) (extractStridedSlice S1x1024x512 ![1, 0, 0] (G V) slices_S16x1024x512_S1x1024x512_1_0_0) (extractStridedSlice S1x1024x512 ![1, 0, 0] (U V) slices_S16x1024x512_S1x1024x512_1_0_0) (extractStridedSlice S1x512x1024 ![1, 0, 0] (D V) slices_S16x512x1024_S1x512x1024_1_0_0)))
    (refTerm (X V) (extractStridedSlice S16384x1 ![0, 2] (W V) slices_S16384x16_S16384x1_0_2) (extractStridedSlice S1x1024x512 ![2, 0, 0] (G V) slices_S16x1024x512_S1x1024x512_2_0_0) (extractStridedSlice S1x1024x512 ![2, 0, 0] (U V) slices_S16x1024x512_S1x1024x512_2_0_0) (extractStridedSlice S1x512x1024 ![2, 0, 0] (D V) slices_S16x512x1024_S1x512x1024_2_0_0)))
    (refTerm (X V) (extractStridedSlice S16384x1 ![0, 3] (W V) slices_S16384x16_S16384x1_0_3) (extractStridedSlice S1x1024x512 ![3, 0, 0] (G V) slices_S16x1024x512_S1x1024x512_3_0_0) (extractStridedSlice S1x1024x512 ![3, 0, 0] (U V) slices_S16x1024x512_S1x1024x512_3_0_0) (extractStridedSlice S1x512x1024 ![3, 0, 0] (D V) slices_S16x512x1024_S1x512x1024_3_0_0)))
    (refTerm (X V) (extractStridedSlice S16384x1 ![0, 4] (W V) slices_S16384x16_S16384x1_0_4) (extractStridedSlice S1x1024x512 ![4, 0, 0] (G V) slices_S16x1024x512_S1x1024x512_4_0_0) (extractStridedSlice S1x1024x512 ![4, 0, 0] (U V) slices_S16x1024x512_S1x1024x512_4_0_0) (extractStridedSlice S1x512x1024 ![4, 0, 0] (D V) slices_S16x512x1024_S1x512x1024_4_0_0)) := rfl

theorem v75_at (R : Fin 16384) (j : Fin 1024) : (Value.res_main_v75 V : FVec Ideal S16384x1024 .f32) (ix2 R j) = mix (X V) (W V) (G V) (U V) (D V) R j 5 := by
  rw [v75_eq]
  refine Eq.trans (congrArg₂ (· + ·) ?_ (refTerm_slices 4 _ _ rfl rfl _ _ _ (X V) (W V) (G V) (U V) (D V) R j)) (mix_succ _ _ _ _ _ R j 4 4 rfl).symm
  refine Eq.trans (congrArg₂ (· + ·) ?_ (refTerm_slices 3 _ _ rfl rfl _ _ _ (X V) (W V) (G V) (U V) (D V) R j)) (mix_succ _ _ _ _ _ R j 3 3 rfl).symm
  refine Eq.trans (congrArg₂ (· + ·) ?_ (refTerm_slices 2 _ _ rfl rfl _ _ _ (X V) (W V) (G V) (U V) (D V) R j)) (mix_succ _ _ _ _ _ R j 2 2 rfl).symm
  refine Eq.trans (congrArg₂ (· + ·) ?_ (refTerm_slices 1 _ _ rfl rfl _ _ _ (X V) (W V) (G V) (U V) (D V) R j)) (mix_succ _ _ _ _ _ R j 1 1 rfl).symm
  refine Eq.trans (congrArg₂ (· + ·) ?_ (refTerm_slices 0 _ _ rfl rfl _ _ _ (X V) (W V) (G V) (U V) (D V) R j)) (mix_succ _ _ _ _ _ R j 0 0 rfl).symm
  exact Ideal.ofBits_zero_f32

theorem v150_eq : (Value.res_main_v150 V : FVec Ideal S16384x1024 .f32) = addf (addf (addf (addf (addf (Value.res_main_v75 V)
    (refTerm (X V) (extractStridedSlice S16384x1 ![0, 5] (W V) slices_S16384x16_S16384x1_0_5) (extractStridedSlice S1x1024x512 ![5, 0, 0] (G V) slices_S16x1024x512_S1x1024x512_5_0_0) (extractStridedSlice S1x1024x512 ![5, 0, 0] (U V) slices_S16x1024x512_S1x1024x512_5_0_0) (extractStridedSlice S1x512x1024 ![5, 0, 0] (D V) slices_S16x512x1024_S1x512x1024_5_0_0)))
    (refTerm (X V) (extractStridedSlice S16384x1 ![0, 6] (W V) slices_S16384x16_S16384x1_0_6) (extractStridedSlice S1x1024x512 ![6, 0, 0] (G V) slices_S16x1024x512_S1x1024x512_6_0_0) (extractStridedSlice S1x1024x512 ![6, 0, 0] (U V) slices_S16x1024x512_S1x1024x512_6_0_0) (extractStridedSlice S1x512x1024 ![6, 0, 0] (D V) slices_S16x512x1024_S1x512x1024_6_0_0)))
    (refTerm (X V) (extractStridedSlice S16384x1 ![0, 7] (W V) slices_S16384x16_S16384x1_0_7) (extractStridedSlice S1x1024x512 ![7, 0, 0] (G V) slices_S16x1024x512_S1x1024x512_7_0_0) (extractStridedSlice S1x1024x512 ![7, 0, 0] (U V) slices_S16x1024x512_S1x1024x512_7_0_0) (extractStridedSlice S1x512x1024 ![7, 0, 0] (D V) slices_S16x512x1024_S1x512x1024_7_0_0)))
    (refTerm (X V) (extractStridedSlice S16384x1 ![0, 8] (W V) slices_S16384x16_S16384x1_0_8) (extractStridedSlice S1x1024x512 ![8, 0, 0] (G V) slices_S16x1024x512_S1x1024x512_8_0_0) (extractStridedSlice S1x1024x512 ![8, 0, 0] (U V) slices_S16x1024x512_S1x1024x512_8_0_0) (extractStridedSlice S1x512x1024 ![8, 0, 0] (D V) slices_S16x512x1024_S1x512x1024_8_0_0)))
    (refTerm (X V) (extractStridedSlice S16384x1 ![0, 9] (W V) slices_S16384x16_S16384x1_0_9) (extractStridedSlice S1x1024x512 ![9, 0, 0] (G V) slices_S16x1024x512_S1x1024x512_9_0_0) (extractStridedSlice S1x1024x512 ![9, 0, 0] (U V) slices_S16x1024x512_S1x1024x512_9_0_0) (extractStridedSlice S1x512x1024 ![9, 0, 0] (D V) slices_S16x512x1024_S1x512x1024_9_0_0)) := rfl

theorem v150_at (R : Fin 16384) (j : Fin 1024) : (Value.res_main_v150 V : FVec Ideal S16384x1024 .f32) (ix2 R j) = mix (X V) (W V) (G V) (U V) (D V) R j 10 := by
  rw [v150_eq]
  refine Eq.trans (congrArg₂ (· + ·) ?_ (refTerm_slices 9 _ _ rfl rfl _ _ _ (X V) (W V) (G V) (U V) (D V) R j)) (mix_succ _ _ _ _ _ R j 9 9 rfl).symm
  refine Eq.trans (congrArg₂ (· + ·) ?_ (refTerm_slices 8 _ _ rfl rfl _ _ _ (X V) (W V) (G V) (U V) (D V) R j)) (mix_succ _ _ _ _ _ R j 8 8 rfl).symm
  refine Eq.trans (congrArg₂ (· + ·) ?_ (refTerm_slices 7 _ _ rfl rfl _ _ _ (X V) (W V) (G V) (U V) (D V) R j)) (mix_succ _ _ _ _ _ R j 7 7 rfl).symm
  refine Eq.trans (congrArg₂ (· + ·) ?_ (refTerm_slices 6 _ _ rfl rfl _ _ _ (X V) (W V) (G V) (U V) (D V) R j)) (mix_succ _ _ _ _ _ R j 6 6 rfl).symm
  refine Eq.trans (congrArg₂ (· + ·) ?_ (refTerm_slices 5 _ _ rfl rfl _ _ _ (X V) (W V) (G V) (U V) (D V) R j)) (mix_succ _ _ _ _ _ R j 5 5 rfl).symm
  exact v75_at V R j

theorem v225_eq : (Value.res_main_v225 V : FVec Ideal S16384x1024 .f32) = addf (addf (addf (addf (addf (Value.res_main_v150 V)
    (refTerm (X V) (extractStridedSlice S16384x1 ![0, 10] (W V) slices_S16384x16_S16384x1_0_10) (extractStridedSlice S1x1024x512 ![10, 0, 0] (G V) slices_S16x1024x512_S1x1024x512_10_0_0) (extractStridedSlice S1x1024x512 ![10, 0, 0] (U V) slices_S16x1024x512_S1x1024x512_10_0_0) (extractStridedSlice S1x512x1024 ![10, 0, 0] (D V) slices_S16x512x1024_S1x512x1024_10_0_0)))
    (refTerm (X V) (extractStridedSlice S16384x1 ![0, 11] (W V) slices_S16384x16_S16384x1_0_11) (extractStridedSlice S1x1024x512 ![11, 0, 0] (G V) slices_S16x1024x512_S1x1024x512_11_0_0) (extractStridedSlice S1x1024x512 ![11, 0, 0] (U V) slices_S16x1024x512_S1x1024x512_11_0_0) (extractStridedSlice S1x512x1024 ![11, 0, 0] (D V) slices_S16x512x1024_S1x512x1024_11_0_0)))
    (refTerm (X V) (extractStridedSlice S16384x1 ![0, 12] (W V) slices_S16384x16_S16384x1_0_12) (extractStridedSlice S1x1024x512 ![12, 0, 0] (G V) slices_S16x1024x512_S1x1024x512_12_0_0) (extractStridedSlice S1x1024x512 ![12, 0, 0] (U V) slices_S16x1024x512_S1x1024x512_12_0_0) (extractStridedSlice S1x512x1024 ![12, 0, 0] (D V) slices_S16x512x1024_S1x512x1024_12_0_0)))
    (refTerm (X V) (extractStridedSlice S16384x1 ![0, 13] (W V) slices_S16384x16_S16384x1_0_13) (extractStridedSlice S1x1024x512 ![13, 0, 0] (G V) slices_S16x1024x512_S1x1024x512_13_0_0) (extractStridedSlice S1x1024x512 ![13, 0, 0] (U V) slices_S16x1024x512_S1x1024x512_13_0_0) (extractStridedSlice S1x512x1024 ![13, 0, 0] (D V) slices_S16x512x1024_S1x512x1024_13_0_0)))
    (refTerm (X V) (extractStridedSlice S16384x1 ![0, 14] (W V) slices_S16384x16_S16384x1_0_14) (extractStridedSlice S1x1024x512 ![14, 0, 0] (G V) slices_S16x1024x512_S1x1024x512_14_0_0) (extractStridedSlice S1x1024x512 ![14, 0, 0] (U V) slices_S16x1024x512_S1x1024x512_14_0_0) (extractStridedSlice S1x512x1024 ![14, 0, 0] (D V) slices_S16x512x1024_S1x512x1024_14_0_0)) := rfl

theorem v225_at (R : Fin 16384) (j : Fin 1024) : (Value.res_main_v225 V : FVec Ideal S16384x1024 .f32) (ix2 R j) = mix (X V) (W V) (G V) (U V) (D V) R j 15 := by
  rw [v225_eq]
  refine Eq.trans (congrArg₂ (· + ·) ?_ (refTerm_slices 14 _ _ rfl rfl _ _ _ (X V) (W V) (G V) (U V) (D V) R j)) (mix_succ _ _ _ _ _ R j 14 14 rfl).symm
  refine Eq.trans (congrArg₂ (· + ·) ?_ (refTerm_slices 13 _ _ rfl rfl _ _ _ (X V) (W V) (G V) (U V) (D V) R j)) (mix_succ _ _ _ _ _ R j 13 13 rfl).symm
  refine Eq.trans (congrArg₂ (· + ·) ?_ (refTerm_slices 12 _ _ rfl rfl _ _ _ (X V) (W V) (G V) (U V) (D V) R j)) (mix_succ _ _ _ _ _ R j 12 12 rfl).symm
  refine Eq.trans (congrArg₂ (· + ·) ?_ (refTerm_slices 11 _ _ rfl rfl _ _ _ (X V) (W V) (G V) (U V) (D V) R j)) (mix_succ _ _ _ _ _ R j 11 11 rfl).symm
  refine Eq.trans (congrArg₂ (· + ·) ?_ (refTerm_slices 10 _ _ rfl rfl _ _ _ (X V) (W V) (G V) (U V) (D V) R j)) (mix_succ _ _ _ _ _ R j 10 10 rfl).symm
  exact v150_at V R j

theorem v243_eq : (Value.res_main_v243 V : FVec Ideal S16384x1024 .f32) = addf (mulf (broadcastInDim S16384x1024 ![] bcast_S_S16384x1024 (constant S_ .f32 0x3FB504F3#32)) (X V))
    (addf (Value.res_main_v225 V) (refTerm (X V) (extractStridedSlice S16384x1 ![0, 15] (W V) slices_S16384x16_S16384x1_0_15) (extractStridedSlice S1x1024x512 ![15, 0, 0] (G V) slices_S16x1024x512_S1x1024x512_15_0_0) (extractStridedSlice S1x1024x512 ![15, 0, 0] (U V) slices_S16x1024x512_S1x1024x512_15_0_0) (extractStridedSlice S1x512x1024 ![15, 0, 0] (D V) slices_S16x512x1024_S1x512x1024_15_0_0))) := rfl

theorem v243_at (R : Fin 16384) (j : Fin 1024) : (Value.res_main_v243 V : FVec Ideal S16384x1024 .f32) (ix2 R j)
    = Ideal.ofBits .f32 0x3FB504F3#32 * X V (ix2 R j) + mix (X V) (W V) (G V) (U V) (D V) R j 16 := by
  rw [v243_eq]
  refine congrArg₂ (· + ·) rfl ?_
  refine Eq.trans (congrArg₂ (· + ·) ?_ (refTerm_slices 15 _ _ rfl rfl _ _ _ (X V) (W V) (G V) (U V) (D V) R j)) (mix_succ _ _ _ _ _ R j 15 15 rfl).symm
  exact v225_at V R j

end

def refMean (z : FVec Ideal S16384x1024 .f32) : FVec Ideal S16384x1 .f32 :=
  Host.divf (broadcastInDim S16384x1 ![0] bcast_S16384_S16384x1_0 (Host.reduceAdd z (constant S_ .f32 0x00000000#32) reducesTo_S16384x1024_S16384_d1 h_S_))
    (broadcastInDim S16384x1 ![] bcast_S_S16384x1 (constant S_ .f32 0x44800000#32))

def refDev (z : FVec Ideal S16384x1024 .f32) : FVec Ideal S16384x1024 .f32 :=
  subf z (broadcastInDim S16384x1024 ![0, 1] bcast_S16384x1_S16384x1024_0_1 (refMean z))

/-- The reference's norm of an array. -/
def refNorm (z : FVec Ideal S16384x1024 .f32) (g b : FVec Ideal S1024 .f32) : FVec Ideal S16384x1024 .f32 :=
  addf (mulf (mulf (refDev z)
    (broadcastInDim S16384x1024 ![0, 1] bcast_S16384x1_S16384x1024_0_1 (Host.rsqrt (addf (refMean (mulf (refDev z) (refDev z)))
      (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 b))

theorem refNorm_at (z : FVec Ideal S16384x1024 .f32) (g b : FVec Ideal S1024 .f32) (R : Fin 16384) (j : Fin 1024) :
    refNorm z g b (ix2 R j) = norm (fun d => z (ix2 R d)) (g (ix1 j)) (b (ix1 j)) j := by
  pointwise [refNorm, refDev, refMean]
  unfold norm
  rfl

/-- The reference's result. -/
theorem ref_layer (V : Valuation τ sig (Elt Ideal)) (g b : FVec Ideal S1024 .f32) :
    refNorm (Value.res_main_v243 V) g b = layer (X V) (W V) (G V) (U V) (D V) g b := by
  funext i
  have hi : i = ix2 (i 0) (i 1) := funext fun a => by
    match a with
    | ⟨0, _⟩ => rfl
    | ⟨1, _⟩ => rfl
  refine (congrArg (refNorm (Value.res_main_v243 V) g b) hi).trans ((refNorm_at _ g b _ _).trans ?_)
  exact congrArg (fun f => norm f (g (ix1 (i 1))) (b (ix1 (i 1))) (i 1)) (funext fun d => v243_at V (i 0) d)

end Cert.Moe

end
-- ==== Proof.MoeEqual.lean ====
/- The experts' kernel's result is the reference's. -/
module

public import proofs.«01_k».proof.Defs
public import proofs.«01_k».proof.Proof.MoeRef
public import proofs.«01_k».proof.Pre_routed
public import proofs.«01_k».proof.Proof.Gen.Pre_routed
public import Idealize.ShloMosaic.PureOps.Ideal.Laws
public import Idealize.ShloMosaic.Lib.ReduceAll

@[expose] public section

set_option maxRecDepth 8192

noncomputable section

namespace Cert.Moe

open Idealize.ShloMosaic Idealize.ShloMosaic.TcCoe
open Idealize.SL.Sem

theorem nonneg_of_cmp (x : EReal) (h : Ideal.cmp .oge x (Ideal.ofBits .f32 0x00000000#32) = 1#1) : 0 ≤ x := by
  rw [Ideal.ofBits_zero_f32] at h
  by_contra hx
  simp [Ideal.cmp, hx] at h

section
open Cert.Pre_routed Cert.Pre_routed.Gen

instance : Subsingleton (Shape.Idx S_) := ⟨fun a b => funext fun i => i.elim0⟩

/-- The precondition, entry by entry. -/
theorem routed_nonneg (x : FVec Ideal S16384x1024 .f32) (w : FVec Ideal S16384x16 .f32) (g u : FVec Ideal S16x1024x512 .f32) (d : FVec Ideal S16x512x1024 .f32)
    (lg lb : FVec Ideal S1024 .f32) (h : Cert.Pre_routed.fn (F := Ideal) x w g u d lg lb = fun _ => 1#1) (i : S16384x16.Idx) : 0 ≤ w i :=
  nonneg_of_cmp (w i) (Host.reduce_andi_all _ _ _ _ (Shape.Idx.first h_S_) (congrFun h _) i)

end

/-- Where no token's weight is negative both programs end with the same result. -/
theorem algebraic : Cert.algebraic_Kernel2Ideal_Reference2Ideal_pre_routed := by
  intro m g m' g' hpre hag
  refine ⟨fun c => result m c, ?_, ?_⟩
  · refine (θ_run Cert.Kernel2Ideal.defs _ _).mono (fun r h c => ⟨(h c).1.trans ?_, (h c).2⟩) (Cert.Kernel2Ideal.Moe.Value.run_blocks (F := Ideal) m g)
    exact final m c fun R e => routed_nonneg _ _ _ _ _ _ _ (hpre c) (ix2 R e)
  · refine (θ_run Cert.Reference2Ideal.defs _ _).mono (fun r h c => ⟨(h c).1.trans ?_, (h c).2⟩) (Cert.Reference2Ideal.Value.run (F := Ideal) m' g')
    obtain ⟨e0, e1, e2, e3, e4, e5, e6⟩ := hag c
    refine (ref_layer (StableHlo.launchContents m' c) (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6))).trans ?_
    show layer (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6)) = _
    rw [e0, e1, e2, e3, e4, e5, e6]
    rfl

end Cert.Moe

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.MoeBits.Frame
public import proofs.«01_k».proof.Proof.Gen.Kernel2Ideal
public import proofs.«01_k».proof.Proof.MoeIdeal.Frame
public import proofs.«01_k».proof.Proof.MoeIdeal.Value
public import proofs.«01_k».proof.Proof.Gen.Reference2Ideal
public import proofs.«01_k».proof.Proof.Gen.Reference2Ideal.Run
public import proofs.«01_k».proof.Proof.Gen.Pre_routed
public import proofs.«01_k».proof.Proof.Equal
public import proofs.«01_k».proof.Proof.MoeEqual
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments unchanged and has no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two named constants denote the reals the certificate gives them. -/
theorem preserves : Cert.preserves_Kernel_KernelIdeal :=
  ⟨IdealRules.named_const.statement Cert.KernelIdeal.κ "qscale" .f32 0x3E38AA3B#32 (((Real.log 2)⁻¹ * 8⁻¹ : ℝ) : EReal) rfl,
   IdealRules.named_const.statement Cert.KernelIdeal.κ "log2e" .f32 0x3FB8AA3B#32 (((Real.log 2)⁻¹ : ℝ) : EReal) rfl⟩

/-- The experts' reference likewise. -/
theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The named constant of the experts' kernel denotes the real the certificate gives it. -/
theorem preserves2 : Cert.preserves_Kernel2_Kernel2Ideal :=
  IdealRules.named_const.statement Cert.Kernel2Ideal.κ "slot" .f32 0x3BCCCCCD#32 ((160⁻¹ : ℝ) : EReal) rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Pre_finite.Gen.facts, Cert.Pre_routed.Gen.facts,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial,
    fun m ρ _ => Cert.Kernel2.Moe.frame m ρ, fun m ρ _ => Cert.Kernel2Ideal.Moe.frame m ρ, fun m ρ _ => Cert.Kernel2Ideal.Moe.frame m ρ,
    frame_ri2, fun m ρ _ => frame_ri2 m ρ trivial,
    preserves, Cert.Stick.algebraic, preserves2, Cert.Moe.algebraic⟩

end Cert.Proof

end
